-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_on_codebook_where_finite [hKernelIdeal : Cert.KernelIdeal.Facts] [hReferenceIdeal : Cert.ReferenceIdeal.Facts] [hOn_codebook_where_finite : Cert.On_codebook_where_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v10)) (v4 : (c : Dev Cert.KernelIdeal.nD) → Buf (Elt Ideal) ((c.tc : Thread Cert.KernelIdeal.nD Cert.KernelIdeal.τ).loc Cert.KernelIdeal.main_v11)) (v5 : (c : Dev Cert.KernelIdeal.nD) → Buf (Elt Ideal) ((c.tc : Thread Cert.KernelIdeal.nD Cert.KernelIdeal.τ).loc Cert.KernelIdeal.main_v12)) (v6 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![8, 128, 64]⟩ : Shape).Idx, (Cert.On_codebook_where_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.KernelIdeal.nD Cert.KernelIdeal.τ).loc Cert.KernelIdeal.main_v6) i = v0 c i)
          ∧ (∀ i : (⟨3, ![8, 128, 64]⟩ : Shape).Idx, (Cert.On_codebook_where_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.KernelIdeal.nD Cert.KernelIdeal.τ).loc Cert.KernelIdeal.main_v8) i = v1 c i)
          ∧ (∀ i : (⟨2, ![8192, 64]⟩ : Shape).Idx, (Cert.On_codebook_where_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 i = 1#1 → r.2.mem ((c.tc : Thread Cert.KernelIdeal.nD Cert.KernelIdeal.τ).loc Cert.KernelIdeal.main_v9) i = v2 c i)
          ∧ (∀ i : (⟨0, ![]⟩ : Shape).Idx, (Cert.On_codebook_where_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 i = 1#1 → r.2.mem ((c.tc : Thread Cert.KernelIdeal.nD Cert.KernelIdeal.τ).loc Cert.KernelIdeal.main_v10) i = v3 c i)
          ∧ (∀ i : (⟨0, ![]⟩ : Shape).Idx, (Cert.On_codebook_where_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 i = 1#1 → r.2.mem ((c.tc : Thread Cert.KernelIdeal.nD Cert.KernelIdeal.τ).loc Cert.KernelIdeal.main_v11) i = v4 c i)
          ∧ (∀ i : (⟨0, ![]⟩ : Shape).Idx, (Cert.On_codebook_where_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.1 i = 1#1 → r.2.mem ((c.tc : Thread Cert.KernelIdeal.nD Cert.KernelIdeal.τ).loc Cert.KernelIdeal.main_v12) i = v5 c i)
          ∧ (∀ i : (⟨0, ![]⟩ : Shape).Idx, (Cert.On_codebook_where_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.2 i = 1#1 → r.2.mem ((c.tc : Thread Cert.KernelIdeal.nD Cert.KernelIdeal.τ).loc Cert.KernelIdeal.main_v13) i = v6 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![8, 128, 64]⟩ : Shape).Idx, (Cert.On_codebook_where_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.ReferenceIdeal.nD Cert.ReferenceIdeal.τ).loc Cert.ReferenceIdeal.main_v162) i = v0 c i)
          ∧ (∀ i : (⟨3, ![8, 128, 64]⟩ : Shape).Idx, (Cert.On_codebook_where_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.ReferenceIdeal.nD Cert.ReferenceIdeal.τ).loc Cert.ReferenceIdeal.main_v172) i = v1 c i)
          ∧ (∀ i : (⟨2, ![8192, 64]⟩ : Shape).Idx, (Cert.On_codebook_where_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 i = 1#1 → r.2.mem ((c.tc : Thread Cert.ReferenceIdeal.nD Cert.ReferenceIdeal.τ).loc Cert.ReferenceIdeal.main_v242) i = v2 c i)
          ∧ (∀ i : (⟨0, ![]⟩ : Shape).Idx, (Cert.On_codebook_where_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 i = 1#1 → r.2.mem ((c.tc : Thread Cert.ReferenceIdeal.nD Cert.ReferenceIdeal.τ).loc Cert.ReferenceIdeal.main_v140) i = v3 c i)
          ∧ (∀ i : (⟨0, ![]⟩ : Shape).Idx, (Cert.On_codebook_where_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 i = 1#1 → r.2.mem ((c.tc : Thread Cert.ReferenceIdeal.nD Cert.ReferenceIdeal.τ).loc Cert.ReferenceIdeal.main_v141) i = v4 c i)
          ∧ (∀ i : (⟨0, ![]⟩ : Shape).Idx, (Cert.On_codebook_where_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.1 i = 1#1 → r.2.mem ((c.tc : Thread Cert.ReferenceIdeal.nD Cert.ReferenceIdeal.τ).loc Cert.ReferenceIdeal.main_v142) i = v5 c i)
          ∧ (∀ i : (⟨0, ![]⟩ : Shape).Idx, (Cert.On_codebook_where_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.2 i = 1#1 → r.2.mem ((c.tc : Thread Cert.ReferenceIdeal.nD Cert.ReferenceIdeal.τ).loc Cert.ReferenceIdeal.main_v183) i = v6 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hOn_codebook_where_finite : Cert.On_codebook_where_finite.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_codebook_where_finite (hKernelIdeal := hKernelIdeal) (hReferenceIdeal := hReferenceIdeal) (hOn_codebook_where_finite := hOn_codebook_where_finite)
-- ==== On_codebook_where_finite.lean ====
abbrev S8x128x64 : Shape := ⟨3, ![8, 128, 64]⟩
abbrev S8192x64 : Shape := ⟨2, ![8192, 64]⟩
abbrev S8192 : Shape := ⟨1, ![8192]⟩
abbrev S_ : Shape := ⟨0, ![]⟩

class Facts : Prop where
  bcast_S_S8x128x64 : S_.BroadcastsInDim S8x128x64 (![] : Fin 0 → Fin S8x128x64.rank)
  reducesTo_S8x128x64_S_d0_1_2 : S8x128x64.ReducesTo [0, 1, 2] S_
  h_S_ : 0 < S_.numel
  bcast_S_S8192x64 : S_.BroadcastsInDim S8192x64 (![] : Fin 0 → Fin S8192x64.rank)
  reducesTo_S8192x64_S_d0_1 : S8192x64.ReducesTo [0, 1] S_

variable [Facts]

def fn_part1 {F : FTy → Type} [FloatOps F] (main_v14 : IVec S8x128x64 1) (main_v15 : IVec S8192x64 1) (main_c_5 : IVec S_ 1) : IVec S8x128x64 1 × IVec S8x128x64 1 × IVec S8192x64 1 × IVec S_ 1 × IVec S_ 1 × IVec S_ 1 × IVec S_ 1 :=
  let main_c_6 : IVec S_ 1 := constantI S_ 1 1#1
  let main_c_7 : IVec S_ 1 := constantI S_ 1 1#1
  let main_c_8 : IVec S_ 1 := constantI S_ 1 1#1
  (main_v14, main_v14, main_v15, main_c_5, main_c_6, main_c_7, main_c_8)

def fn {F : FTy → Type} [FloatOps F] (main_arg0 : FVec F S8x128x64 .f32) (main_arg1 : FVec F S8x128x64 .f32) (main_arg2 : FVec F S8192x64 .f32) (main_arg3 : FVec F S8192 .f32) (main_arg4 : FVec F S8192x64 .f32) (main_arg5 : IVec S_ 32) : IVec S8x128x64 1 × IVec S8x128x64 1 × IVec S8192x64 1 × IVec S_ 1 × IVec S_ 1 × IVec S_ 1 × IVec S_ 1 :=
  let main_v0 : FVec F S8x128x64 .f32 := Host.absf main_arg0
  let main_cst : FVec F S_ .f32 := constant S_ .f32 0x7F800000#32
  let main_v1 : FVec F S8x128x64 .f32 := broadcastInDim S8x128x64 ![] bcast_S_S8x128x64 main_cst
  let main_v2 : IVec S8x128x64 1 := cmpf .olt main_v0 main_v1
  let main_c : IVec S_ 1 := constantI S_ 1 1#1
  let main_v3 : IVec S_ 1 := (fun x v => Host.reduce IntOp.andi x v reducesTo_S8x128x64_S_d0_1_2 h_S_) main_v2 main_c
  let main_v4 : FVec F S8x128x64 .f32 := Host.absf main_arg1
  let main_cst_0 : FVec F S_ .f32 := constant S_ .f32 0x7F800000#32
  let main_v5 : FVec F S8x128x64 .f32 := broadcastInDim S8x128x64 ![] bcast_S_S8x128x64 main_cst_0
  let main_v6 : IVec S8x128x64 1 := cmpf .olt main_v4 main_v5
  let main_c_1 : IVec S_ 1 := constantI S_ 1 1#1
  let main_v7 : IVec S_ 1 := (fun x v => Host.reduce IntOp.andi x v reducesTo_S8x128x64_S_d0_1_2 h_S_) main_v6 main_c_1
  let main_v8 : IVec S_ 1 := andi main_v3 main_v7
  let main_v9 : FVec F S8192x64 .f32 := Host.absf main_arg2
  let main_cst_2 : FVec F S_ .f32 := constant S_ .f32 0x7F800000#32
  let main_v10 : FVec F S8192x64 .f32 := broadcastInDim S8192x64 ![] bcast_S_S8192x64 main_cst_2
  let main_v11 : IVec S8192x64 1 := cmpf .olt main_v9 main_v10
  let main_c_3 : IVec S_ 1 := constantI S_ 1 1#1
  let main_v12 : IVec S_ 1 := (fun x v => Host.reduce IntOp.andi x v reducesTo_S8192x64_S_d0_1 h_S_) main_v11 main_c_3
  let main_v13 : IVec S_ 1 := andi main_v8 main_v12
  let main_c_4 : IVec S_ 1 := constantI S_ 1 1#1
  let main_v14 : IVec S8x128x64 1 := broadcastInDim S8x128x64 ![] bcast_S_S8x128x64 main_c_4
  let main_v15 : IVec S8192x64 1 := broadcastInDim S8192x64 ![] bcast_S_S8192x64 main_v13
  let main_c_5 : IVec S_ 1 := constantI S_ 1 1#1
  fn_part1 (F := F) main_v14 main_v15 main_c_5
-- ==== Kernel.lean ====
abbrev S8x128x64 : Shape := ⟨3, ![8, 128, 64]⟩
abbrev S8192x64 : Shape := ⟨2, ![8192, 64]⟩
abbrev S8192 : Shape := ⟨1, ![8192]⟩
abbrev S_ : Shape := ⟨0, ![]⟩
abbrev S64x8192 : Shape := ⟨2, ![64, 8192]⟩
abbrev S1x8192 : Shape := ⟨2, ![1, 8192]⟩
abbrev S2x8x128x64 : Shape := ⟨4, ![2, 8, 128, 64]⟩
abbrev S1x1 : Shape := ⟨2, ![1, 1]⟩
abbrev S1x128x64 : Shape := ⟨3, ![1, 128, 64]⟩
abbrev S1x1x128x64 : Shape := ⟨4, ![1, 1, 128, 64]⟩
abbrev S2x8192 : Shape := ⟨2, ![2, 8192]⟩
abbrev S128x8192 : Shape := ⟨2, ![128, 8192]⟩
abbrev S16x8192 : Shape := ⟨2, ![16, 8192]⟩
abbrev S2x1 : Shape := ⟨2, ![2, 1]⟩
abbrev S2x8 : Shape := ⟨2, ![2, 8]⟩
abbrev S128x64 : Shape := ⟨2, ![128, 64]⟩
abbrev S128 : Shape := ⟨1, ![128]⟩
abbrev S128x1 : Shape := ⟨2, ![128, 1]⟩
abbrev S8192x1 : Shape := ⟨2, ![8192, 1]⟩
abbrev S1x128 : Shape := ⟨2, ![1, 128]⟩
abbrev S1x1x8192 : Shape := ⟨3, ![1, 1, 8192]⟩
abbrev S1 : Shape := ⟨1, ![1]⟩
abbrev S1x1x1 : Shape := ⟨3, ![1, 1, 1]⟩
abbrev S128x66 : Shape := ⟨2, ![128, 66]⟩
abbrev S66x8192 : Shape := ⟨2, ![66, 8192]⟩
abbrev S8x8192 : Shape := ⟨2, ![8, 8192]⟩
abbrev S8x8 : Shape := ⟨2, ![8, 8]⟩
abbrev S1x8x8 : Shape := ⟨3, ![1, 8, 8]⟩
abbrev S8 : Shape := ⟨1, ![8]⟩
abbrev S8x1 : Shape := ⟨2, ![8, 1]⟩
abbrev S1x8x1 : Shape := ⟨3, ![1, 8, 1]⟩
abbrev S1x8x128x64 : Shape := ⟨4, ![1, 8, 128, 64]⟩

abbrev nBuf : Space → Nat
  | .hbm => 25
  | .vmem => 19
  | .smem => 2
  | _ => 0

abbrev bufTy : (tb : Table) → Fin (tcTables nBuf tb) → BufTy
  | .hbm, ⟨0, _⟩ => ⟨S8x128x64, .f32⟩
  | .hbm, ⟨1, _⟩ => ⟨S8x128x64, .f32⟩
  | .hbm, ⟨2, _⟩ => ⟨S8192x64, .f32⟩
  | .hbm, ⟨3, _⟩ => ⟨S8192, .f32⟩
  | .hbm, ⟨4, _⟩ => ⟨S8192x64, .f32⟩
  | .hbm, ⟨5, _⟩ => ⟨S_, .i32⟩
  | .hbm, ⟨6, _⟩ => ⟨S8192x64, .bf16⟩
  | .hbm, ⟨7, _⟩ => ⟨S64x8192, .f32⟩
  | .hbm, ⟨8, _⟩ => ⟨S1x8192, .f32⟩
  | .hbm, ⟨9, _⟩ => ⟨S64x8192, .f32⟩
  | .hbm, ⟨10, _⟩ => ⟨S2x8x128x64, .f32⟩
  | .hbm, ⟨11, _⟩ => ⟨S64x8192, .f32⟩
  | .hbm, ⟨12, _⟩ => ⟨S1x1, .f32⟩
  | .hbm, ⟨13, _⟩ => ⟨S1x1, .f32⟩
  | .hbm, ⟨14, _⟩ => ⟨S1x1, .f32⟩
  | .hbm, ⟨15, _⟩ => ⟨S1x1, .i32⟩
  | .hbm, ⟨16, _⟩ => ⟨S1x8x128x64, .f32⟩
  | .hbm, ⟨17, _⟩ => ⟨S8x128x64, .f32⟩
  | .hbm, ⟨18, _⟩ => ⟨S1x8x128x64, .f32⟩
  | .hbm, ⟨19, _⟩ => ⟨S8x128x64, .f32⟩
  | .hbm, ⟨20, _⟩ => ⟨S8192x64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .i32⟩
  | .local _ .vmem, ⟨0, _⟩ => ⟨S1x128x64, .f32⟩
  | .local _ .vmem, ⟨1, _⟩ => ⟨S1x128x64, .f32⟩
  | .local _ .vmem, ⟨2, _⟩ => ⟨S1x128x64, .f32⟩
  | .local _ .vmem, ⟨3, _⟩ => ⟨S1x128x64, .f32⟩
  | .local _ .vmem, ⟨4, _⟩ => ⟨S8192x64, .bf16⟩
  | .local _ .vmem, ⟨5, _⟩ => ⟨S64x8192, .f32⟩
  | .local _ .vmem, ⟨6, _⟩ => ⟨S1x8192, .f32⟩
  | .local _ .vmem, ⟨7, _⟩ => ⟨S64x8192, .f32⟩
  | .local _ .vmem, ⟨8, _⟩ => ⟨S1x1x128x64, .f32⟩
  | .local _ .vmem, ⟨9, _⟩ => ⟨S1x1x128x64, .f32⟩
  | .local _ .vmem, ⟨10, _⟩ => ⟨S64x8192, .f32⟩
  | .local _ .vmem, ⟨11, _⟩ => ⟨S1x1, .f32⟩
  | .local _ .vmem, ⟨12, _⟩ => ⟨S1x1, .f32⟩
  | .local _ .vmem, ⟨13, _⟩ => ⟨S1x1, .f32⟩
  | .local _ .vmem, ⟨14, _⟩ => ⟨S1x1, .i32⟩
  | .local _ .vmem, ⟨15, _⟩ => ⟨S2x8192, .f32⟩
  | .local _ .vmem, ⟨16, _⟩ => ⟨S128x8192, .f32⟩
  | .local _ .vmem, ⟨17, _⟩ => ⟨S16x8192, .f32⟩
  | .local _ .vmem, ⟨18, _⟩ => ⟨S1x8192, .f32⟩
  | .local _ .smem, ⟨0, _⟩ => ⟨S2x1, .f32⟩
  | .local _ .smem, ⟨1, _⟩ => ⟨S2x8, .i32⟩
  | _, _ => ⟨S8x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v4_5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch5 : Ref sig .tc := ⟨.vmem, 18, rfl⟩
abbrev cc0_scratch3 : Ref sig .tc := ⟨.smem, 0, rfl⟩
abbrev cc0_scratch4 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14

abbrev nD : Nat := 1
abbrev τ : Topo := Topo.v7x

variable {F : FTy → Type} [FloatOps F]

abbrev grid0 : Pipeline.Grid := ⟨2, ![2, 8], ![false, false]⟩

def k0_off1 (i : grid0.Coords) : Fin 2 → Nat :=
  let arg0 : BitVec 32 := BitVec.ofNat 32 (i 0).val
  let c8_i32 : BitVec 32 := 8#32
  let v65 : BitVec 32 := Scalar.muli arg0 c8_i32
  let arg1 : BitVec 32 := BitVec.ofNat 32 (i 1).val
  let v66 : BitVec 32 := Scalar.addi v65 arg1
  let v67 : Index := Scalar.indexCast v66
  let c0_30 : Index := 0#32
  ![v67.toNat, 0]
def k0_off2 (i : grid0.Coords) : Fin 2 → Nat :=
  let arg0 : BitVec 32 := BitVec.ofNat 32 (i 0).val
  let v74 : Index := Scalar.indexCast arg0
  let c0_31 : Index := 0#32
  ![v74.toNat, 0]
def k0_off3 (i : grid0.Coords) : Fin 2 → Nat :=
  let arg0 : BitVec 32 := BitVec.ofNat 32 (i 0).val
  let c64_i32 : BitVec 32 := 64#32
  let v101 : BitVec 32 := Scalar.muli arg0 c64_i32
  let v102 : Index := Scalar.indexCast v101
  let c0_44 : Index := 0#32
  ![v102.toNat, 0]
def k0_off4 (i : grid0.Coords) : Fin 2 → Nat :=
  let arg0 : BitVec 32 := BitVec.ofNat 32 (i 0).val
  let v110 : Index := Scalar.indexCast arg0
  let c0_46 : Index := 0#32
  ![v110.toNat, 0]
def k0_off5 (i : grid0.Coords) : Fin 2 → Nat :=
  let arg0 : BitVec 32 := BitVec.ofNat 32 (i 0).val
  let v132 : Index := Scalar.indexCast arg0
  let arg1 : BitVec 32 := BitVec.ofNat 32 (i 1).val
  let v133 : Index := Scalar.indexCast arg1
  ![v132.toNat, v133.toNat]
def k0_cond2 (i : grid0.Coords) : BitVec 1 :=
  let arg0 : BitVec 32 := BitVec.ofNat 32 (i 0).val
  let c1_i32 : BitVec 32 := 1#32
  let v135 : BitVec 1 := Scalar.cmpi .eq arg0 c1_i32
  let arg1 : BitVec 32 := BitVec.ofNat 32 (i 1).val
  let c7_i32 : BitVec 32 := 7#32
  let v136 : BitVec 1 := Scalar.cmpi .eq arg1 c7_i32
  let v137 : BitVec 1 := Scalar.andi v135 v136
  let v138 : BitVec 32 := Scalar.extui v137
  let c0_i32_51 : BitVec 32 := 0#32
  let v139 : BitVec 1 := Scalar.cmpi .ne v138 c0_i32_51
  v139

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S8192x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x128x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S64x8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1 .i32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== ReferenceIdeal.lean ====
abbrev S8x128x64 : Shape := ⟨3, ![8, 128, 64]⟩
abbrev S8192x64 : Shape := ⟨2, ![8192, 64]⟩
abbrev S8192 : Shape := ⟨1, ![8192]⟩
abbrev S_ : Shape := ⟨0, ![]⟩
abbrev S1024x64 : Shape := ⟨2, ![1024, 64]⟩
abbrev S1x8192 : Shape := ⟨2, ![1, 8192]⟩
abbrev S1024 : Shape := ⟨1, ![1024]⟩
abbrev S1024x1 : Shape := ⟨2, ![1024, 1]⟩
abbrev S1024x8192 : Shape := ⟨2, ![1024, 8192]⟩
abbrev S64x8192 : Shape := ⟨2, ![64, 8192]⟩
abbrev S8x128x8192 : Shape := ⟨3, ![8, 128, 8192]⟩
abbrev S8x8192 : Shape := ⟨2, ![8, 8192]⟩
abbrev S8x1x8192 : Shape := ⟨3, ![8, 1, 8192]⟩
abbrev S8192x8 : Shape := ⟨2, ![8192, 8]⟩
abbrev S8x8 : Shape := ⟨2, ![8, 8]⟩
abbrev S8 : Shape := ⟨1, ![8]⟩
abbrev S1x1 : Shape := ⟨2, ![1, 1]⟩
abbrev S1 : Shape := ⟨1, ![1]⟩
abbrev S8x128 : Shape := ⟨2, ![8, 128]⟩
abbrev S8x128x1 : Shape := ⟨3, ![8, 128, 1]⟩
abbrev S1x1x8192 : Shape := ⟨3, ![1, 1, 8192]⟩
abbrev S8192x1024 : Shape := ⟨2, ![8192, 1024]⟩
abbrev S8192x1 : Shape := ⟨2, ![8192, 1]⟩

abbrev nBuf : Space → Nat
  | .hbm => 349
  | .vmem => 0
  | .smem => 0
  | _ => 0

abbrev hbmTy0_0 (i : Nat) : BufTy := match i % 128 with
  | 0 => ⟨S8x128x64, .f32⟩
  | 1 => ⟨S8x128x64, .f32⟩
  | 2 => ⟨S8192x64, .f32⟩
  | 3 => ⟨S8192, .f32⟩
  | 4 => ⟨S8192x64, .f32⟩
  | 5 => ⟨S_, .i32⟩
  | 6 => ⟨S1024x64, .f32⟩
  | 7 => ⟨S1024x64, .f32⟩
  | 8 => ⟨S8192x64, .f32⟩
  | 9 => ⟨S_, .f32⟩
  | 10 => ⟨S8192, .f32⟩
  | 11 => ⟨S1x8192, .f32⟩
  | 12 => ⟨S1024x64, .f32⟩
  | 13 => ⟨S_, .f32⟩
  | 14 => ⟨S1024, .f32⟩
  | 15 => ⟨S1024x1, .f32⟩
  | 16 => ⟨S1024x8192, .f32⟩
  | 17 => ⟨S1024x8192, .f32⟩
  | 18 => ⟨S1024x8192, .f32⟩
  | 19 => ⟨S64x8192, .f32⟩
  | 20 => ⟨S1024x8192, .f32⟩
  | 21 => ⟨S_, .f32⟩
  | 22 => ⟨S1024x8192, .f32⟩
  | 23 => ⟨S1024x8192, .f32⟩
  | 24 => ⟨S1024x8192, .f32⟩
  | 25 => ⟨S8192x64, .f32⟩
  | 26 => ⟨S_, .f32⟩
  | 27 => ⟨S8192, .f32⟩
  | 28 => ⟨S1x8192, .f32⟩
  | 29 => ⟨S1024x64, .f32⟩
  | 30 => ⟨S_, .f32⟩
  | 31 => ⟨S1024, .f32⟩
  | 32 => ⟨S1024x1, .f32⟩
  | 33 => ⟨S1024x8192, .f32⟩
  | 34 => ⟨S1024x8192, .f32⟩
  | 35 => ⟨S1024x8192, .f32⟩
  | 36 => ⟨S64x8192, .f32⟩
  | 37 => ⟨S1024x8192, .f32⟩
  | 38 => ⟨S_, .f32⟩
  | 39 => ⟨S1024x8192, .f32⟩
  | 40 => ⟨S1024x8192, .f32⟩
  | 41 => ⟨S1024x8192, .f32⟩
  | 42 => ⟨S1024x8192, .f32⟩
  | 43 => ⟨S1024x8192, .f32⟩
  | 44 => ⟨S_, .f32⟩
  | 45 => ⟨S1024, .f32⟩
  | 46 => ⟨S_, .f32⟩
  | 47 => ⟨S1024, .f32⟩
  | 48 => ⟨S1024, .f32⟩
  | 49 => ⟨S1024x1, .f32⟩
  | 50 => ⟨S1024x8192, .f32⟩
  | 51 => ⟨S1024x8192, .f32⟩
  | 52 => ⟨S1024x8192, .f32⟩
  | 53 => ⟨S_, .f32⟩
  | 54 => ⟨S1024, .f32⟩
  | 55 => ⟨S1024x1, .f32⟩
  | 56 => ⟨S1024x8192, .f32⟩
  | 57 => ⟨S1024x8192, .f32⟩
  | 58 => ⟨S1024x8192, .f32⟩
  | 59 => ⟨S1024x8192, .f32⟩
  | 60 => ⟨S_, .f32⟩
  | 61 => ⟨S1024, .f32⟩
  | 62 => ⟨S_, .f32⟩
  | 63 => ⟨S1024, .f32⟩
  | 64 => ⟨S1024, .f32⟩
  | 65 => ⟨S1024x1, .f32⟩
  | 66 => ⟨S1024x8192, .f32⟩
  | 67 => ⟨S1024x8192, .f32⟩
  | 68 => ⟨S1024x8192, .f32⟩
  | 69 => ⟨S_, .f32⟩
  | 70 => ⟨S1024, .f32⟩
  | 71 => ⟨S1024x1, .f32⟩
  | 72 => ⟨S1024x8192, .f32⟩
  | 73 => ⟨S1024x8192, .f32⟩
  | 74 => ⟨S_, .f32⟩
  | 75 => ⟨S1024x8192, .f32⟩
  | 76 => ⟨S1024x8192, .f32⟩
  | 77 => ⟨S1024x8192, .f32⟩
  | 78 => ⟨S1024x8192, .f32⟩
  | 79 => ⟨S_, .f32⟩
  | 80 => ⟨S1024, .f32⟩
  | 81 => ⟨S1024, .f32⟩
  | 82 => ⟨S_, .f32⟩
  | 83 => ⟨S1024x8192, .f32⟩
  | 84 => ⟨S1024x8192, .f32⟩
  | 85 => ⟨S1024x8192, .f32⟩
  | 86 => ⟨S1024x8192, .f32⟩
  | 87 => ⟨S_, .f32⟩
  | 88 => ⟨S1024, .f32⟩
  | 89 => ⟨S1024, .f32⟩
  | 90 => ⟨S8x128x8192, .f32⟩
  | 91 => ⟨S_, .f32⟩
  | 92 => ⟨S8x8192, .f32⟩
  | 93 => ⟨S8x1x8192, .f32⟩
  | 94 => ⟨S_, .f32⟩
  | 95 => ⟨S8x1x8192, .f32⟩
  | 96 => ⟨S8x1x8192, .f32⟩
  | 97 => ⟨S8x128x8192, .f32⟩
  | 98 => ⟨S8x128x8192, .f32⟩
  | 99 => ⟨S8x128x8192, .f32⟩
  | 100 => ⟨S_, .f32⟩
  | 101 => ⟨S_, .f32⟩
  | 102 => ⟨S_, .f32⟩
  | 103 => ⟨S8x8192, .f32⟩
  | 104 => ⟨S_, .f32⟩
  | 105 => ⟨S8x8192, .f32⟩
  | 106 => ⟨S8x8192, .f32⟩
  | 107 => ⟨S8x128x8192, .f32⟩
  | 108 => ⟨S_, .f32⟩
  | 109 => ⟨S8x8192, .f32⟩
  | 110 => ⟨S8x1x8192, .f32⟩
  | 111 => ⟨S_, .f32⟩
  | 112 => ⟨S8x1x8192, .f32⟩
  | 113 => ⟨S8x1x8192, .f32⟩
  | 114 => ⟨S8x128x8192, .f32⟩
  | 115 => ⟨S8x128x8192, .f32⟩
  | 116 => ⟨S8x128x8192, .f32⟩
  | 117 => ⟨S_, .f32⟩
  | 118 => ⟨S_, .f32⟩
  | 119 => ⟨S_, .f32⟩
  | 120 => ⟨S8x8192, .f32⟩
  | 121 => ⟨S_, .f32⟩
  | 122 => ⟨S8x8192, .f32⟩
  | 123 => ⟨S8x8192, .f32⟩
  | 124 => ⟨S8192x8, .f32⟩
  | 125 => ⟨S_, .f32⟩
  | 126 => ⟨S8192x8, .f32⟩
  | 127 => ⟨S8192x8, .f32⟩
  | _ => ⟨S8x128x64, .f32⟩

abbrev hbmTy0_1 (i : Nat) : BufTy := match i % 128 with
  | 0 => ⟨S8192x8, .f32⟩
  | 1 => ⟨S8x8, .f32⟩
  | 2 => ⟨S8192x8, .f32⟩
  | 3 => ⟨S_, .f32⟩
  | 4 => ⟨S8192x8, .f32⟩
  | 5 => ⟨S8192x8, .f32⟩
  | 6 => ⟨S8192x8, .f32⟩
  | 7 => ⟨S8x8, .f32⟩
  | 8 => ⟨S8x8, .f32⟩
  | 9 => ⟨S8x8, .f32⟩
  | 10 => ⟨S_, .f32⟩
  | 11 => ⟨S_, .f32⟩
  | 12 => ⟨S8x8, .f32⟩
  | 13 => ⟨S8x8, .f32⟩
  | 14 => ⟨S8x8, .f32⟩
  | 15 => ⟨S_, .f32⟩
  | 16 => ⟨S8, .f32⟩
  | 17 => ⟨S1x1, .f32⟩
  | 18 => ⟨S_, .f32⟩
  | 19 => ⟨S1x1, .f32⟩
  | 20 => ⟨S_, .f32⟩
  | 21 => ⟨S1x1, .f32⟩
  | 22 => ⟨S_, .f32⟩
  | 23 => ⟨S1x1, .f32⟩
  | 24 => ⟨S_, .f32⟩
  | 25 => ⟨S1x1, .f32⟩
  | 26 => ⟨S_, .f32⟩
  | 27 => ⟨S1x1, .f32⟩
  | 28 => ⟨S_, .f32⟩
  | 29 => ⟨S1x1, .f32⟩
  | 30 => ⟨S_, .f32⟩
  | 31 => ⟨S1x1, .f32⟩
  | 32 => ⟨S_, .f32⟩
  | 33 => ⟨S1, .f32⟩
  | 34 => ⟨S1, .f32⟩
  | 35 => ⟨S1, .f32⟩
  | 36 => ⟨S1, .f32⟩
  | 37 => ⟨S1, .f32⟩
  | 38 => ⟨S1, .f32⟩
  | 39 => ⟨S1, .f32⟩
  | 40 => ⟨S1, .f32⟩
  | 41 => ⟨S8, .f32⟩
  | 42 => ⟨S_, .f32⟩
  | 43 => ⟨S8, .f32⟩
  | 44 => ⟨S8, .f32⟩
  | 45 => ⟨S8, .f32⟩
  | 46 => ⟨S8, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S1024, .f32⟩
  | 58 => ⟨S1024, .f32⟩
  | 59 => ⟨S_, .f32⟩
  | 60 => ⟨S1024, .f32⟩
  | 61 => ⟨S1024, .f32⟩
  | 62 => ⟨S1024x1, .f32⟩
  | 63 => ⟨S_, .f32⟩
  | 64 => ⟨S1024, .f32⟩
  | 65 => ⟨S1024, .f32⟩
  | 66 => ⟨S_, .f32⟩
  | 67 => ⟨S1024, .f32⟩
  | 68 => ⟨S1024, .f32⟩
  | 69 => ⟨S1024x1, .f32⟩
  | 70 => ⟨S1024x8192, .i32⟩
  | 71 => ⟨S_, .f32⟩
  | 72 => ⟨S_, .i32⟩
  | 73 => ⟨S1024, .f32⟩
  | 74 => ⟨S1024, .i32⟩
  | 75 => ⟨S1024x1, .i32⟩
  | 76 => ⟨S1x8192, .i32⟩
  | 77 => ⟨S1024x8192, .i32⟩
  | 78 => ⟨S1024x8192, .i32⟩
  | 79 => ⟨S1024x8192, .i1⟩
  | 80 => ⟨S1024x8192, .f32⟩
  | 81 => ⟨S_, .i32⟩
  | 82 => ⟨S1024, .i32⟩
  | 83 => ⟨S1024, .i1⟩
  | 84 => ⟨S_, .i32⟩
  | 85 => ⟨S1024, .i32⟩
  | 86 => ⟨S1024, .i32⟩
  | 87 => ⟨S1024, .i32⟩
  | 88 => ⟨S1024x1, .i32⟩
  | 89 => ⟨S1024x64, .f32⟩
  | 90 => ⟨S8x128x64, .f32⟩
  | 91 => ⟨S1024x8192, .i32⟩
  | 92 => ⟨S_, .f32⟩
  | 93 => ⟨S_, .i32⟩
  | 94 => ⟨S1024, .f32⟩
  | 95 => ⟨S1024, .i32⟩
  | 96 => ⟨S1024x1, .i32⟩
  | 97 => ⟨S1x8192, .i32⟩
  | 98 => ⟨S1024x8192, .i32⟩
  | 99 => ⟨S1024x8192, .i32⟩
  | 100 => ⟨S1024x8192, .i1⟩
  | 101 => ⟨S1024x8192, .f32⟩
  | 102 => ⟨S_, .i32⟩
  | 103 => ⟨S1024, .i32⟩
  | 104 => ⟨S1024, .i1⟩
  | 105 => ⟨S_, .i32⟩
  | 106 => ⟨S1024, .i32⟩
  | 107 => ⟨S1024, .i32⟩
  | 108 => ⟨S1024, .i32⟩
  | 109 => ⟨S1024x1, .i32⟩
  | 110 => ⟨S1024x64, .f32⟩
  | 111 => ⟨S8x128x64, .f32⟩
  | 112 => ⟨S8x128, .i32⟩
  | 113 => ⟨S8x128x1, .i32⟩
  | 114 => ⟨S1x1x8192, .i32⟩
  | 115 => ⟨S8x128x8192, .i32⟩
  | 116 => ⟨S8x128x8192, .i32⟩
  | 117 => ⟨S8x128x8192, .i1⟩
  | 118 => ⟨S8x128x8192, .i32⟩
  | 119 => ⟨S_, .i32⟩
  | 120 => ⟨S8x8192, .i32⟩
  | 121 => ⟨S8x8192, .i32⟩
  | 122 => ⟨S_, .i32⟩
  | 123 => ⟨S_, .i32⟩
  | 124 => ⟨S8, .i32⟩
  | 125 => ⟨S8, .i32⟩
  | 126 => ⟨S8x128, .i32⟩
  | 127 => ⟨S8x128x1, .i32⟩
  | _ => ⟨S8x128x64, .f32⟩

abbrev hbmTy0_2 (i : Nat) : BufTy := match i % 128 with
  | 0 => ⟨S1x1x8192, .i32⟩
  | 1 => ⟨S8x128x8192, .i32⟩
  | 2 => ⟨S8x128x8192, .i32⟩
  | 3 => ⟨S8x128x8192, .i1⟩
  | 4 => ⟨S8x128x8192, .i32⟩
  | 5 => ⟨S_, .i32⟩
  | 6 => ⟨S8x8192, .i32⟩
  | 7 => ⟨S8x8192, .i32⟩
  | 8 => ⟨S_, .i32⟩
  | 9 => ⟨S_, .i32⟩
  | 10 => ⟨S8, .i32⟩
  | 11 => ⟨S8, .i32⟩
  | 12 => ⟨S8, .i1⟩
  | 13 => ⟨S8, .i32⟩
  | 14 => ⟨S_, .i32⟩
  | 15 => ⟨S_, .i32⟩
  | 16 => ⟨S1024x8192, .f32⟩
  | 17 => ⟨S1024x8192, .f32⟩
  | 18 => ⟨S1024x8192, .f32⟩
  | 19 => ⟨S1024x8192, .f32⟩
  | 20 => ⟨S_, .f32⟩
  | 21 => ⟨S8192, .f32⟩
  | 22 => ⟨S8192, .f32⟩
  | 23 => ⟨S_, .f32⟩
  | 24 => ⟨S8192, .f32⟩
  | 25 => ⟨S_, .f32⟩
  | 26 => ⟨S8192, .f32⟩
  | 27 => ⟨S8192, .f32⟩
  | 28 => ⟨S8192, .f32⟩
  | 29 => ⟨S_, .f32⟩
  | 30 => ⟨S_, .f32⟩
  | 31 => ⟨S_, .f32⟩
  | 32 => ⟨S8192, .f32⟩
  | 33 => ⟨S8192, .f32⟩
  | 34 => ⟨S_, .f32⟩
  | 35 => ⟨S_, .f32⟩
  | 36 => ⟨S8192, .f32⟩
  | 37 => ⟨S8192, .f32⟩
  | 38 => ⟨S8192, .f32⟩
  | 39 => ⟨S8192, .f32⟩
  | 40 => ⟨S8192x1024, .f32⟩
  | 41 => ⟨S8192x64, .f32⟩
  | 42 => ⟨S8192x1024, .f32⟩
  | 43 => ⟨S8192x64, .f32⟩
  | 44 => ⟨S_, .f32⟩
  | 45 => ⟨S8192x64, .f32⟩
  | 46 => ⟨S8192x64, .f32⟩
  | 47 => ⟨S_, .f32⟩
  | 48 => ⟨S8192x64, .f32⟩
  | 49 => ⟨S8192x64, .f32⟩
  | 50 => ⟨S8192x64, .f32⟩
  | 51 => ⟨S_, .f32⟩
  | 52 => ⟨S8192x64, .f32⟩
  | 53 => ⟨S8192x64, .f32⟩
  | 54 => ⟨S8192x64, .f32⟩
  | 55 => ⟨S_, .f32⟩
  | 56 => ⟨S8192, .f32⟩
  | 57 => ⟨S8192, .f32⟩
  | 58 => ⟨S_, .f32⟩
  | 59 => ⟨S8192, .f32⟩
  | 60 => ⟨S_, .f32⟩
  | 61 => ⟨S8192, .f32⟩
  | 62 => ⟨S8192, .f32⟩
  | 63 => ⟨S8192, .f32⟩
  | 64 => ⟨S_, .f32⟩
  | 65 => ⟨S_, .f32⟩
  | 66 => ⟨S_, .f32⟩
  | 67 => ⟨S8192, .f32⟩
  | 68 => ⟨S8192, .f32⟩
  | 69 => ⟨S_, .f32⟩
  | 70 => ⟨S_, .f32⟩
  | 71 => ⟨S8192, .f32⟩
  | 72 => ⟨S8192, .f32⟩
  | 73 => ⟨S8192, .f32⟩
  | 74 => ⟨S8192, .f32⟩
  | 75 => ⟨S8192x1024, .f32⟩
  | 76 => ⟨S8192x64, .f32⟩
  | 77 => ⟨S8192x1024, .f32⟩
  | 78 => ⟨S8192x64, .f32⟩
  | 79 => ⟨S_, .f32⟩
  | 80 => ⟨S8192x64, .f32⟩
  | 81 => ⟨S8192x64, .f32⟩
  | 82 => ⟨S_, .f32⟩
  | 83 => ⟨S8192x64, .f32⟩
  | 84 => ⟨S8192x64, .f32⟩
  | 85 => ⟨S8192x64, .f32⟩
  | 86 => ⟨S_, .f32⟩
  | 87 => ⟨S8192x64, .f32⟩
  | 88 => ⟨S8192x64, .f32⟩
  | 89 => ⟨S8192x64, .f32⟩
  | 90 => ⟨S8192x1, .f32⟩
  | 91 => ⟨S8192x64, .f32⟩
  | 92 => ⟨S8192x64, .f32⟩
  | _ => ⟨S8x128x64, .f32⟩

abbrev hbmTy (i : Nat) : BufTy := match i / 128 with
  | 0 => hbmTy0_0 i
  | 1 => hbmTy0_1 i
  | 2 => hbmTy0_2 i
  | _ => ⟨S8x128x64, .f32⟩

abbrev bufTy : (tb : Table) → Fin (tcTables nBuf tb) → BufTy
  | .hbm, ⟨i, _⟩ => hbmTy i
  | _, _ => ⟨S8x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_10 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_11 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_12 : Ref sig .tc := ⟨.hbm, 79, rfl⟩
abbrev main_v60 : Ref sig .tc := ⟨.hbm, 80, rfl⟩
abbrev main_v61 : Ref sig .tc := ⟨.hbm, 81, rfl⟩
abbrev main_cst_13 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_14 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_15 : Ref sig .tc := ⟨.hbm, 91, rfl⟩
abbrev main_v69 : Ref sig .tc := ⟨.hbm, 92, rfl⟩
abbrev main_v70 : Ref sig .tc := ⟨.hbm, 93, rfl⟩
abbrev main_cst_16 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_17 : Ref sig .tc := ⟨.hbm, 100, rfl⟩
abbrev main_v76 : Ref sig .tc := ⟨.hbm, 101, rfl⟩
abbrev main_cst_18 : Ref sig .tc := ⟨.hbm, 102, rfl⟩
abbrev main_v77 : Ref sig .tc := ⟨.hbm, 103, rfl⟩
abbrev main_cst_19 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_20 : Ref sig .tc := ⟨.hbm, 108, rfl⟩
abbrev main_v81 : Ref sig .tc := ⟨.hbm, 109, rfl⟩
abbrev main_v82 : Ref sig .tc := ⟨.hbm, 110, rfl⟩
abbrev main_cst_21 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_22 : Ref sig .tc := ⟨.hbm, 117, rfl⟩
abbrev main_v88 : Ref sig .tc := ⟨.hbm, 118, rfl⟩
abbrev main_cst_23 : Ref sig .tc := ⟨.hbm, 119, rfl⟩
abbrev main_v89 : Ref sig .tc := ⟨.hbm, 120, rfl⟩
abbrev main_cst_24 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_25 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_cst_26 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_cst_27 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_cst_28 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_cst_29 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_cst_30 : Ref sig .tc := ⟨.hbm, 175, rfl⟩
abbrev main_v138 : Ref sig .tc := ⟨.hbm, 176, rfl⟩
abbrev main_cst_31 : Ref sig .tc := ⟨.hbm, 177, rfl⟩
abbrev main_v139 : Ref sig .tc := ⟨.hbm, 178, rfl⟩
abbrev main_v140 : Ref sig .tc := ⟨.hbm, 179, rfl⟩
abbrev main_cst_32 : Ref sig .tc := ⟨.hbm, 180, rfl⟩
abbrev main_v141 : Ref sig .tc := ⟨.hbm, 181, rfl⟩
abbrev main_cst_33 : Ref sig .tc := ⟨.hbm, 182, rfl⟩
abbrev main_v142 : Ref sig .tc := ⟨.hbm, 183, rfl⟩
abbrev main_cst_34 : Ref sig .tc := ⟨.hbm, 184, rfl⟩
abbrev main_v143 : Ref sig .tc := ⟨.hbm, 185, rfl⟩
abbrev main_v144 : Ref sig .tc := ⟨.hbm, 186, rfl⟩
abbrev main_cst_35 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_cst_36 : Ref sig .tc := ⟨.hbm, 191, rfl⟩
abbrev main_v148 : Ref sig .tc := ⟨.hbm, 192, rfl⟩
abbrev main_v149 : Ref sig .tc := ⟨.hbm, 193, rfl⟩
abbrev main_cst_37 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_call0_v0 : Ref sig .tc := ⟨.hbm, 198, rfl⟩
abbrev main_call0_cst : Ref sig .tc := ⟨.hbm, 199, rfl⟩
abbrev main_call0_c : Ref sig .tc := ⟨.hbm, 200, rfl⟩
abbrev main_call0_v1_0 : Ref sig .tc := ⟨.hbm, 201, rfl⟩
abbrev main_v153 : Ref sig .tc := ⟨.hbm, 202, rfl⟩
abbrev main_call1_v0 : Ref sig .tc := ⟨.hbm, 203, rfl⟩
abbrev main_call1_v1 : Ref sig .tc := ⟨.hbm, 204, rfl⟩
abbrev main_call1_v2 : Ref sig .tc := ⟨.hbm, 205, rfl⟩
abbrev main_call1_v3 : Ref sig .tc := ⟨.hbm, 206, rfl⟩
abbrev main_call1_v4 : Ref sig .tc := ⟨.hbm, 207, rfl⟩
abbrev main_v154 : Ref sig .tc := ⟨.hbm, 208, rfl⟩
abbrev main_c : Ref sig .tc := ⟨.hbm, 209, rfl⟩
abbrev main_v155 : Ref sig .tc := ⟨.hbm, 210, rfl⟩
abbrev main_v156 : Ref sig .tc := ⟨.hbm, 211, rfl⟩
abbrev main_c_38 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_call2_v0 : Ref sig .tc := ⟨.hbm, 219, rfl⟩
abbrev main_call2_cst : Ref sig .tc := ⟨.hbm, 220, rfl⟩
abbrev main_call2_c : Ref sig .tc := ⟨.hbm, 221, rfl⟩
abbrev main_call2_v1_0 : Ref sig .tc := ⟨.hbm, 222, rfl⟩
abbrev main_v163 : Ref sig .tc := ⟨.hbm, 223, rfl⟩
abbrev main_call3_v0 : Ref sig .tc := ⟨.hbm, 224, rfl⟩
abbrev main_call3_v1 : Ref sig .tc := ⟨.hbm, 225, rfl⟩
abbrev main_call3_v2 : Ref sig .tc := ⟨.hbm, 226, rfl⟩
abbrev main_call3_v3 : Ref sig .tc := ⟨.hbm, 227, rfl⟩
abbrev main_call3_v4 : Ref sig .tc := ⟨.hbm, 228, rfl⟩
abbrev main_v164 : Ref sig .tc := ⟨.hbm, 229, rfl⟩
abbrev main_c_39 : Ref sig .tc := ⟨.hbm, 230, rfl⟩
abbrev main_v165 : Ref sig .tc := ⟨.hbm, 231, rfl⟩
abbrev main_v166 : Ref sig .tc := ⟨.hbm, 232, rfl⟩
abbrev main_c_40 : Ref sig .tc := ⟨.hbm, 233, rfl⟩
abbrev main_v167 : Ref sig .tc := ⟨.hbm, 234, rfl⟩
abbrev main_v168 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_call4_v0 : Ref sig .tc := ⟨.hbm, 241, rfl⟩
abbrev main_call4_v1 : Ref sig .tc := ⟨.hbm, 242, rfl⟩
abbrev main_call4_v2 : Ref sig .tc := ⟨.hbm, 243, rfl⟩
abbrev main_call4_v3 : Ref sig .tc := ⟨.hbm, 244, rfl⟩
abbrev main_call4_v4 : Ref sig .tc := ⟨.hbm, 245, rfl⟩
abbrev main_v174 : Ref sig .tc := ⟨.hbm, 246, rfl⟩
abbrev main_c_41 : Ref sig .tc := ⟨.hbm, 247, rfl⟩
abbrev main_v175 : Ref sig .tc := ⟨.hbm, 248, rfl⟩
abbrev main_call5_v0 : Ref sig .tc := ⟨.hbm, 249, rfl⟩
abbrev main_call5_c : Ref sig .tc := ⟨.hbm, 250, rfl⟩
abbrev main_call5_c_0 : Ref sig .tc := ⟨.hbm, 251, rfl⟩
abbrev main_call5_v1_0 : Ref sig .tc := ⟨.hbm, 252, rfl⟩
abbrev main_v176 : Ref sig .tc := ⟨.hbm, 253, rfl⟩
abbrev main_v177 : Ref sig .tc := ⟨.hbm, 254, rfl⟩
abbrev main_call6_v0 : Ref sig .tc := ⟨.hbm, 255, rfl⟩
abbrev main_call6_v1 : Ref sig .tc := ⟨.hbm, 256, rfl⟩
abbrev main_call6_v2 : Ref sig .tc := ⟨.hbm, 257, rfl⟩
abbrev main_call6_v3 : Ref sig .tc := ⟨.hbm, 258, rfl⟩
abbrev main_call6_v4 : Ref sig .tc := ⟨.hbm, 259, rfl⟩
abbrev main_v178 : Ref sig .tc := ⟨.hbm, 260, rfl⟩
abbrev main_c_42 : Ref sig .tc := ⟨.hbm, 261, rfl⟩
abbrev main_v179 : Ref sig .tc := ⟨.hbm, 262, rfl⟩
abbrev main_call7_v0 : Ref sig .tc := ⟨.hbm, 263, rfl⟩
abbrev main_call7_c : Ref sig .tc := ⟨.hbm, 264, rfl⟩
abbrev main_call7_c_0 : Ref sig .tc := ⟨.hbm, 265, rfl⟩
abbrev main_call7_v1_0 : Ref sig .tc := ⟨.hbm, 266, rfl⟩
abbrev main_v180 : Ref sig .tc := ⟨.hbm, 267, rfl⟩
abbrev main_v181 : Ref sig .tc := ⟨.hbm, 268, rfl⟩
abbrev main_v182 : Ref sig .tc := ⟨.hbm, 269, rfl⟩
abbrev main_c_43 : Ref sig .tc := ⟨.hbm, 270, rfl⟩
abbrev main_v183 : Ref sig .tc := ⟨.hbm, 271, rfl⟩
abbrev main_v184 : Ref sig .tc := ⟨.hbm, 272, rfl⟩
abbrev main_v185 : Ref sig .tc := ⟨.hbm, 273, rfl⟩
abbrev main_v186 : Ref sig .tc := ⟨.hbm, 274, rfl⟩
abbrev main_v187 : Ref sig .tc := ⟨.hbm, 275, rfl⟩
abbrev main_cst_44 : Ref sig .tc := ⟨.hbm, 276, rfl⟩
abbrev main_v188 : Ref sig .tc := ⟨.hbm, 277, rfl⟩
abbrev main_v189 : Ref sig .tc := ⟨.hbm, 278, rfl⟩
abbrev main_cst_45 : Ref sig .tc := ⟨.hbm, 279, rfl⟩
abbrev main_v190 : Ref sig .tc := ⟨.hbm, 280, rfl⟩
abbrev main_cst_46 : Ref sig .tc := ⟨.hbm, 281, rfl⟩
abbrev main_v191 : Ref sig .tc := ⟨.hbm, 282, rfl⟩
abbrev main_v192 : Ref sig .tc := ⟨.hbm, 283, rfl⟩
abbrev main_v193 : Ref sig .tc := ⟨.hbm, 284, rfl⟩
abbrev main_cst_47 : Ref sig .tc := ⟨.hbm, 285, rfl⟩
abbrev main_v194 : Ref sig .tc := ⟨.hbm, 286, rfl⟩
abbrev main_cst_48 : Ref sig .tc := ⟨.hbm, 287, rfl⟩
abbrev main_v195 : Ref sig .tc := ⟨.hbm, 288, rfl⟩
abbrev main_v196 : Ref sig .tc := ⟨.hbm, 289, rfl⟩
abbrev main_cst_49 : Ref sig .tc := ⟨.hbm, 290, rfl⟩
abbrev main_v197 : Ref sig .tc := ⟨.hbm, 291, rfl⟩
abbrev main_v198 : Ref sig .tc := ⟨.hbm, 292, rfl⟩
abbrev main_v199 : Ref sig .tc := ⟨.hbm, 293, rfl⟩
abbrev main_v200 : Ref sig .tc := ⟨.hbm, 294, rfl⟩
abbrev main_v201 : Ref sig .tc := ⟨.hbm, 295, rfl⟩
abbrev main_v202 : Ref sig .tc := ⟨.hbm, 296, rfl⟩
abbrev main_v203 : Ref sig .tc := ⟨.hbm, 297, rfl⟩
abbrev main_v204 : Ref sig .tc := ⟨.hbm, 298, rfl⟩
abbrev main_v205 : Ref sig .tc := ⟨.hbm, 299, rfl⟩
abbrev main_cst_50 : Ref sig .tc := ⟨.hbm, 300, rfl⟩
abbrev main_v206 : Ref sig .tc := ⟨.hbm, 301, rfl⟩
abbrev main_v207 : Ref sig .tc := ⟨.hbm, 302, rfl⟩
abbrev main_cst_51 : Ref sig .tc := ⟨.hbm, 303, rfl⟩
abbrev main_v208 : Ref sig .tc := ⟨.hbm, 304, rfl⟩
abbrev main_v209 : Ref sig .tc := ⟨.hbm, 305, rfl⟩
abbrev main_v210 : Ref sig .tc := ⟨.hbm, 306, rfl⟩
abbrev main_cst_52 : Ref sig .tc := ⟨.hbm, 307, rfl⟩
abbrev main_v211 : Ref sig .tc := ⟨.hbm, 308, rfl⟩
abbrev main_v212 : Ref sig .tc := ⟨.hbm, 309, rfl⟩
abbrev main_v213 : Ref sig .tc := ⟨.hbm, 310, rfl⟩
abbrev main_cst_53 : Ref sig .tc := ⟨.hbm, 311, rfl⟩
abbrev main_v214 : Ref sig .tc := ⟨.hbm, 312, rfl⟩
abbrev main_v215 : Ref sig .tc := ⟨.hbm, 313, rfl⟩
abbrev main_cst_54 : Ref sig .tc := ⟨.hbm, 314, rfl⟩
abbrev main_v216 : Ref sig .tc := ⟨.hbm, 315, rfl⟩
abbrev main_cst_55 : Ref sig .tc := ⟨.hbm, 316, rfl⟩
abbrev main_v217 : Ref sig .tc := ⟨.hbm, 317, rfl⟩
abbrev main_v218 : Ref sig .tc := ⟨.hbm, 318, rfl⟩
abbrev main_v219 : Ref sig .tc := ⟨.hbm, 319, rfl⟩
abbrev main_cst_56 : Ref sig .tc := ⟨.hbm, 320, rfl⟩
abbrev main_v220 : Ref sig .tc := ⟨.hbm, 321, rfl⟩
abbrev main_cst_57 : Ref sig .tc := ⟨.hbm, 322, rfl⟩
abbrev main_v221 : Ref sig .tc := ⟨.hbm, 323, rfl⟩
abbrev main_v222 : Ref sig .tc := ⟨.hbm, 324, rfl⟩
abbrev main_cst_58 : Ref sig .tc := ⟨.hbm, 325, rfl⟩
abbrev main_v223 : Ref sig .tc := ⟨.hbm, 326, rfl⟩
abbrev main_v224 : Ref sig .tc := ⟨.hbm, 327, rfl⟩
abbrev main_v225 : Ref sig .tc := ⟨.hbm, 328, rfl⟩
abbrev main_v226 : Ref sig .tc := ⟨.hbm, 329, rfl⟩
abbrev main_v227 : Ref sig .tc := ⟨.hbm, 330, rfl⟩
abbrev main_v228 : Ref sig .tc := ⟨.hbm, 331, rfl⟩
abbrev main_v229 : Ref sig .tc := ⟨.hbm, 332, rfl⟩
abbrev main_v230 : Ref sig .tc := ⟨.hbm, 333, rfl⟩
abbrev main_v231 : Ref sig .tc := ⟨.hbm, 334, rfl⟩
abbrev main_cst_59 : Ref sig .tc := ⟨.hbm, 335, rfl⟩
abbrev main_v232 : Ref sig .tc := ⟨.hbm, 336, rfl⟩
abbrev main_v233 : Ref sig .tc := ⟨.hbm, 337, rfl⟩
abbrev main_cst_60 : Ref sig .tc := ⟨.hbm, 338, rfl⟩
abbrev main_v234 : Ref sig .tc := ⟨.hbm, 339, rfl⟩
abbrev main_v235 : Ref sig .tc := ⟨.hbm, 340, rfl⟩
abbrev main_v236 : Ref sig .tc := ⟨.hbm, 341, rfl⟩
abbrev main_cst_61 : Ref sig .tc := ⟨.hbm, 342, rfl⟩
abbrev main_v237 : Ref sig .tc := ⟨.hbm, 343, rfl⟩
abbrev main_v238 : Ref sig .tc := ⟨.hbm, 344, rfl⟩
abbrev main_v239 : Ref sig .tc := ⟨.hbm, 345, rfl⟩
abbrev main_v240 : Ref sig .tc := ⟨.hbm, 346, rfl⟩
abbrev main_v241 : Ref sig .tc := ⟨.hbm, 347, rfl⟩
abbrev main_v242 : Ref sig .tc := ⟨.hbm, 348, rfl⟩

abbrev nD : Nat := 1
abbrev τ : Topo := Topo.v7x

variable {F : FTy → Type} [FloatOps F]
-- ==== Proof.WholeStores.lean ====
/- Loads and stores through whole memrefs, read as plain functions of the contents: a load of a rectangle is the contents
   at the rectangle's indices, a store of the whole shape leaves its payload, a store of a part puts the payload over the
   contents. -/
module

public import Idealize.ShloMosaic.Lib.VecWindow
public import Idealize.ShloMosaic.Lib.WritesUnit
public import Idealize.ShloMosaic.Lib.Pipeline.Frame
public import Idealize.ShloMosaic.Lib.Pipeline.ValueKit.Basic

@[expose] public section

namespace Cert.Hand

open Idealize.ShloMosaic

variable {sig : RefSig} {κ : Kind} {sp : Space} {s : Shape} {e : EltTy} {Val : EltTy → Type} {m : Memref sig κ sp s e}

/-- A store through the whole shape, last, leaves the memref at its payload. -/
theorem writes_full (h : m.IsWhole) (f : m.view.ty.Contents Val) {off : Fin s.rank → ℕ} (inb : ∀ a, off a + s.size a ≤ s.size a)
    (w : (Rect.unit off s.size inb).shape.Idx → Val e) (L : List (View.Piece Val s e)) :
    m.view.writes Val f (⟨Rect.unit off s.size inb, w⟩ :: L) = h.unread w :=
  h.eq_unread (View.read_writes_full m.view f inb w L)

/-- A load of the whole shape is the contents. -/
theorem readAt_full (h : m.IsWhole) (X : s.Idx → Val e) {off : Fin s.rank → ℕ} (inb : ∀ a, off a + s.size a ≤ s.size a) :
    m.view.readAt Val (Rect.unit off s.size inb).toLoadRect (h.unread X) = X := by
  have h0 : ∀ a, off a = 0 := fun a => by have := inb a; omega
  refine Eq.trans ?_ (View.ld_unit_lit inb X h0)
  funext x
  exact congrFun (h.read_unread X) _

/-- A load of a rectangle is the contents loaded there. -/
theorem readAt_part (h : m.IsWhole) (X : s.Idx → Val e) (r : Rect s) :
    m.view.readAt Val r.toLoadRect (h.unread X) = View.ld X r := by
  funext x
  exact congrFun (h.read_unread X) _

/-- A store of a rectangle over known contents. -/
theorem writes_part (h : m.IsWhole) (X : s.Idx → Val e) {off size : Fin s.rank → ℕ} (inb : ∀ a, off a + size a ≤ s.size a)
    (w : (Rect.unit off size inb).shape.Idx → Val e) :
    m.view.writes Val (h.unread X) [⟨Rect.unit off size inb, w⟩] = h.unread (VecWindow.put X off size w) :=
  h.eq_unread (by rw [View.read_writes_cons_put m.view _ inb w [] rfl, View.writes_nil, h.read_unread])

end Cert.Hand
-- ==== Proof.KernelIdeal.Cases.lean ====
/- What the hand-made run of the kernel is stated over: the two conditions of the body in closed form over the grid's
   sixteen points, where the output windows are idle, and the memrefs the body is called with. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Claim
public import proofs.«01_k».proof.Proof.WholeStores

@[expose] public section

-- long rectangles (8192 entries a row) are looked through coordinate by coordinate
set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first condition: both grid coordinates are zero. -/
abbrev cond0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- The body's second condition, as printed. -/
abbrev cond1 (i : grid0.Coords) : Prop := k0_cond2 i = 1#1

/-- The grid coordinates of a point. -/
theorem coords_eq (t : Fin cfg0.N) : (grid0.coords t 0).val = t.val / 8 % 2 ∧ (grid0.coords t 1).val = t.val / 1 % 8 :=
  (fun t => ⟨Pipeline.Grid.coords_val t 0 (by decide) rfl, Pipeline.Grid.coords_val t 1 (by decide) rfl⟩ :
    ∀ t : Fin grid0.N, (grid0.coords t 0).val = t.val / 8 % 2 ∧ (grid0.coords t 1).val = t.val / 1 % 8) t

/-- The grid has sixteen points. -/
theorem lt16 (t : Fin cfg0.N) : t.val < 16 := lt_of_lt_of_eq t.isLt (show cfg0.N = 16 from N_0)

/-- The first condition holds at the first point only. -/
theorem hcond0 (t : Fin cfg0.N) : cond0 (grid0.coords t) ↔ t.val = 0 := by
  have ht := lt16 t
  obtain ⟨e0, e1⟩ := coords_eq t
  have h : cond0 (grid0.coords t) ↔ t.val % 16 = 0 := by
    simp only [cond0, e0, e1]
    word_cmp
  rw [h]; omega

/-- The second condition holds at the last point only. -/
theorem hcond1 (t : Fin cfg0.N) : cond1 (grid0.coords t) ↔ t.val = 15 := by
  have ht := lt16 t
  obtain ⟨e0, e1⟩ := coords_eq t
  have h : cond1 (grid0.coords t) ↔ t.val % 16 = 15 := by
    simp only [cond1, k0_cond2, e0, e1]
    word_cmp
  rw [h]; omega

/-- The windows 0 to 6 are never idle. -/
theorem live_low (w : Fin cfg0.W) (hw : w.val < 7) (t : Fin cfg0.N) : cfg0.idle w (grid0.coords t) = false :=
  (by decide +kernel : ∀ w : Fin cfg0.W, w.val < 7 → ∀ t : Fin cfg0.N, cfg0.idle w (grid0.coords t) = false) w hw t
/-- The windows 7 to 11 are idle, and not written back, before the last point. -/
theorem idle_high (w : Fin cfg0.W) (hw : 7 ≤ w.val) (t : Fin cfg0.N) (ht : t.val ≠ 15) :
    cfg0.idle w (grid0.coords t) = true ∧ (cfg0.win w).flush t = false :=
  (by decide +kernel : ∀ w : Fin cfg0.W, 7 ≤ w.val → ∀ t : Fin cfg0.N, t.val ≠ 15 →
    cfg0.idle w (grid0.coords t) = true ∧ (cfg0.win w).flush t = false) w hw t ht
/-- At the last point no window is idle. -/
theorem live_last (w : Fin cfg0.W) (t : Fin cfg0.N) (ht : t.val = 15) : cfg0.idle w (grid0.coords t) = false :=
  (by decide +kernel : ∀ w : Fin cfg0.W, ∀ t : Fin cfg0.N, t.val = 15 → cfg0.idle w (grid0.coords t) = false) w t ht

/-! The windows' staging memrefs at a point, as the body is called with them, and that each is whole. -/

abbrev stg0 (t : Fin cfg0.N) : Memref sig .tc .vmem S1x128x64 .f32 := win0_0.stage (cfg0.slots t 0)
abbrev hstg0 (t : Fin cfg0.N) : (stg0 t).IsWhole := hstage0_0 ((cfg0.slots t 0).cast nbuf0_0)
abbrev stg1 (t : Fin cfg0.N) : Memref sig .tc .vmem S1x128x64 .f32 := win0_1.stage (cfg0.slots t 1)
abbrev hstg1 (t : Fin cfg0.N) : (stg1 t).IsWhole := hstage0_1 ((cfg0.slots t 1).cast nbuf0_1)
abbrev stg2 (t : Fin cfg0.N) : Memref sig .tc .vmem S8192x64 .bf16 := win0_2.stage (cfg0.slots t 2)
abbrev hstg2 (t : Fin cfg0.N) : (stg2 t).IsWhole := hstage0_2 ((cfg0.slots t 2).cast nbuf0_2)
abbrev stg3 (t : Fin cfg0.N) : Memref sig .tc .vmem S64x8192 .f32 := win0_3.stage (cfg0.slots t 3)
abbrev hstg3 (t : Fin cfg0.N) : (stg3 t).IsWhole := hstage0_3 ((cfg0.slots t 3).cast nbuf0_3)
abbrev stg4 (t : Fin cfg0.N) : Memref sig .tc .vmem S1x8192 .f32 := win0_4.stage (cfg0.slots t 4)
abbrev hstg4 (t : Fin cfg0.N) : (stg4 t).IsWhole := hstage0_4 ((cfg0.slots t 4).cast nbuf0_4)
abbrev stg5 (t : Fin cfg0.N) : Memref sig .tc .vmem S64x8192 .f32 := win0_5.stage (cfg0.slots t 5)
abbrev hstg5 (t : Fin cfg0.N) : (stg5 t).IsWhole := hstage0_5 ((cfg0.slots t 5).cast nbuf0_5)
abbrev stg6 (t : Fin cfg0.N) : Memref sig .tc .vmem S1x1x128x64 .f32 := win0_6.stage (cfg0.slots t 6)
abbrev hstg6 (t : Fin cfg0.N) : (stg6 t).IsWhole := hstage0_6 ((cfg0.slots t 6).cast nbuf0_6)
abbrev stg7 (t : Fin cfg0.N) : Memref sig .tc .vmem S64x8192 .f32 := win0_7.stage (cfg0.slots t 7)
abbrev hstg7 (t : Fin cfg0.N) : (stg7 t).IsWhole := hstage0_7 ((cfg0.slots t 7).cast nbuf0_7)
abbrev stg8 (t : Fin cfg0.N) : Memref sig .tc .vmem S1x1 .f32 := win0_8.stage (cfg0.slots t 8)
abbrev hstg8 (t : Fin cfg0.N) : (stg8 t).IsWhole := hstage0_8 ((cfg0.slots t 8).cast nbuf0_8)
abbrev stg9 (t : Fin cfg0.N) : Memref sig .tc .vmem S1x1 .f32 := win0_9.stage (cfg0.slots t 9)
abbrev hstg9 (t : Fin cfg0.N) : (stg9 t).IsWhole := hstage0_9 ((cfg0.slots t 9).cast nbuf0_9)
abbrev stg10 (t : Fin cfg0.N) : Memref sig .tc .vmem S1x1 .f32 := win0_10.stage (cfg0.slots t 10)
abbrev hstg10 (t : Fin cfg0.N) : (stg10 t).IsWhole := hstage0_10 ((cfg0.slots t 10).cast nbuf0_10)
abbrev stg11 (t : Fin cfg0.N) : Memref sig .tc .vmem S1x1 .i32 := win0_11.stage (cfg0.slots t 11)
abbrev hstg11 (t : Fin cfg0.N) : (stg11 t).IsWhole := hstage0_11 ((cfg0.slots t 11).cast nbuf0_11)

/-! The scratch operands as memrefs. -/

abbrev cntM : Memref sig .tc .vmem S2x8192 .f32 := Memref.whole cc0_scratch0
abbrev dwM : Memref sig .tc .vmem S128x8192 .f32 := Memref.whole cc0_scratch1
abbrev phM : Memref sig .tc .vmem S16x8192 .f32 := Memref.whole cc0_scratch2
abbrev consM : Memref sig .tc .smem S2x1 .f32 := Memref.whole cc0_scratch3
abbrev modesM : Memref sig .tc .smem S2x8 .i32 := Memref.whole cc0_scratch4
abbrev esqM : Memref sig .tc .vmem S1x8192 .f32 := Memref.whole cc0_scratch5

/-- The kit's invariant: every scratch buffer owned at some contents, and the generator register at some state. -/
theorem PhiA_eq (c : Dev nD) :
    (Pipeline.ΦA spec0 c : sProp 𝕄)
      = iprop(iprop((∃ d, owns (c : Thread nD τ) cntM fullShare d) ∗ (∃ d, owns (c : Thread nD τ) dwM fullShare d)
          ∗ (∃ d, owns (c : Thread nD τ) phM fullShare d) ∗ (∃ d, owns (c : Thread nD τ) esqM fullShare d)
          ∗ (∃ d, owns (c : Thread nD τ) consM fullShare d) ∗ (∃ d, owns (c : Thread nD τ) modesM fullShare d))
          ∗ (∃ r, prngReg c r)) := by
  unfold Pipeline.ΦA; rw [scopedRest0_eq]; simp only [cntM, dwM, phM, consM, modesM, esqM, owns_whole]; try rfl

end Cert.KernelIdeal.Hand

end
-- ==== Proof.KernelIdeal.RunA.lean ====
/- The run of the body at the grid's first point, where the scratch accumulators are cleared. -/
module

public import proofs.«01_k».proof.Proof.KernelIdeal.Cases

@[expose] public section

-- long rectangles (8192 entries a row) are looked through coordinate by coordinate
set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two loss accumulators, cleared. -/
def consZero : Vec F S2x1 .f32 := fun _ => Scalar.ofBits .f32 0x00000000#32

/-- The two stores that clear the loss accumulators cover them. -/
theorem cons_cleared {m : Memref sig .tc .smem S2x1 .f32} (h : m.IsWhole) (f : m.view.ty.Contents (Elt F)) (v : F .f32)
    (inb0 : ∀ a, (![0, 0] : Fin 2 → ℕ) a + S1x1.size a ≤ S2x1.size a) (inb1 : ∀ a, (![1, 0] : Fin 2 → ℕ) a + S1x1.size a ≤ S2x1.size a) (hv : v = Scalar.ofBits .f32 0x00000000#32) :
    m.view.writes (Elt F) f [⟨Rect.unit (s := S2x1) ![1, 0] S1x1.size inb1, fun _ => v⟩, ⟨Rect.unit (s := S2x1) ![0, 0] S1x1.size inb0, fun _ => v⟩]
      = h.unread consZero := by
  subst hv
  refine h.eq_unread (funext fun y => ?_)
  rw [View.read_writes_cons_unit m.view f inb1 _ _ y rfl]
  split
  · rfl
  · next hn =>
    rw [View.read_writes_cons_unit m.view f inb0 _ _ y rfl]
    split
    · rfl
    · next hn0 =>
      have h0 : (y (0 : Fin 2)).val < 2 := (y (0 : Fin 2)).isLt
      have h1 : (y (1 : Fin 2)).val < 1 := (y (1 : Fin 2)).isLt
      exfalso
      rcases Nat.lt_or_ge (y (0 : Fin 2)).val 1 with hlt | hge
      · refine hn0 fun a => ?_
        fin_cases a
        · exact ⟨Nat.zero_le _, by simpa using hlt⟩
        · exact ⟨Nat.zero_le _, by simpa using h1⟩
      · refine hn fun a => ?_
        fin_cases a
        · exact ⟨by simpa using hge, by simpa using h0⟩
        · exact ⟨Nat.zero_le _, by simpa using h1⟩

set_option maxHeartbeats 4000000 in
/-- The pieces the body's stores leave in every buffer it stores into (last store first), found by running the body,
    with the triple they come from: the inputs' buffers keep their contents, the scratch buffers start at the contents
    `x14`, …, `x19` and end with the pieces written over them (over the cleared contents), and the outputs written at the last point only are handed back untouched. -/
noncomputable def runA (c : Dev nD) (i : grid0.Coords) (arg2 : Memref sig .tc .vmem S1x128x64 .f32) (harg2 : arg2.IsWhole) (arg3 : Memref sig .tc .vmem S1x128x64 .f32) (harg3 : arg3.IsWhole) (arg4 : Memref sig .tc .vmem S8192x64 .bf16) (harg4 : arg4.IsWhole) (arg5 : Memref sig .tc .vmem S64x8192 .f32) (harg5 : arg5.IsWhole) (arg6 : Memref sig .tc .vmem S1x8192 .f32) (harg6 : arg6.IsWhole) (arg7 : Memref sig .tc .vmem S64x8192 .f32) (harg7 : arg7.IsWhole) (arg8 : Memref sig .tc .vmem S1x1x128x64 .f32) (harg8 : arg8.IsWhole) (arg9 : Memref sig .tc .vmem S64x8192 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x1 .i32) (harg13 : arg13.IsWhole) (arg14 : Memref sig .tc .vmem S2x8192 .f32) (harg14 : arg14.IsWhole) (arg15 : Memref sig .tc .vmem S128x8192 .f32) (harg15 : arg15.IsWhole) (arg16 : Memref sig .tc .vmem S16x8192 .f32) (harg16 : arg16.IsWhole) (arg17 : Memref sig .tc .smem S2x1 .f32) (harg17 : arg17.IsWhole) (arg18 : Memref sig .tc .smem S2x8 .i32) (harg18 : arg18.IsWhole) (arg19 : Memref sig .tc .vmem S1x8192 .f32) (harg19 : arg19.IsWhole) (hc0 : cond0 i) (hc1 : ¬cond1 i)
    (x2 : Vec F S1x128x64 .f32) (x3 : Vec F S1x128x64 .f32) (x4 : Vec F S8192x64 .bf16) (x5 : Vec F S64x8192 .f32) (x6 : Vec F S1x8192 .f32) (x7 : Vec F S64x8192 .f32) (x14 : Vec F S2x8192 .f32) (x15 : Vec F S128x8192 .f32) (x16 : Vec F S16x8192 .f32) (x17 : Vec F S2x1 .f32) (x18 : Vec F S2x8 .i32) (x19 : Vec F S1x8192 .f32) :
    Σ' (L8 : List (View.Piece (Elt F) S1x1x128x64 .f32)), Σ' (L14 : List (View.Piece (Elt F) S2x8192 .f32)), Σ' (L15 : List (View.Piece (Elt F) S128x8192 .f32)), Σ' (L16 : List (View.Piece (Elt F) S16x8192 .f32)), Σ' (L17 : List (View.Piece (Elt F) S2x1 .f32)), { L18 : List (View.Piece (Elt F) S2x8 .i32) //
      ∀ (y9 : Vec F S64x8192 .f32) (y10 : Vec F S1x1 .f32) (y11 : Vec F S1x1 .f32) (y12 : Vec F S1x1 .f32) (y13 : Vec F S1x1 .i32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg9 fullShare y9 ∗ owns (c : Thread nD τ) arg10 fullShare y10 ∗ owns (c : Thread nD τ) arg11 fullShare y11 ∗ owns (c : Thread nD τ) arg12 fullShare y12 ∗ owns (c : Thread nD τ) arg13 fullShare y13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} arg8.view.writes (Elt F) f L8) ∗ owns (c : Thread nD τ) arg9 fullShare y9 ∗ owns (c : Thread nD τ) arg10 fullShare y10 ∗ owns (c : Thread nD τ) arg11 fullShare y11 ∗ owns (c : Thread nD τ) arg12 fullShare y12 ∗ owns (c : Thread nD τ) arg13 fullShare y13 ∗ (arg14.view.loc (c : Thread nD τ) ↦[arg14.view.set]{fullShare} arg14.view.writes (Elt F) (harg14.unread k0_pay14) L14) ∗ (arg15.view.loc (c : Thread nD τ) ↦[arg15.view.set]{fullShare} arg15.view.writes (Elt F) (harg15.unread k0_pay15) L15) ∗ (arg16.view.loc (c : Thread nD τ) ↦[arg16.view.set]{fullShare} arg16.view.writes (Elt F) (harg16.unread x16) L16) ∗ (arg17.view.loc (c : Thread nD τ) ↦[arg17.view.set]{fullShare} arg17.view.writes (Elt F) (harg17.unread consZero) L17) ∗ (arg18.view.loc (c : Thread nD τ) ↦[arg18.view.set]{fullShare} arg18.view.writes (Elt F) (harg18.unread x18) L18) ∗ owns (c : Thread nD τ) arg19 fullShare (k0_pay16 x5)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, fun y9 y10 y11 y12 y13 E K => ?run⟩
  case run =>
    simp only [cc0__fused_kernel_eq_skeleton]; unfold cc0__fused_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19
    set_option sl_exec.maxSteps 18 in sl_exec (disch := first | sl_exact hc0 | sl_exact hc1)
    rw [writes_full harg14, writes_full harg15, writes_full harg19, readAt_full harg5, cons_cleared harg17]
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]; · iexact H14
    isplitl [H15]; · iexact H15
    isplitl [H16]; · iexact H16
    isplitl [H17]; · iexact H17
    isplitl [H18]; · iexact H18
    iexists _; isplitr; · ipureintro; exact harg19.read_unread _
    iexact H19
    rfl

end Cert.KernelIdeal.Hand

end
-- ==== Proof.KernelIdeal.Steps.lean ====
/- One grid point of the kernel, as functions of values: what the body computes from its input blocks, and what it puts
   into each scratch buffer and each output. -/
module

public import proofs.«01_k».proof.Proof.KernelIdeal.Cases

@[expose] public section

-- long rectangles (8192 entries a row) are looked through coordinate by coordinate
set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! What a point computes from its blocks: `a`, `v` the two encodings' rows of one batch, `e` the codebook, `eT` its transpose. -/

/-- The squared lengths of the codebook's rows. -/
def esqV (eT : Vec F S64x8192 .f32) : Vec F S1x8192 .f32 := k0_pay16 eT
/-- The column numbers. -/
def colV : IVec S128x8192 32 := iota .tc S128x8192 32 [1] iota_S128x8192_d1_w32
/-- The squared distances of the point's rows to the codebook's. -/
def distV (i : grid0.Coords) (a v : Vec F S1x128x64 .f32) (eT : Vec F S64x8192 .f32) : FVec F S128x8192 .f32 := k0_pay21 i eT (esqV eT) a v
/-- The least distance of each row. -/
def dminV (i : grid0.Coords) (a v : Vec F S1x128x64 .f32) (eT : Vec F S64x8192 .f32) : FVec F S128x1 .f32 := k0_pay22 i eT (esqV eT) a v
/-- The first codebook row at that distance. -/
def idxV (i : grid0.Coords) (a v : Vec F S1x128x64 .f32) (eT : Vec F S64x8192 .f32) : IVec S128x1 32 := k0_pay24 (k0_pay23 i eT (esqV eT) a v)
/-- One minus the normalised entropy of each row's distribution. -/
def adjV (i : grid0.Coords) (a v : Vec F S1x128x64 .f32) (eT : Vec F S64x8192 .f32) : FVec F S128x1 .f32 := k0_pay26 (distV i a v eT) (dminV i a v eT)
/-- The quantized rows. -/
def qV (i : grid0.Coords) (a v : Vec F S1x128x64 .f32) (e : Vec F S8192x64 .bf16) (eT : Vec F S64x8192 .f32) : FVec F S1x1x128x64 .f32 := k0_pay33 (k0_pay17 e) colV (idxV i a v eT)
/-- The weighted sums, weights and counts per codebook row. -/
def statsV (i : grid0.Coords) (a v : Vec F S1x128x64 .f32) (eT : Vec F S64x8192 .f32) : FVec F S66x8192 .f32 := k0_pay34 colV (k0_pay20 a v) (idxV i a v eT) (adjV i a v eT)
/-- The mean distribution over the point's rows. -/
def phV (i : grid0.Coords) (a v : Vec F S1x128x64 .f32) (eT : Vec F S64x8192 .f32) : FVec F S1x8192 .f32 := k0_pay29 (distV i a v eT) (dminV i a v eT)
/-- The most frequent codebook row. -/
def modeV (i : grid0.Coords) (a v : Vec F S1x128x64 .f32) (eT : Vec F S64x8192 .f32) : BitVec 32 := extractAt ![0, 0, 0] (k0_pay1 (statsV i a v eT)) inpos_S1x1x1_p0_0_0

/-! What a point puts into each scratch buffer. -/

def cntPut (i : grid0.Coords) (a v : Vec F S1x128x64 .f32) (eT : Vec F S64x8192 .f32) (x : Vec F S2x8192 .f32) : Vec F S2x8192 .f32 :=
  VecWindow.put x (k0_off4 i) S1x8192.size (k0_pay36 colV (k0_pay20 a v) (idxV i a v eT) (adjV i a v eT) (View.ld x (Rect.unit (s := S2x8192) (k0_off4 i) S1x8192.size (k0_off4_inb i))))
def dwPut (i : grid0.Coords) (a v : Vec F S1x128x64 .f32) (eT : Vec F S64x8192 .f32) (x : Vec F S128x8192 .f32) : Vec F S128x8192 .f32 :=
  VecWindow.put x (k0_off3 i) S64x8192.size (k0_pay35 colV (k0_pay20 a v) (idxV i a v eT) (adjV i a v eT) (View.ld x (Rect.unit (s := S128x8192) (k0_off3 i) S64x8192.size (k0_off3_inb i))))
def phPut (i : grid0.Coords) (a v : Vec F S1x128x64 .f32) (eT : Vec F S64x8192 .f32) (x : Vec F S16x8192 .f32) : Vec F S16x8192 .f32 :=
  VecWindow.put x (k0_off1 i) S1x8192.size (phV i a v eT)
def consPut (i : grid0.Coords) (a v : Vec F S1x128x64 .f32) (eT : Vec F S64x8192 .f32) (x : Vec F S2x1 .f32) : Vec F S2x1 .f32 :=
  VecWindow.put x (k0_off2 i) S1x1.size (fun _ => k0_pay31 (View.ld x (Rect.unit (s := S2x1) (k0_off2 i) S1x1.size (k0_off2_inb i)) (Shape.Idx.first (show 0 < S1x1.numel by decide))) (k0_pay30 (distV i a v eT) (dminV i a v eT)))
def modesPut (i : grid0.Coords) (a v : Vec F S1x128x64 .f32) (eT : Vec F S64x8192 .f32) (x : Vec F S2x8 .i32) : Vec F S2x8 .i32 :=
  VecWindow.put x (k0_off5 i) S1x1.size (fun _ => modeV i a v eT)

/-! What the last point computes from the finished scratch buffers. -/

/-- The updated codebook, transposed. -/
def entOut (ec : Vec F S1x8192 .f32) (ewT : Vec F S64x8192 .f32) (cnt : Vec F S2x8192 .f32) (dw : Vec F S128x8192 .f32) : FVec F S64x8192 .f32 :=
  let c0 := View.ld cnt (Rect.unit (s := S2x8192) ![0, 0] S1x8192.size inb_S2x8192_S1x8192_0_0)
  let c1 := View.ld cnt (Rect.unit (s := S2x8192) ![1, 0] S1x8192.size inb_S2x8192_S1x8192_1_0)
  k0_pay8 (k0_pay4 ewT (View.ld dw (Rect.unit (s := S128x8192) ![64, 0] S64x8192.size inb_S128x8192_S64x8192_64_0)))
    (k0_pay6 ec c0 c1) (k0_pay7 ec c0 c1) (View.ld dw (Rect.unit (s := S128x8192) ![0, 0] S64x8192.size inb_S128x8192_S64x8192_0_0))
/-- The contrastive loss. -/
def lcmOut (ph : Vec F S16x8192 .f32) : FVec F S1x1 .f32 :=
  let p0 := View.ld ph (Rect.unit (s := S16x8192) ![0, 0] S8x8192.size inb_S16x8192_S8x8192_0_0)
  let p1 := View.ld ph (Rect.unit (s := S16x8192) ![8, 0] S8x8192.size inb_S16x8192_S8x8192_8_0)
  k0_pay12 (k0_pay11 (k0_pay9 p0 p1) (k0_pay10 p0 p1))
/-- The first encoding's consistency loss. -/
def acOut (cons : Vec F S2x1 .f32) : FVec F S1x1 .f32 :=
  k0_pay13 (View.ld cons (Rect.unit (s := S2x1) ![0, 0] S1x1.size inb_S2x1_S1x1_0_0) (Shape.Idx.first (show 0 < S1x1.numel by decide)))
/-- The second encoding's consistency loss. -/
def vcOut (cons : Vec F S2x1 .f32) : FVec F S1x1 .f32 :=
  k0_pay2 (View.ld cons (Rect.unit (s := S2x1) ![1, 0] S1x1.size inb_S2x1_S1x1_1_0) (Shape.Idx.first (show 0 < S1x1.numel by decide)))
/-- The mode stored for an encoding and a batch. -/
def modeAt (modes : Vec F S2x8 .i32) (s b : ℕ) (h : ∀ a, (![s, b] : Fin 2 → ℕ) a + S1x1.size a ≤ S2x8.size a) : BitVec 32 :=
  View.ld modes (Rect.unit (s := S2x8) ![s, b] S1x1.size h) (Shape.Idx.first (show 0 < S1x1.numel by decide))
/-- Whether the two encodings' modes agree, as a word. -/
def modeEq (x y : BitVec 32) : BitVec 32 := Scalar.select (Scalar.cmpi .eq x y) 1#32 0#32
/-- The number of batches whose two modes agree. -/
def eqOut (modes : Vec F S2x8 .i32) : IVec S1x1 32 :=
  k0_pay3 (Scalar.addi (Scalar.addi (Scalar.addi (Scalar.addi (Scalar.addi (Scalar.addi (Scalar.addi (Scalar.addi 0#32
    (modeEq (modeAt modes 0 0 inb_S2x8_S1x1_0_0) (modeAt modes 1 0 inb_S2x8_S1x1_1_0)))
    (modeEq (modeAt modes 0 1 inb_S2x8_S1x1_0_1) (modeAt modes 1 1 inb_S2x8_S1x1_1_1)))
    (modeEq (modeAt modes 0 2 inb_S2x8_S1x1_0_2) (modeAt modes 1 2 inb_S2x8_S1x1_1_2)))
    (modeEq (modeAt modes 0 3 inb_S2x8_S1x1_0_3) (modeAt modes 1 3 inb_S2x8_S1x1_1_3)))
    (modeEq (modeAt modes 0 4 inb_S2x8_S1x1_0_4) (modeAt modes 1 4 inb_S2x8_S1x1_1_4)))
    (modeEq (modeAt modes 0 5 inb_S2x8_S1x1_0_5) (modeAt modes 1 5 inb_S2x8_S1x1_1_5)))
    (modeEq (modeAt modes 0 6 inb_S2x8_S1x1_0_6) (modeAt modes 1 6 inb_S2x8_S1x1_1_6)))
    (modeEq (modeAt modes 0 7 inb_S2x8_S1x1_0_7) (modeAt modes 1 7 inb_S2x8_S1x1_1_7)))

end Cert.KernelIdeal.Hand

end
-- ==== Proof.KernelIdeal.StepA.lean ====
/- What the body leaves at the first point, as functions of values. -/
module

public import proofs.«01_k».proof.Proof.KernelIdeal.RunA
public import proofs.«01_k».proof.Proof.KernelIdeal.Steps

@[expose] public section

-- long rectangles (8192 entries a row) are looked through coordinate by coordinate
set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem piecesA_8 (c : Dev nD) (i : grid0.Coords) (arg2 : Memref sig .tc .vmem S1x128x64 .f32) (harg2 : arg2.IsWhole) (arg3 : Memref sig .tc .vmem S1x128x64 .f32) (harg3 : arg3.IsWhole) (arg4 : Memref sig .tc .vmem S8192x64 .bf16) (harg4 : arg4.IsWhole) (arg5 : Memref sig .tc .vmem S64x8192 .f32) (harg5 : arg5.IsWhole) (arg6 : Memref sig .tc .vmem S1x8192 .f32) (harg6 : arg6.IsWhole) (arg7 : Memref sig .tc .vmem S64x8192 .f32) (harg7 : arg7.IsWhole) (arg8 : Memref sig .tc .vmem S1x1x128x64 .f32) (harg8 : arg8.IsWhole) (arg9 : Memref sig .tc .vmem S64x8192 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x1 .i32) (harg13 : arg13.IsWhole) (arg14 : Memref sig .tc .vmem S2x8192 .f32) (harg14 : arg14.IsWhole) (arg15 : Memref sig .tc .vmem S128x8192 .f32) (harg15 : arg15.IsWhole) (arg16 : Memref sig .tc .vmem S16x8192 .f32) (harg16 : arg16.IsWhole) (arg17 : Memref sig .tc .smem S2x1 .f32) (harg17 : arg17.IsWhole) (arg18 : Memref sig .tc .smem S2x8 .i32) (harg18 : arg18.IsWhole) (arg19 : Memref sig .tc .vmem S1x8192 .f32) (harg19 : arg19.IsWhole) (hc0 : cond0 i) (hc1 : ¬cond1 i) (x2 : Vec F S1x128x64 .f32) (x3 : Vec F S1x128x64 .f32) (x4 : Vec F S8192x64 .bf16) (x5 : Vec F S64x8192 .f32) (x6 : Vec F S1x8192 .f32) (x7 : Vec F S64x8192 .f32) (x14 : Vec F S2x8192 .f32) (x15 : Vec F S128x8192 .f32) (x16 : Vec F S16x8192 .f32) (x17 : Vec F S2x1 .f32) (x18 : Vec F S2x8 .i32) (x19 : Vec F S1x8192 .f32) (f : arg8.view.ty.Contents (Elt F)) :
    arg8.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x14 x15 x16 x17 x18 x19).1 = harg8.unread (qV i x2 x3 x4 x5) := by
  unfold runA; dsimp only
  rw [writes_full harg8]
  simp only [qV, idxV, runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.v10, runA.sl.v131, readAt_full harg2, readAt_full harg3, readAt_full harg4, readAt_full harg5, readAt_full harg6, readAt_full harg7, readAt_full harg19]
  try rfl

theorem piecesA_14 (c : Dev nD) (i : grid0.Coords) (arg2 : Memref sig .tc .vmem S1x128x64 .f32) (harg2 : arg2.IsWhole) (arg3 : Memref sig .tc .vmem S1x128x64 .f32) (harg3 : arg3.IsWhole) (arg4 : Memref sig .tc .vmem S8192x64 .bf16) (harg4 : arg4.IsWhole) (arg5 : Memref sig .tc .vmem S64x8192 .f32) (harg5 : arg5.IsWhole) (arg6 : Memref sig .tc .vmem S1x8192 .f32) (harg6 : arg6.IsWhole) (arg7 : Memref sig .tc .vmem S64x8192 .f32) (harg7 : arg7.IsWhole) (arg8 : Memref sig .tc .vmem S1x1x128x64 .f32) (harg8 : arg8.IsWhole) (arg9 : Memref sig .tc .vmem S64x8192 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x1 .i32) (harg13 : arg13.IsWhole) (arg14 : Memref sig .tc .vmem S2x8192 .f32) (harg14 : arg14.IsWhole) (arg15 : Memref sig .tc .vmem S128x8192 .f32) (harg15 : arg15.IsWhole) (arg16 : Memref sig .tc .vmem S16x8192 .f32) (harg16 : arg16.IsWhole) (arg17 : Memref sig .tc .smem S2x1 .f32) (harg17 : arg17.IsWhole) (arg18 : Memref sig .tc .smem S2x8 .i32) (harg18 : arg18.IsWhole) (arg19 : Memref sig .tc .vmem S1x8192 .f32) (harg19 : arg19.IsWhole) (hc0 : cond0 i) (hc1 : ¬cond1 i) (x2 : Vec F S1x128x64 .f32) (x3 : Vec F S1x128x64 .f32) (x4 : Vec F S8192x64 .bf16) (x5 : Vec F S64x8192 .f32) (x6 : Vec F S1x8192 .f32) (x7 : Vec F S64x8192 .f32) (x14 : Vec F S2x8192 .f32) (x15 : Vec F S128x8192 .f32) (x16 : Vec F S16x8192 .f32) (x17 : Vec F S2x1 .f32) (x18 : Vec F S2x8 .i32) (x19 : Vec F S1x8192 .f32) :
    arg14.view.writes (Elt F) (harg14.unread k0_pay14) (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x14 x15 x16 x17 x18 x19).2.1 = harg14.unread (cntPut i x2 x3 x5 k0_pay14) := by
  unfold runA; dsimp only
  rw [writes_part harg14]
  simp only [cntPut, statsV, adjV, distV, dminV, idxV, runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.v10, runA.sl.v131, readAt_full harg2, readAt_full harg3, readAt_full harg4, readAt_full harg5, readAt_full harg6, readAt_full harg7, readAt_full harg19, readAt_part]
  try rfl

theorem piecesA_15 (c : Dev nD) (i : grid0.Coords) (arg2 : Memref sig .tc .vmem S1x128x64 .f32) (harg2 : arg2.IsWhole) (arg3 : Memref sig .tc .vmem S1x128x64 .f32) (harg3 : arg3.IsWhole) (arg4 : Memref sig .tc .vmem S8192x64 .bf16) (harg4 : arg4.IsWhole) (arg5 : Memref sig .tc .vmem S64x8192 .f32) (harg5 : arg5.IsWhole) (arg6 : Memref sig .tc .vmem S1x8192 .f32) (harg6 : arg6.IsWhole) (arg7 : Memref sig .tc .vmem S64x8192 .f32) (harg7 : arg7.IsWhole) (arg8 : Memref sig .tc .vmem S1x1x128x64 .f32) (harg8 : arg8.IsWhole) (arg9 : Memref sig .tc .vmem S64x8192 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x1 .i32) (harg13 : arg13.IsWhole) (arg14 : Memref sig .tc .vmem S2x8192 .f32) (harg14 : arg14.IsWhole) (arg15 : Memref sig .tc .vmem S128x8192 .f32) (harg15 : arg15.IsWhole) (arg16 : Memref sig .tc .vmem S16x8192 .f32) (harg16 : arg16.IsWhole) (arg17 : Memref sig .tc .smem S2x1 .f32) (harg17 : arg17.IsWhole) (arg18 : Memref sig .tc .smem S2x8 .i32) (harg18 : arg18.IsWhole) (arg19 : Memref sig .tc .vmem S1x8192 .f32) (harg19 : arg19.IsWhole) (hc0 : cond0 i) (hc1 : ¬cond1 i) (x2 : Vec F S1x128x64 .f32) (x3 : Vec F S1x128x64 .f32) (x4 : Vec F S8192x64 .bf16) (x5 : Vec F S64x8192 .f32) (x6 : Vec F S1x8192 .f32) (x7 : Vec F S64x8192 .f32) (x14 : Vec F S2x8192 .f32) (x15 : Vec F S128x8192 .f32) (x16 : Vec F S16x8192 .f32) (x17 : Vec F S2x1 .f32) (x18 : Vec F S2x8 .i32) (x19 : Vec F S1x8192 .f32) :
    arg15.view.writes (Elt F) (harg15.unread k0_pay15) (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x14 x15 x16 x17 x18 x19).2.2.1 = harg15.unread (dwPut i x2 x3 x5 k0_pay15) := by
  unfold runA; dsimp only
  rw [writes_part harg15]
  simp only [dwPut, statsV, adjV, distV, dminV, idxV, runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.v10, runA.sl.v131, readAt_full harg2, readAt_full harg3, readAt_full harg4, readAt_full harg5, readAt_full harg6, readAt_full harg7, readAt_full harg19, readAt_part]
  try rfl

theorem piecesA_16 (c : Dev nD) (i : grid0.Coords) (arg2 : Memref sig .tc .vmem S1x128x64 .f32) (harg2 : arg2.IsWhole) (arg3 : Memref sig .tc .vmem S1x128x64 .f32) (harg3 : arg3.IsWhole) (arg4 : Memref sig .tc .vmem S8192x64 .bf16) (harg4 : arg4.IsWhole) (arg5 : Memref sig .tc .vmem S64x8192 .f32) (harg5 : arg5.IsWhole) (arg6 : Memref sig .tc .vmem S1x8192 .f32) (harg6 : arg6.IsWhole) (arg7 : Memref sig .tc .vmem S64x8192 .f32) (harg7 : arg7.IsWhole) (arg8 : Memref sig .tc .vmem S1x1x128x64 .f32) (harg8 : arg8.IsWhole) (arg9 : Memref sig .tc .vmem S64x8192 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x1 .i32) (harg13 : arg13.IsWhole) (arg14 : Memref sig .tc .vmem S2x8192 .f32) (harg14 : arg14.IsWhole) (arg15 : Memref sig .tc .vmem S128x8192 .f32) (harg15 : arg15.IsWhole) (arg16 : Memref sig .tc .vmem S16x8192 .f32) (harg16 : arg16.IsWhole) (arg17 : Memref sig .tc .smem S2x1 .f32) (harg17 : arg17.IsWhole) (arg18 : Memref sig .tc .smem S2x8 .i32) (harg18 : arg18.IsWhole) (arg19 : Memref sig .tc .vmem S1x8192 .f32) (harg19 : arg19.IsWhole) (hc0 : cond0 i) (hc1 : ¬cond1 i) (x2 : Vec F S1x128x64 .f32) (x3 : Vec F S1x128x64 .f32) (x4 : Vec F S8192x64 .bf16) (x5 : Vec F S64x8192 .f32) (x6 : Vec F S1x8192 .f32) (x7 : Vec F S64x8192 .f32) (x14 : Vec F S2x8192 .f32) (x15 : Vec F S128x8192 .f32) (x16 : Vec F S16x8192 .f32) (x17 : Vec F S2x1 .f32) (x18 : Vec F S2x8 .i32) (x19 : Vec F S1x8192 .f32) :
    arg16.view.writes (Elt F) (harg16.unread x16) (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x14 x15 x16 x17 x18 x19).2.2.2.1 = harg16.unread (phPut i x2 x3 x5 x16) := by
  unfold runA; dsimp only
  rw [writes_part harg16]
  simp only [phPut, phV, distV, dminV, runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.v10, runA.sl.v131, readAt_full harg2, readAt_full harg3, readAt_full harg4, readAt_full harg5, readAt_full harg6, readAt_full harg7, readAt_full harg19, readAt_part]
  try rfl

theorem piecesA_17 (c : Dev nD) (i : grid0.Coords) (arg2 : Memref sig .tc .vmem S1x128x64 .f32) (harg2 : arg2.IsWhole) (arg3 : Memref sig .tc .vmem S1x128x64 .f32) (harg3 : arg3.IsWhole) (arg4 : Memref sig .tc .vmem S8192x64 .bf16) (harg4 : arg4.IsWhole) (arg5 : Memref sig .tc .vmem S64x8192 .f32) (harg5 : arg5.IsWhole) (arg6 : Memref sig .tc .vmem S1x8192 .f32) (harg6 : arg6.IsWhole) (arg7 : Memref sig .tc .vmem S64x8192 .f32) (harg7 : arg7.IsWhole) (arg8 : Memref sig .tc .vmem S1x1x128x64 .f32) (harg8 : arg8.IsWhole) (arg9 : Memref sig .tc .vmem S64x8192 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x1 .i32) (harg13 : arg13.IsWhole) (arg14 : Memref sig .tc .vmem S2x8192 .f32) (harg14 : arg14.IsWhole) (arg15 : Memref sig .tc .vmem S128x8192 .f32) (harg15 : arg15.IsWhole) (arg16 : Memref sig .tc .vmem S16x8192 .f32) (harg16 : arg16.IsWhole) (arg17 : Memref sig .tc .smem S2x1 .f32) (harg17 : arg17.IsWhole) (arg18 : Memref sig .tc .smem S2x8 .i32) (harg18 : arg18.IsWhole) (arg19 : Memref sig .tc .vmem S1x8192 .f32) (harg19 : arg19.IsWhole) (hc0 : cond0 i) (hc1 : ¬cond1 i) (x2 : Vec F S1x128x64 .f32) (x3 : Vec F S1x128x64 .f32) (x4 : Vec F S8192x64 .bf16) (x5 : Vec F S64x8192 .f32) (x6 : Vec F S1x8192 .f32) (x7 : Vec F S64x8192 .f32) (x14 : Vec F S2x8192 .f32) (x15 : Vec F S128x8192 .f32) (x16 : Vec F S16x8192 .f32) (x17 : Vec F S2x1 .f32) (x18 : Vec F S2x8 .i32) (x19 : Vec F S1x8192 .f32) :
    arg17.view.writes (Elt F) (harg17.unread consZero) (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x14 x15 x16 x17 x18 x19).2.2.2.2.1 = harg17.unread (consPut i x2 x3 x5 consZero) := by
  unfold runA; dsimp only
  rw [writes_part harg17]
  simp only [consPut, distV, dminV, runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.v10, runA.sl.v131, readAt_full harg2, readAt_full harg3, readAt_full harg4, readAt_full harg5, readAt_full harg6, readAt_full harg7, readAt_full harg19, readAt_part]
  try rfl

theorem piecesA_18 (c : Dev nD) (i : grid0.Coords) (arg2 : Memref sig .tc .vmem S1x128x64 .f32) (harg2 : arg2.IsWhole) (arg3 : Memref sig .tc .vmem S1x128x64 .f32) (harg3 : arg3.IsWhole) (arg4 : Memref sig .tc .vmem S8192x64 .bf16) (harg4 : arg4.IsWhole) (arg5 : Memref sig .tc .vmem S64x8192 .f32) (harg5 : arg5.IsWhole) (arg6 : Memref sig .tc .vmem S1x8192 .f32) (harg6 : arg6.IsWhole) (arg7 : Memref sig .tc .vmem S64x8192 .f32) (harg7 : arg7.IsWhole) (arg8 : Memref sig .tc .vmem S1x1x128x64 .f32) (harg8 : arg8.IsWhole) (arg9 : Memref sig .tc .vmem S64x8192 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x1 .i32) (harg13 : arg13.IsWhole) (arg14 : Memref sig .tc .vmem S2x8192 .f32) (harg14 : arg14.IsWhole) (arg15 : Memref sig .tc .vmem S128x8192 .f32) (harg15 : arg15.IsWhole) (arg16 : Memref sig .tc .vmem S16x8192 .f32) (harg16 : arg16.IsWhole) (arg17 : Memref sig .tc .smem S2x1 .f32) (harg17 : arg17.IsWhole) (arg18 : Memref sig .tc .smem S2x8 .i32) (harg18 : arg18.IsWhole) (arg19 : Memref sig .tc .vmem S1x8192 .f32) (harg19 : arg19.IsWhole) (hc0 : cond0 i) (hc1 : ¬cond1 i) (x2 : Vec F S1x128x64 .f32) (x3 : Vec F S1x128x64 .f32) (x4 : Vec F S8192x64 .bf16) (x5 : Vec F S64x8192 .f32) (x6 : Vec F S1x8192 .f32) (x7 : Vec F S64x8192 .f32) (x14 : Vec F S2x8192 .f32) (x15 : Vec F S128x8192 .f32) (x16 : Vec F S16x8192 .f32) (x17 : Vec F S2x1 .f32) (x18 : Vec F S2x8 .i32) (x19 : Vec F S1x8192 .f32) :
    arg18.view.writes (Elt F) (harg18.unread x18) (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x14 x15 x16 x17 x18 x19).2.2.2.2.2.1 = harg18.unread (modesPut i x2 x3 x5 x18) := by
  unfold runA; dsimp only
  rw [writes_part harg18]
  simp only [modesPut, modeV, statsV, adjV, distV, dminV, idxV, runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.v10, runA.sl.v131, readAt_full harg2, readAt_full harg3, readAt_full harg4, readAt_full harg5, readAt_full harg6, readAt_full harg7, readAt_full harg19, readAt_part]
  try rfl

set_option maxHeartbeats 2000000 in
/-- The body's triple in this case: every buffer it stores into ends at a stated value. -/
theorem stepA (c : Dev nD) (i : grid0.Coords) (arg2 : Memref sig .tc .vmem S1x128x64 .f32) (harg2 : arg2.IsWhole) (arg3 : Memref sig .tc .vmem S1x128x64 .f32) (harg3 : arg3.IsWhole) (arg4 : Memref sig .tc .vmem S8192x64 .bf16) (harg4 : arg4.IsWhole) (arg5 : Memref sig .tc .vmem S64x8192 .f32) (harg5 : arg5.IsWhole) (arg6 : Memref sig .tc .vmem S1x8192 .f32) (harg6 : arg6.IsWhole) (arg7 : Memref sig .tc .vmem S64x8192 .f32) (harg7 : arg7.IsWhole) (arg8 : Memref sig .tc .vmem S1x1x128x64 .f32) (harg8 : arg8.IsWhole) (arg9 : Memref sig .tc .vmem S64x8192 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x1 .i32) (harg13 : arg13.IsWhole) (arg14 : Memref sig .tc .vmem S2x8192 .f32) (harg14 : arg14.IsWhole) (arg15 : Memref sig .tc .vmem S128x8192 .f32) (harg15 : arg15.IsWhole) (arg16 : Memref sig .tc .vmem S16x8192 .f32) (harg16 : arg16.IsWhole) (arg17 : Memref sig .tc .smem S2x1 .f32) (harg17 : arg17.IsWhole) (arg18 : Memref sig .tc .smem S2x8 .i32) (harg18 : arg18.IsWhole) (arg19 : Memref sig .tc .vmem S1x8192 .f32) (harg19 : arg19.IsWhole) (hc0 : cond0 i) (hc1 : ¬cond1 i) (x2 : Vec F S1x128x64 .f32) (x3 : Vec F S1x128x64 .f32) (x4 : Vec F S8192x64 .bf16) (x5 : Vec F S64x8192 .f32) (x6 : Vec F S1x8192 .f32) (x7 : Vec F S64x8192 .f32) (x14 : Vec F S2x8192 .f32) (x15 : Vec F S128x8192 .f32) (x16 : Vec F S16x8192 .f32) (x17 : Vec F S2x1 .f32) (x18 : Vec F S2x8 .i32) (x19 : Vec F S1x8192 .f32)
    (y9 : Vec F S64x8192 .f32) (y10 : Vec F S1x1 .f32) (y11 : Vec F S1x1 .f32) (y12 : Vec F S1x1 .f32) (y13 : Vec F S1x1 .i32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg9 fullShare y9 ∗ owns (c : Thread nD τ) arg10 fullShare y10 ∗ owns (c : Thread nD τ) arg11 fullShare y11 ∗ owns (c : Thread nD τ) arg12 fullShare y12 ∗ owns (c : Thread nD τ) arg13 fullShare y13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (qV i x2 x3 x4 x5) ∗ owns (c : Thread nD τ) arg9 fullShare y9 ∗ owns (c : Thread nD τ) arg10 fullShare y10 ∗ owns (c : Thread nD τ) arg11 fullShare y11 ∗ owns (c : Thread nD τ) arg12 fullShare y12 ∗ owns (c : Thread nD τ) arg13 fullShare y13 ∗ owns (c : Thread nD τ) arg14 fullShare (cntPut i x2 x3 x5 k0_pay14) ∗ owns (c : Thread nD τ) arg15 fullShare (dwPut i x2 x3 x5 k0_pay15) ∗ owns (c : Thread nD τ) arg16 fullShare (phPut i x2 x3 x5 x16) ∗ owns (c : Thread nD τ) arg17 fullShare (consPut i x2 x3 x5 consZero) ∗ owns (c : Thread nD τ) arg18 fullShare (modesPut i x2 x3 x5 x18) ∗ owns (c : Thread nD τ) arg19 fullShare (esqV x5)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  have H := (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x14 x15 x16 x17 x18 x19).2.2.2.2.2.2 y9 y10 y11 y12 y13 E K
  have e8 := piecesA_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x14 x15 x16 x17 x18 x19
  have e14 := piecesA_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x14 x15 x16 x17 x18 x19
  have e15 := piecesA_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x14 x15 x16 x17 x18 x19
  have e16 := piecesA_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x14 x15 x16 x17 x18 x19
  have e17 := piecesA_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x14 x15 x16 x17 x18 x19
  have e18 := piecesA_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x14 x15 x16 x17 x18 x19
  simp only [e8, e14, e15, e16, e17, e18] at H
  iintro ⟨H2, H3, H4, H5, H6, H7, H8, H9, H10, H11, H12, H13, H14, H15, H16, H17, H18, H19, Hk⟩
  iapply H
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iintro ⟨H2, H3, H4, H5, H6, H7, ⟨%f8, H8⟩, H9, H10, H11, H12, H13, H14, H15, H16, H17, H18, H19⟩
  iapply Hk
  isplitl [H2]
  · iexact H2
  isplitl [H3]
  · iexact H3
  isplitl [H4]
  · iexact H4
  isplitl [H5]
  · iexact H5
  isplitl [H6]
  · iexact H6
  isplitl [H7]
  · iexact H7
  isplitl [H8]
  · unfold owns; iexists _; isplitr; swap; · iexact H8
    ipureintro; exact harg8.read_unread _
  isplitl [H9]
  · iexact H9
  isplitl [H10]
  · iexact H10
  isplitl [H11]
  · iexact H11
  isplitl [H12]
  · iexact H12
  isplitl [H13]
  · iexact H13
  isplitl [H14]
  · unfold owns; iexists _; isplitr; swap; · iexact H14
    ipureintro; exact harg14.read_unread _
  isplitl [H15]
  · unfold owns; iexists _; isplitr; swap; · iexact H15
    ipureintro; exact harg15.read_unread _
  isplitl [H16]
  · unfold owns; iexists _; isplitr; swap; · iexact H16
    ipureintro; exact harg16.read_unread _
  isplitl [H17]
  · unfold owns; iexists _; isplitr; swap; · iexact H17
    ipureintro; exact harg17.read_unread _
  isplitl [H18]
  · unfold owns; iexists _; isplitr; swap; · iexact H18
    ipureintro; exact harg18.read_unread _
  iexact H19

end Cert.KernelIdeal.Hand

end
-- ==== Proof.KernelIdeal.RunB.lean ====
/- The run of the body at a point that is neither the first nor the last. -/
module

public import proofs.«01_k».proof.Proof.KernelIdeal.Cases

@[expose] public section

-- long rectangles (8192 entries a row) are looked through coordinate by coordinate
set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in every buffer it stores into (last store first), found by running the body,
    with the triple they come from: the inputs' buffers keep their contents, the scratch buffers start at the contents
    `x14`, …, `x19` and end with the pieces written over them, and the outputs written at the last point only are handed back untouched. -/
noncomputable def runB (c : Dev nD) (i : grid0.Coords) (arg2 : Memref sig .tc .vmem S1x128x64 .f32) (harg2 : arg2.IsWhole) (arg3 : Memref sig .tc .vmem S1x128x64 .f32) (harg3 : arg3.IsWhole) (arg4 : Memref sig .tc .vmem S8192x64 .bf16) (harg4 : arg4.IsWhole) (arg5 : Memref sig .tc .vmem S64x8192 .f32) (harg5 : arg5.IsWhole) (arg6 : Memref sig .tc .vmem S1x8192 .f32) (harg6 : arg6.IsWhole) (arg7 : Memref sig .tc .vmem S64x8192 .f32) (harg7 : arg7.IsWhole) (arg8 : Memref sig .tc .vmem S1x1x128x64 .f32) (harg8 : arg8.IsWhole) (arg9 : Memref sig .tc .vmem S64x8192 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x1 .i32) (harg13 : arg13.IsWhole) (arg14 : Memref sig .tc .vmem S2x8192 .f32) (harg14 : arg14.IsWhole) (arg15 : Memref sig .tc .vmem S128x8192 .f32) (harg15 : arg15.IsWhole) (arg16 : Memref sig .tc .vmem S16x8192 .f32) (harg16 : arg16.IsWhole) (arg17 : Memref sig .tc .smem S2x1 .f32) (harg17 : arg17.IsWhole) (arg18 : Memref sig .tc .smem S2x8 .i32) (harg18 : arg18.IsWhole) (arg19 : Memref sig .tc .vmem S1x8192 .f32) (harg19 : arg19.IsWhole) (hc0 : ¬cond0 i) (hc1 : ¬cond1 i)
    (x2 : Vec F S1x128x64 .f32) (x3 : Vec F S1x128x64 .f32) (x4 : Vec F S8192x64 .bf16) (x5 : Vec F S64x8192 .f32) (x6 : Vec F S1x8192 .f32) (x7 : Vec F S64x8192 .f32) (x14 : Vec F S2x8192 .f32) (x15 : Vec F S128x8192 .f32) (x16 : Vec F S16x8192 .f32) (x17 : Vec F S2x1 .f32) (x18 : Vec F S2x8 .i32) (x19 : Vec F S1x8192 .f32) :
    Σ' (L8 : List (View.Piece (Elt F) S1x1x128x64 .f32)), Σ' (L14 : List (View.Piece (Elt F) S2x8192 .f32)), Σ' (L15 : List (View.Piece (Elt F) S128x8192 .f32)), Σ' (L16 : List (View.Piece (Elt F) S16x8192 .f32)), Σ' (L17 : List (View.Piece (Elt F) S2x1 .f32)), { L18 : List (View.Piece (Elt F) S2x8 .i32) //
      ∀ (y9 : Vec F S64x8192 .f32) (y10 : Vec F S1x1 .f32) (y11 : Vec F S1x1 .f32) (y12 : Vec F S1x1 .f32) (y13 : Vec F S1x1 .i32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg9 fullShare y9 ∗ owns (c : Thread nD τ) arg10 fullShare y10 ∗ owns (c : Thread nD τ) arg11 fullShare y11 ∗ owns (c : Thread nD τ) arg12 fullShare y12 ∗ owns (c : Thread nD τ) arg13 fullShare y13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} arg8.view.writes (Elt F) f L8) ∗ owns (c : Thread nD τ) arg9 fullShare y9 ∗ owns (c : Thread nD τ) arg10 fullShare y10 ∗ owns (c : Thread nD τ) arg11 fullShare y11 ∗ owns (c : Thread nD τ) arg12 fullShare y12 ∗ owns (c : Thread nD τ) arg13 fullShare y13 ∗ (arg14.view.loc (c : Thread nD τ) ↦[arg14.view.set]{fullShare} arg14.view.writes (Elt F) (harg14.unread x14) L14) ∗ (arg15.view.loc (c : Thread nD τ) ↦[arg15.view.set]{fullShare} arg15.view.writes (Elt F) (harg15.unread x15) L15) ∗ (arg16.view.loc (c : Thread nD τ) ↦[arg16.view.set]{fullShare} arg16.view.writes (Elt F) (harg16.unread x16) L16) ∗ (arg17.view.loc (c : Thread nD τ) ↦[arg17.view.set]{fullShare} arg17.view.writes (Elt F) (harg17.unread x17) L17) ∗ (arg18.view.loc (c : Thread nD τ) ↦[arg18.view.set]{fullShare} arg18.view.writes (Elt F) (harg18.unread x18) L18) ∗ owns (c : Thread nD τ) arg19 fullShare x19) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, fun y9 y10 y11 y12 y13 E K => ?run⟩
  case run =>
    simp only [cc0__fused_kernel_eq_skeleton]; unfold cc0__fused_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]; · iexact H14
    isplitl [H15]; · iexact H15
    isplitl [H16]; · iexact H16
    isplitl [H17]; · iexact H17
    isplitl [H18]; · iexact H18
    iexists _; isplitr; · ipureintro; exact harg19.read_unread _
    iexact H19

end Cert.KernelIdeal.Hand

end
-- ==== Proof.KernelIdeal.StepB.lean ====
/- What the body leaves at a point between the first and the last, as functions of values. -/
module

public import proofs.«01_k».proof.Proof.KernelIdeal.RunB
public import proofs.«01_k».proof.Proof.KernelIdeal.Steps

@[expose] public section

-- long rectangles (8192 entries a row) are looked through coordinate by coordinate
set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem piecesB_8 (c : Dev nD) (i : grid0.Coords) (arg2 : Memref sig .tc .vmem S1x128x64 .f32) (harg2 : arg2.IsWhole) (arg3 : Memref sig .tc .vmem S1x128x64 .f32) (harg3 : arg3.IsWhole) (arg4 : Memref sig .tc .vmem S8192x64 .bf16) (harg4 : arg4.IsWhole) (arg5 : Memref sig .tc .vmem S64x8192 .f32) (harg5 : arg5.IsWhole) (arg6 : Memref sig .tc .vmem S1x8192 .f32) (harg6 : arg6.IsWhole) (arg7 : Memref sig .tc .vmem S64x8192 .f32) (harg7 : arg7.IsWhole) (arg8 : Memref sig .tc .vmem S1x1x128x64 .f32) (harg8 : arg8.IsWhole) (arg9 : Memref sig .tc .vmem S64x8192 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x1 .i32) (harg13 : arg13.IsWhole) (arg14 : Memref sig .tc .vmem S2x8192 .f32) (harg14 : arg14.IsWhole) (arg15 : Memref sig .tc .vmem S128x8192 .f32) (harg15 : arg15.IsWhole) (arg16 : Memref sig .tc .vmem S16x8192 .f32) (harg16 : arg16.IsWhole) (arg17 : Memref sig .tc .smem S2x1 .f32) (harg17 : arg17.IsWhole) (arg18 : Memref sig .tc .smem S2x8 .i32) (harg18 : arg18.IsWhole) (arg19 : Memref sig .tc .vmem S1x8192 .f32) (harg19 : arg19.IsWhole) (hc0 : ¬cond0 i) (hc1 : ¬cond1 i) (x2 : Vec F S1x128x64 .f32) (x3 : Vec F S1x128x64 .f32) (x4 : Vec F S8192x64 .bf16) (x5 : Vec F S64x8192 .f32) (x6 : Vec F S1x8192 .f32) (x7 : Vec F S64x8192 .f32) (x14 : Vec F S2x8192 .f32) (x15 : Vec F S128x8192 .f32) (x16 : Vec F S16x8192 .f32) (x17 : Vec F S2x1 .f32) (x18 : Vec F S2x8 .i32) (f : arg8.view.ty.Contents (Elt F)) :
    arg8.view.writes (Elt F) f (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x14 x15 x16 x17 x18 (esqV x5)).1 = harg8.unread (qV i x2 x3 x4 x5) := by
  unfold runB; dsimp only
  rw [writes_full harg8]
  simp only [qV, idxV, runB.sl.r, runB.sl.r_1, runB.sl.r_2, runB.sl.r_3, runB.sl.r_4, runB.sl.r_5, runB.sl.r_6, runB.sl.r_7, runB.sl.r_8, runB.sl.r_9, runB.sl.r_10, runB.sl.v10, runB.sl.v131, readAt_full harg2, readAt_full harg3, readAt_full harg4, readAt_full harg5, readAt_full harg6, readAt_full harg7, readAt_full harg19]
  try rfl

theorem piecesB_14 (c : Dev nD) (i : grid0.Coords) (arg2 : Memref sig .tc .vmem S1x128x64 .f32) (harg2 : arg2.IsWhole) (arg3 : Memref sig .tc .vmem S1x128x64 .f32) (harg3 : arg3.IsWhole) (arg4 : Memref sig .tc .vmem S8192x64 .bf16) (harg4 : arg4.IsWhole) (arg5 : Memref sig .tc .vmem S64x8192 .f32) (harg5 : arg5.IsWhole) (arg6 : Memref sig .tc .vmem S1x8192 .f32) (harg6 : arg6.IsWhole) (arg7 : Memref sig .tc .vmem S64x8192 .f32) (harg7 : arg7.IsWhole) (arg8 : Memref sig .tc .vmem S1x1x128x64 .f32) (harg8 : arg8.IsWhole) (arg9 : Memref sig .tc .vmem S64x8192 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x1 .i32) (harg13 : arg13.IsWhole) (arg14 : Memref sig .tc .vmem S2x8192 .f32) (harg14 : arg14.IsWhole) (arg15 : Memref sig .tc .vmem S128x8192 .f32) (harg15 : arg15.IsWhole) (arg16 : Memref sig .tc .vmem S16x8192 .f32) (harg16 : arg16.IsWhole) (arg17 : Memref sig .tc .smem S2x1 .f32) (harg17 : arg17.IsWhole) (arg18 : Memref sig .tc .smem S2x8 .i32) (harg18 : arg18.IsWhole) (arg19 : Memref sig .tc .vmem S1x8192 .f32) (harg19 : arg19.IsWhole) (hc0 : ¬cond0 i) (hc1 : ¬cond1 i) (x2 : Vec F S1x128x64 .f32) (x3 : Vec F S1x128x64 .f32) (x4 : Vec F S8192x64 .bf16) (x5 : Vec F S64x8192 .f32) (x6 : Vec F S1x8192 .f32) (x7 : Vec F S64x8192 .f32) (x14 : Vec F S2x8192 .f32) (x15 : Vec F S128x8192 .f32) (x16 : Vec F S16x8192 .f32) (x17 : Vec F S2x1 .f32) (x18 : Vec F S2x8 .i32) :
    arg14.view.writes (Elt F) (harg14.unread x14) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x14 x15 x16 x17 x18 (esqV x5)).2.1 = harg14.unread (cntPut i x2 x3 x5 x14) := by
  unfold runB; dsimp only
  rw [writes_part harg14]
  simp only [cntPut, statsV, adjV, distV, dminV, idxV, runB.sl.r, runB.sl.r_1, runB.sl.r_2, runB.sl.r_3, runB.sl.r_4, runB.sl.r_5, runB.sl.r_6, runB.sl.r_7, runB.sl.r_8, runB.sl.r_9, runB.sl.r_10, runB.sl.v10, runB.sl.v131, readAt_full harg2, readAt_full harg3, readAt_full harg4, readAt_full harg5, readAt_full harg6, readAt_full harg7, readAt_full harg19, readAt_part]
  try rfl

theorem piecesB_15 (c : Dev nD) (i : grid0.Coords) (arg2 : Memref sig .tc .vmem S1x128x64 .f32) (harg2 : arg2.IsWhole) (arg3 : Memref sig .tc .vmem S1x128x64 .f32) (harg3 : arg3.IsWhole) (arg4 : Memref sig .tc .vmem S8192x64 .bf16) (harg4 : arg4.IsWhole) (arg5 : Memref sig .tc .vmem S64x8192 .f32) (harg5 : arg5.IsWhole) (arg6 : Memref sig .tc .vmem S1x8192 .f32) (harg6 : arg6.IsWhole) (arg7 : Memref sig .tc .vmem S64x8192 .f32) (harg7 : arg7.IsWhole) (arg8 : Memref sig .tc .vmem S1x1x128x64 .f32) (harg8 : arg8.IsWhole) (arg9 : Memref sig .tc .vmem S64x8192 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x1 .i32) (harg13 : arg13.IsWhole) (arg14 : Memref sig .tc .vmem S2x8192 .f32) (harg14 : arg14.IsWhole) (arg15 : Memref sig .tc .vmem S128x8192 .f32) (harg15 : arg15.IsWhole) (arg16 : Memref sig .tc .vmem S16x8192 .f32) (harg16 : arg16.IsWhole) (arg17 : Memref sig .tc .smem S2x1 .f32) (harg17 : arg17.IsWhole) (arg18 : Memref sig .tc .smem S2x8 .i32) (harg18 : arg18.IsWhole) (arg19 : Memref sig .tc .vmem S1x8192 .f32) (harg19 : arg19.IsWhole) (hc0 : ¬cond0 i) (hc1 : ¬cond1 i) (x2 : Vec F S1x128x64 .f32) (x3 : Vec F S1x128x64 .f32) (x4 : Vec F S8192x64 .bf16) (x5 : Vec F S64x8192 .f32) (x6 : Vec F S1x8192 .f32) (x7 : Vec F S64x8192 .f32) (x14 : Vec F S2x8192 .f32) (x15 : Vec F S128x8192 .f32) (x16 : Vec F S16x8192 .f32) (x17 : Vec F S2x1 .f32) (x18 : Vec F S2x8 .i32) :
    arg15.view.writes (Elt F) (harg15.unread x15) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x14 x15 x16 x17 x18 (esqV x5)).2.2.1 = harg15.unread (dwPut i x2 x3 x5 x15) := by
  unfold runB; dsimp only
  rw [writes_part harg15]
  simp only [dwPut, statsV, adjV, distV, dminV, idxV, runB.sl.r, runB.sl.r_1, runB.sl.r_2, runB.sl.r_3, runB.sl.r_4, runB.sl.r_5, runB.sl.r_6, runB.sl.r_7, runB.sl.r_8, runB.sl.r_9, runB.sl.r_10, runB.sl.v10, runB.sl.v131, readAt_full harg2, readAt_full harg3, readAt_full harg4, readAt_full harg5, readAt_full harg6, readAt_full harg7, readAt_full harg19, readAt_part]
  try rfl

theorem piecesB_16 (c : Dev nD) (i : grid0.Coords) (arg2 : Memref sig .tc .vmem S1x128x64 .f32) (harg2 : arg2.IsWhole) (arg3 : Memref sig .tc .vmem S1x128x64 .f32) (harg3 : arg3.IsWhole) (arg4 : Memref sig .tc .vmem S8192x64 .bf16) (harg4 : arg4.IsWhole) (arg5 : Memref sig .tc .vmem S64x8192 .f32) (harg5 : arg5.IsWhole) (arg6 : Memref sig .tc .vmem S1x8192 .f32) (harg6 : arg6.IsWhole) (arg7 : Memref sig .tc .vmem S64x8192 .f32) (harg7 : arg7.IsWhole) (arg8 : Memref sig .tc .vmem S1x1x128x64 .f32) (harg8 : arg8.IsWhole) (arg9 : Memref sig .tc .vmem S64x8192 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x1 .i32) (harg13 : arg13.IsWhole) (arg14 : Memref sig .tc .vmem S2x8192 .f32) (harg14 : arg14.IsWhole) (arg15 : Memref sig .tc .vmem S128x8192 .f32) (harg15 : arg15.IsWhole) (arg16 : Memref sig .tc .vmem S16x8192 .f32) (harg16 : arg16.IsWhole) (arg17 : Memref sig .tc .smem S2x1 .f32) (harg17 : arg17.IsWhole) (arg18 : Memref sig .tc .smem S2x8 .i32) (harg18 : arg18.IsWhole) (arg19 : Memref sig .tc .vmem S1x8192 .f32) (harg19 : arg19.IsWhole) (hc0 : ¬cond0 i) (hc1 : ¬cond1 i) (x2 : Vec F S1x128x64 .f32) (x3 : Vec F S1x128x64 .f32) (x4 : Vec F S8192x64 .bf16) (x5 : Vec F S64x8192 .f32) (x6 : Vec F S1x8192 .f32) (x7 : Vec F S64x8192 .f32) (x14 : Vec F S2x8192 .f32) (x15 : Vec F S128x8192 .f32) (x16 : Vec F S16x8192 .f32) (x17 : Vec F S2x1 .f32) (x18 : Vec F S2x8 .i32) :
    arg16.view.writes (Elt F) (harg16.unread x16) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x14 x15 x16 x17 x18 (esqV x5)).2.2.2.1 = harg16.unread (phPut i x2 x3 x5 x16) := by
  unfold runB; dsimp only
  rw [writes_part harg16]
  simp only [phPut, phV, distV, dminV, runB.sl.r, runB.sl.r_1, runB.sl.r_2, runB.sl.r_3, runB.sl.r_4, runB.sl.r_5, runB.sl.r_6, runB.sl.r_7, runB.sl.r_8, runB.sl.r_9, runB.sl.r_10, runB.sl.v10, runB.sl.v131, readAt_full harg2, readAt_full harg3, readAt_full harg4, readAt_full harg5, readAt_full harg6, readAt_full harg7, readAt_full harg19, readAt_part]
  try rfl

theorem piecesB_17 (c : Dev nD) (i : grid0.Coords) (arg2 : Memref sig .tc .vmem S1x128x64 .f32) (harg2 : arg2.IsWhole) (arg3 : Memref sig .tc .vmem S1x128x64 .f32) (harg3 : arg3.IsWhole) (arg4 : Memref sig .tc .vmem S8192x64 .bf16) (harg4 : arg4.IsWhole) (arg5 : Memref sig .tc .vmem S64x8192 .f32) (harg5 : arg5.IsWhole) (arg6 : Memref sig .tc .vmem S1x8192 .f32) (harg6 : arg6.IsWhole) (arg7 : Memref sig .tc .vmem S64x8192 .f32) (harg7 : arg7.IsWhole) (arg8 : Memref sig .tc .vmem S1x1x128x64 .f32) (harg8 : arg8.IsWhole) (arg9 : Memref sig .tc .vmem S64x8192 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x1 .i32) (harg13 : arg13.IsWhole) (arg14 : Memref sig .tc .vmem S2x8192 .f32) (harg14 : arg14.IsWhole) (arg15 : Memref sig .tc .vmem S128x8192 .f32) (harg15 : arg15.IsWhole) (arg16 : Memref sig .tc .vmem S16x8192 .f32) (harg16 : arg16.IsWhole) (arg17 : Memref sig .tc .smem S2x1 .f32) (harg17 : arg17.IsWhole) (arg18 : Memref sig .tc .smem S2x8 .i32) (harg18 : arg18.IsWhole) (arg19 : Memref sig .tc .vmem S1x8192 .f32) (harg19 : arg19.IsWhole) (hc0 : ¬cond0 i) (hc1 : ¬cond1 i) (x2 : Vec F S1x128x64 .f32) (x3 : Vec F S1x128x64 .f32) (x4 : Vec F S8192x64 .bf16) (x5 : Vec F S64x8192 .f32) (x6 : Vec F S1x8192 .f32) (x7 : Vec F S64x8192 .f32) (x14 : Vec F S2x8192 .f32) (x15 : Vec F S128x8192 .f32) (x16 : Vec F S16x8192 .f32) (x17 : Vec F S2x1 .f32) (x18 : Vec F S2x8 .i32) :
    arg17.view.writes (Elt F) (harg17.unread x17) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x14 x15 x16 x17 x18 (esqV x5)).2.2.2.2.1 = harg17.unread (consPut i x2 x3 x5 x17) := by
  unfold runB; dsimp only
  rw [writes_part harg17]
  simp only [consPut, distV, dminV, runB.sl.r, runB.sl.r_1, runB.sl.r_2, runB.sl.r_3, runB.sl.r_4, runB.sl.r_5, runB.sl.r_6, runB.sl.r_7, runB.sl.r_8, runB.sl.r_9, runB.sl.r_10, runB.sl.v10, runB.sl.v131, readAt_full harg2, readAt_full harg3, readAt_full harg4, readAt_full harg5, readAt_full harg6, readAt_full harg7, readAt_full harg19, readAt_part]
  try rfl

theorem piecesB_18 (c : Dev nD) (i : grid0.Coords) (arg2 : Memref sig .tc .vmem S1x128x64 .f32) (harg2 : arg2.IsWhole) (arg3 : Memref sig .tc .vmem S1x128x64 .f32) (harg3 : arg3.IsWhole) (arg4 : Memref sig .tc .vmem S8192x64 .bf16) (harg4 : arg4.IsWhole) (arg5 : Memref sig .tc .vmem S64x8192 .f32) (harg5 : arg5.IsWhole) (arg6 : Memref sig .tc .vmem S1x8192 .f32) (harg6 : arg6.IsWhole) (arg7 : Memref sig .tc .vmem S64x8192 .f32) (harg7 : arg7.IsWhole) (arg8 : Memref sig .tc .vmem S1x1x128x64 .f32) (harg8 : arg8.IsWhole) (arg9 : Memref sig .tc .vmem S64x8192 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x1 .i32) (harg13 : arg13.IsWhole) (arg14 : Memref sig .tc .vmem S2x8192 .f32) (harg14 : arg14.IsWhole) (arg15 : Memref sig .tc .vmem S128x8192 .f32) (harg15 : arg15.IsWhole) (arg16 : Memref sig .tc .vmem S16x8192 .f32) (harg16 : arg16.IsWhole) (arg17 : Memref sig .tc .smem S2x1 .f32) (harg17 : arg17.IsWhole) (arg18 : Memref sig .tc .smem S2x8 .i32) (harg18 : arg18.IsWhole) (arg19 : Memref sig .tc .vmem S1x8192 .f32) (harg19 : arg19.IsWhole) (hc0 : ¬cond0 i) (hc1 : ¬cond1 i) (x2 : Vec F S1x128x64 .f32) (x3 : Vec F S1x128x64 .f32) (x4 : Vec F S8192x64 .bf16) (x5 : Vec F S64x8192 .f32) (x6 : Vec F S1x8192 .f32) (x7 : Vec F S64x8192 .f32) (x14 : Vec F S2x8192 .f32) (x15 : Vec F S128x8192 .f32) (x16 : Vec F S16x8192 .f32) (x17 : Vec F S2x1 .f32) (x18 : Vec F S2x8 .i32) :
    arg18.view.writes (Elt F) (harg18.unread x18) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x14 x15 x16 x17 x18 (esqV x5)).2.2.2.2.2.1 = harg18.unread (modesPut i x2 x3 x5 x18) := by
  unfold runB; dsimp only
  rw [writes_part harg18]
  simp only [modesPut, modeV, statsV, adjV, distV, dminV, idxV, runB.sl.r, runB.sl.r_1, runB.sl.r_2, runB.sl.r_3, runB.sl.r_4, runB.sl.r_5, runB.sl.r_6, runB.sl.r_7, runB.sl.r_8, runB.sl.r_9, runB.sl.r_10, runB.sl.v10, runB.sl.v131, readAt_full harg2, readAt_full harg3, readAt_full harg4, readAt_full harg5, readAt_full harg6, readAt_full harg7, readAt_full harg19, readAt_part]
  try rfl

set_option maxHeartbeats 2000000 in
/-- The body's triple in this case: every buffer it stores into ends at a stated value. -/
theorem stepB (c : Dev nD) (i : grid0.Coords) (arg2 : Memref sig .tc .vmem S1x128x64 .f32) (harg2 : arg2.IsWhole) (arg3 : Memref sig .tc .vmem S1x128x64 .f32) (harg3 : arg3.IsWhole) (arg4 : Memref sig .tc .vmem S8192x64 .bf16) (harg4 : arg4.IsWhole) (arg5 : Memref sig .tc .vmem S64x8192 .f32) (harg5 : arg5.IsWhole) (arg6 : Memref sig .tc .vmem S1x8192 .f32) (harg6 : arg6.IsWhole) (arg7 : Memref sig .tc .vmem S64x8192 .f32) (harg7 : arg7.IsWhole) (arg8 : Memref sig .tc .vmem S1x1x128x64 .f32) (harg8 : arg8.IsWhole) (arg9 : Memref sig .tc .vmem S64x8192 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x1 .i32) (harg13 : arg13.IsWhole) (arg14 : Memref sig .tc .vmem S2x8192 .f32) (harg14 : arg14.IsWhole) (arg15 : Memref sig .tc .vmem S128x8192 .f32) (harg15 : arg15.IsWhole) (arg16 : Memref sig .tc .vmem S16x8192 .f32) (harg16 : arg16.IsWhole) (arg17 : Memref sig .tc .smem S2x1 .f32) (harg17 : arg17.IsWhole) (arg18 : Memref sig .tc .smem S2x8 .i32) (harg18 : arg18.IsWhole) (arg19 : Memref sig .tc .vmem S1x8192 .f32) (harg19 : arg19.IsWhole) (hc0 : ¬cond0 i) (hc1 : ¬cond1 i) (x2 : Vec F S1x128x64 .f32) (x3 : Vec F S1x128x64 .f32) (x4 : Vec F S8192x64 .bf16) (x5 : Vec F S64x8192 .f32) (x6 : Vec F S1x8192 .f32) (x7 : Vec F S64x8192 .f32) (x14 : Vec F S2x8192 .f32) (x15 : Vec F S128x8192 .f32) (x16 : Vec F S16x8192 .f32) (x17 : Vec F S2x1 .f32) (x18 : Vec F S2x8 .i32)
    (y9 : Vec F S64x8192 .f32) (y10 : Vec F S1x1 .f32) (y11 : Vec F S1x1 .f32) (y12 : Vec F S1x1 .f32) (y13 : Vec F S1x1 .i32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg9 fullShare y9 ∗ owns (c : Thread nD τ) arg10 fullShare y10 ∗ owns (c : Thread nD τ) arg11 fullShare y11 ∗ owns (c : Thread nD τ) arg12 fullShare y12 ∗ owns (c : Thread nD τ) arg13 fullShare y13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare (esqV x5)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (qV i x2 x3 x4 x5) ∗ owns (c : Thread nD τ) arg9 fullShare y9 ∗ owns (c : Thread nD τ) arg10 fullShare y10 ∗ owns (c : Thread nD τ) arg11 fullShare y11 ∗ owns (c : Thread nD τ) arg12 fullShare y12 ∗ owns (c : Thread nD τ) arg13 fullShare y13 ∗ owns (c : Thread nD τ) arg14 fullShare (cntPut i x2 x3 x5 x14) ∗ owns (c : Thread nD τ) arg15 fullShare (dwPut i x2 x3 x5 x15) ∗ owns (c : Thread nD τ) arg16 fullShare (phPut i x2 x3 x5 x16) ∗ owns (c : Thread nD τ) arg17 fullShare (consPut i x2 x3 x5 x17) ∗ owns (c : Thread nD τ) arg18 fullShare (modesPut i x2 x3 x5 x18) ∗ owns (c : Thread nD τ) arg19 fullShare (esqV x5)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  have H := (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x14 x15 x16 x17 x18 (esqV x5)).2.2.2.2.2.2 y9 y10 y11 y12 y13 E K
  have e8 := piecesB_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x14 x15 x16 x17 x18
  have e14 := piecesB_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x14 x15 x16 x17 x18
  have e15 := piecesB_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x14 x15 x16 x17 x18
  have e16 := piecesB_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x14 x15 x16 x17 x18
  have e17 := piecesB_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x14 x15 x16 x17 x18
  have e18 := piecesB_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x14 x15 x16 x17 x18
  simp only [e8, e14, e15, e16, e17, e18] at H
  iintro ⟨H2, H3, H4, H5, H6, H7, H8, H9, H10, H11, H12, H13, H14, H15, H16, H17, H18, H19, Hk⟩
  iapply H
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iintro ⟨H2, H3, H4, H5, H6, H7, ⟨%f8, H8⟩, H9, H10, H11, H12, H13, H14, H15, H16, H17, H18, H19⟩
  iapply Hk
  isplitl [H2]
  · iexact H2
  isplitl [H3]
  · iexact H3
  isplitl [H4]
  · iexact H4
  isplitl [H5]
  · iexact H5
  isplitl [H6]
  · iexact H6
  isplitl [H7]
  · iexact H7
  isplitl [H8]
  · unfold owns; iexists _; isplitr; swap; · iexact H8
    ipureintro; exact harg8.read_unread _
  isplitl [H9]
  · iexact H9
  isplitl [H10]
  · iexact H10
  isplitl [H11]
  · iexact H11
  isplitl [H12]
  · iexact H12
  isplitl [H13]
  · iexact H13
  isplitl [H14]
  · unfold owns; iexists _; isplitr; swap; · iexact H14
    ipureintro; exact harg14.read_unread _
  isplitl [H15]
  · unfold owns; iexists _; isplitr; swap; · iexact H15
    ipureintro; exact harg15.read_unread _
  isplitl [H16]
  · unfold owns; iexists _; isplitr; swap; · iexact H16
    ipureintro; exact harg16.read_unread _
  isplitl [H17]
  · unfold owns; iexists _; isplitr; swap; · iexact H17
    ipureintro; exact harg17.read_unread _
  isplitl [H18]
  · unfold owns; iexists _; isplitr; swap; · iexact H18
    ipureintro; exact harg18.read_unread _
  iexact H19

end Cert.KernelIdeal.Hand

end
-- ==== Proof.KernelIdeal.RunC.lean ====
/- The run of the body at the grid's last point, where the closing computation is made. -/
module

public import proofs.«01_k».proof.Proof.KernelIdeal.Cases

@[expose] public section

-- long rectangles (8192 entries a row) are looked through coordinate by coordinate
set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in every buffer it stores into (last store first), found by running the body,
    with the triple they come from: the inputs' buffers keep their contents, the scratch buffers start at the contents
    `x14`, …, `x19` and end with the pieces written over them. -/
noncomputable def runC (c : Dev nD) (i : grid0.Coords) (arg2 : Memref sig .tc .vmem S1x128x64 .f32) (harg2 : arg2.IsWhole) (arg3 : Memref sig .tc .vmem S1x128x64 .f32) (harg3 : arg3.IsWhole) (arg4 : Memref sig .tc .vmem S8192x64 .bf16) (harg4 : arg4.IsWhole) (arg5 : Memref sig .tc .vmem S64x8192 .f32) (harg5 : arg5.IsWhole) (arg6 : Memref sig .tc .vmem S1x8192 .f32) (harg6 : arg6.IsWhole) (arg7 : Memref sig .tc .vmem S64x8192 .f32) (harg7 : arg7.IsWhole) (arg8 : Memref sig .tc .vmem S1x1x128x64 .f32) (harg8 : arg8.IsWhole) (arg9 : Memref sig .tc .vmem S64x8192 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x1 .i32) (harg13 : arg13.IsWhole) (arg14 : Memref sig .tc .vmem S2x8192 .f32) (harg14 : arg14.IsWhole) (arg15 : Memref sig .tc .vmem S128x8192 .f32) (harg15 : arg15.IsWhole) (arg16 : Memref sig .tc .vmem S16x8192 .f32) (harg16 : arg16.IsWhole) (arg17 : Memref sig .tc .smem S2x1 .f32) (harg17 : arg17.IsWhole) (arg18 : Memref sig .tc .smem S2x8 .i32) (harg18 : arg18.IsWhole) (arg19 : Memref sig .tc .vmem S1x8192 .f32) (harg19 : arg19.IsWhole) (hc0 : ¬cond0 i) (hc1 : cond1 i)
    (x2 : Vec F S1x128x64 .f32) (x3 : Vec F S1x128x64 .f32) (x4 : Vec F S8192x64 .bf16) (x5 : Vec F S64x8192 .f32) (x6 : Vec F S1x8192 .f32) (x7 : Vec F S64x8192 .f32) (x14 : Vec F S2x8192 .f32) (x15 : Vec F S128x8192 .f32) (x16 : Vec F S16x8192 .f32) (x17 : Vec F S2x1 .f32) (x18 : Vec F S2x8 .i32) (x19 : Vec F S1x8192 .f32) :
    Σ' (L8 : List (View.Piece (Elt F) S1x1x128x64 .f32)), Σ' (L9 : List (View.Piece (Elt F) S64x8192 .f32)), Σ' (L10 : List (View.Piece (Elt F) S1x1 .f32)), Σ' (L11 : List (View.Piece (Elt F) S1x1 .f32)), Σ' (L12 : List (View.Piece (Elt F) S1x1 .f32)), Σ' (L13 : List (View.Piece (Elt F) S1x1 .i32)), Σ' (L14 : List (View.Piece (Elt F) S2x8192 .f32)), Σ' (L15 : List (View.Piece (Elt F) S128x8192 .f32)), Σ' (L16 : List (View.Piece (Elt F) S16x8192 .f32)), Σ' (L17 : List (View.Piece (Elt F) S2x1 .f32)), { L18 : List (View.Piece (Elt F) S2x8 .i32) //
      ∀  (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (arg14.view.loc (c : Thread nD τ) ↦[arg14.view.set]{fullShare} arg14.view.writes (Elt F) (harg14.unread x14) L14) ∗ (arg15.view.loc (c : Thread nD τ) ↦[arg15.view.set]{fullShare} arg15.view.writes (Elt F) (harg15.unread x15) L15) ∗ (arg16.view.loc (c : Thread nD τ) ↦[arg16.view.set]{fullShare} arg16.view.writes (Elt F) (harg16.unread x16) L16) ∗ (arg17.view.loc (c : Thread nD τ) ↦[arg17.view.set]{fullShare} arg17.view.writes (Elt F) (harg17.unread x17) L17) ∗ (arg18.view.loc (c : Thread nD τ) ↦[arg18.view.set]{fullShare} arg18.view.writes (Elt F) (harg18.unread x18) L18) ∗ owns (c : Thread nD τ) arg19 fullShare x19) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, ?_, ?_, ?_, ?_, ?_, fun  E K => ?run⟩
  case run =>
    simp only [cc0__fused_kernel_eq_skeleton]; unfold cc0__fused_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg14.eq_unread hf14; obtain rfl := harg15.eq_unread hf15; obtain rfl := harg16.eq_unread hf16; obtain rfl := harg17.eq_unread hf17; obtain rfl := harg18.eq_unread hf18; obtain rfl := harg19.eq_unread hf19
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexact H14
    isplitl [H15]; · iexact H15
    isplitl [H16]; · iexact H16
    isplitl [H17]; · iexact H17
    isplitl [H18]; · iexact H18
    iexists _; isplitr; · ipureintro; exact harg19.read_unread _
    iexact H19

end Cert.KernelIdeal.Hand

end
-- ==== Proof.KernelIdeal.StepC.lean ====
/- What the body leaves at the last point, as functions of values. -/
module

public import proofs.«01_k».proof.Proof.KernelIdeal.RunC
public import proofs.«01_k».proof.Proof.KernelIdeal.Steps

@[expose] public section

-- long rectangles (8192 entries a row) are looked through coordinate by coordinate
set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem piecesC_8 (c : Dev nD) (i : grid0.Coords) (arg2 : Memref sig .tc .vmem S1x128x64 .f32) (harg2 : arg2.IsWhole) (arg3 : Memref sig .tc .vmem S1x128x64 .f32) (harg3 : arg3.IsWhole) (arg4 : Memref sig .tc .vmem S8192x64 .bf16) (harg4 : arg4.IsWhole) (arg5 : Memref sig .tc .vmem S64x8192 .f32) (harg5 : arg5.IsWhole) (arg6 : Memref sig .tc .vmem S1x8192 .f32) (harg6 : arg6.IsWhole) (arg7 : Memref sig .tc .vmem S64x8192 .f32) (harg7 : arg7.IsWhole) (arg8 : Memref sig .tc .vmem S1x1x128x64 .f32) (harg8 : arg8.IsWhole) (arg9 : Memref sig .tc .vmem S64x8192 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x1 .i32) (harg13 : arg13.IsWhole) (arg14 : Memref sig .tc .vmem S2x8192 .f32) (harg14 : arg14.IsWhole) (arg15 : Memref sig .tc .vmem S128x8192 .f32) (harg15 : arg15.IsWhole) (arg16 : Memref sig .tc .vmem S16x8192 .f32) (harg16 : arg16.IsWhole) (arg17 : Memref sig .tc .smem S2x1 .f32) (harg17 : arg17.IsWhole) (arg18 : Memref sig .tc .smem S2x8 .i32) (harg18 : arg18.IsWhole) (arg19 : Memref sig .tc .vmem S1x8192 .f32) (harg19 : arg19.IsWhole) (hc0 : ¬cond0 i) (hc1 : cond1 i) (x2 : Vec F S1x128x64 .f32) (x3 : Vec F S1x128x64 .f32) (x4 : Vec F S8192x64 .bf16) (x5 : Vec F S64x8192 .f32) (x6 : Vec F S1x8192 .f32) (x7 : Vec F S64x8192 .f32) (x14 : Vec F S2x8192 .f32) (x15 : Vec F S128x8192 .f32) (x16 : Vec F S16x8192 .f32) (x17 : Vec F S2x1 .f32) (x18 : Vec F S2x8 .i32) (f : arg8.view.ty.Contents (Elt F)) :
    arg8.view.writes (Elt F) f (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x14 x15 x16 x17 x18 (esqV x5)).1 = harg8.unread (qV i x2 x3 x4 x5) := by
  unfold runC; dsimp only
  rw [writes_full harg8]
  simp only [qV, idxV, runC.sl.r, runC.sl.r_1, runC.sl.r_2, runC.sl.r_3, runC.sl.r_4, runC.sl.r_5, runC.sl.r_6, runC.sl.r_7, runC.sl.r_8, runC.sl.r_9, runC.sl.r_10, runC.sl.r_11, runC.sl.r_12, runC.sl.r_13, runC.sl.r_14, runC.sl.r_15, runC.sl.r_16, runC.sl.r_17, runC.sl.r_18, runC.sl.r_19, runC.sl.r_20, runC.sl.r_21, runC.sl.r_22, runC.sl.r_23, runC.sl.r_24, runC.sl.r_25, runC.sl.r_26, runC.sl.r_27, runC.sl.r_28, runC.sl.r_29, runC.sl.r_30, runC.sl.r_31, runC.sl.r_32, runC.sl.r_33, runC.sl.r_34, runC.sl.r_35, runC.sl.v10, runC.sl.v131, runC.sl.f, runC.sl.f_1, runC.sl.f_2, runC.sl.f_3, runC.sl.f_4, runC.sl.f_5, runC.sl.f_6, runC.sl.f_7, runC.sl.f_8, runC.sl.f_9, runC.sl.f_10, runC.sl.f_11, runC.sl.f_12, runC.sl.f_13, runC.sl.f_14, runC.sl.f_15, runC.sl.f_16, runC.sl.f_17, runC.sl.H14_1, runC.sl.H15_1, runC.sl.H16_1, runC.sl.H17_1, runC.sl.H18_1, runC.sl.v144, runC.sl.v145, runC.sl.v164, runC.sl.v186, runC.sl.v193, runC.sl.v194, runC.sl.v234, runC.sl.v235, runC.sl.v236, runC.sl.v239, runC.sl.v240, runC.sl.v241, runC.sl.v244, runC.sl.v245, runC.sl.v246, runC.sl.v249, runC.sl.v250, runC.sl.v251, runC.sl.v254, runC.sl.v255, runC.sl.v256, runC.sl.v259, runC.sl.v260, runC.sl.v261, runC.sl.v264, runC.sl.v265, runC.sl.v266, runC.sl.v269, runC.sl.v270, runC.sl.v271, readAt_full harg2, readAt_full harg3, readAt_full harg4, readAt_full harg5, readAt_full harg6, readAt_full harg7, readAt_full harg19]
  try rfl

theorem piecesC_9 (c : Dev nD) (i : grid0.Coords) (arg2 : Memref sig .tc .vmem S1x128x64 .f32) (harg2 : arg2.IsWhole) (arg3 : Memref sig .tc .vmem S1x128x64 .f32) (harg3 : arg3.IsWhole) (arg4 : Memref sig .tc .vmem S8192x64 .bf16) (harg4 : arg4.IsWhole) (arg5 : Memref sig .tc .vmem S64x8192 .f32) (harg5 : arg5.IsWhole) (arg6 : Memref sig .tc .vmem S1x8192 .f32) (harg6 : arg6.IsWhole) (arg7 : Memref sig .tc .vmem S64x8192 .f32) (harg7 : arg7.IsWhole) (arg8 : Memref sig .tc .vmem S1x1x128x64 .f32) (harg8 : arg8.IsWhole) (arg9 : Memref sig .tc .vmem S64x8192 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x1 .i32) (harg13 : arg13.IsWhole) (arg14 : Memref sig .tc .vmem S2x8192 .f32) (harg14 : arg14.IsWhole) (arg15 : Memref sig .tc .vmem S128x8192 .f32) (harg15 : arg15.IsWhole) (arg16 : Memref sig .tc .vmem S16x8192 .f32) (harg16 : arg16.IsWhole) (arg17 : Memref sig .tc .smem S2x1 .f32) (harg17 : arg17.IsWhole) (arg18 : Memref sig .tc .smem S2x8 .i32) (harg18 : arg18.IsWhole) (arg19 : Memref sig .tc .vmem S1x8192 .f32) (harg19 : arg19.IsWhole) (hc0 : ¬cond0 i) (hc1 : cond1 i) (x2 : Vec F S1x128x64 .f32) (x3 : Vec F S1x128x64 .f32) (x4 : Vec F S8192x64 .bf16) (x5 : Vec F S64x8192 .f32) (x6 : Vec F S1x8192 .f32) (x7 : Vec F S64x8192 .f32) (x14 : Vec F S2x8192 .f32) (x15 : Vec F S128x8192 .f32) (x16 : Vec F S16x8192 .f32) (x17 : Vec F S2x1 .f32) (x18 : Vec F S2x8 .i32) (f : arg9.view.ty.Contents (Elt F)) :
    arg9.view.writes (Elt F) f (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x14 x15 x16 x17 x18 (esqV x5)).2.1 = harg9.unread (entOut x6 x7 (cntPut i x2 x3 x5 x14) (dwPut i x2 x3 x5 x15)) := by
  unfold runC; dsimp only
  rw [writes_full harg9]
  simp only [entOut, lcmOut, acOut, vcOut, eqOut, modeEq, modeAt, cntPut, dwPut, phPut, consPut, modesPut, statsV, modeV, phV, adjV, distV, dminV, idxV, runC.sl.r, runC.sl.r_1, runC.sl.r_2, runC.sl.r_3, runC.sl.r_4, runC.sl.r_5, runC.sl.r_6, runC.sl.r_7, runC.sl.r_8, runC.sl.r_9, runC.sl.r_10, runC.sl.r_11, runC.sl.r_12, runC.sl.r_13, runC.sl.r_14, runC.sl.r_15, runC.sl.r_16, runC.sl.r_17, runC.sl.r_18, runC.sl.r_19, runC.sl.r_20, runC.sl.r_21, runC.sl.r_22, runC.sl.r_23, runC.sl.r_24, runC.sl.r_25, runC.sl.r_26, runC.sl.r_27, runC.sl.r_28, runC.sl.r_29, runC.sl.r_30, runC.sl.r_31, runC.sl.r_32, runC.sl.r_33, runC.sl.r_34, runC.sl.r_35, runC.sl.v10, runC.sl.v131, runC.sl.f, runC.sl.f_1, runC.sl.f_2, runC.sl.f_3, runC.sl.f_4, runC.sl.f_5, runC.sl.f_6, runC.sl.f_7, runC.sl.f_8, runC.sl.f_9, runC.sl.f_10, runC.sl.f_11, runC.sl.f_12, runC.sl.f_13, runC.sl.f_14, runC.sl.f_15, runC.sl.f_16, runC.sl.f_17, runC.sl.H14_1, runC.sl.H15_1, runC.sl.H16_1, runC.sl.H17_1, runC.sl.H18_1, runC.sl.v144, runC.sl.v145, runC.sl.v164, runC.sl.v186, runC.sl.v193, runC.sl.v194, runC.sl.v234, runC.sl.v235, runC.sl.v236, runC.sl.v239, runC.sl.v240, runC.sl.v241, runC.sl.v244, runC.sl.v245, runC.sl.v246, runC.sl.v249, runC.sl.v250, runC.sl.v251, runC.sl.v254, runC.sl.v255, runC.sl.v256, runC.sl.v259, runC.sl.v260, runC.sl.v261, runC.sl.v264, runC.sl.v265, runC.sl.v266, runC.sl.v269, runC.sl.v270, runC.sl.v271, readAt_full harg2, readAt_full harg3, readAt_full harg4, readAt_full harg5, readAt_full harg6, readAt_full harg7, readAt_full harg19, writes_part, readAt_part]
  try rfl

theorem piecesC_10 (c : Dev nD) (i : grid0.Coords) (arg2 : Memref sig .tc .vmem S1x128x64 .f32) (harg2 : arg2.IsWhole) (arg3 : Memref sig .tc .vmem S1x128x64 .f32) (harg3 : arg3.IsWhole) (arg4 : Memref sig .tc .vmem S8192x64 .bf16) (harg4 : arg4.IsWhole) (arg5 : Memref sig .tc .vmem S64x8192 .f32) (harg5 : arg5.IsWhole) (arg6 : Memref sig .tc .vmem S1x8192 .f32) (harg6 : arg6.IsWhole) (arg7 : Memref sig .tc .vmem S64x8192 .f32) (harg7 : arg7.IsWhole) (arg8 : Memref sig .tc .vmem S1x1x128x64 .f32) (harg8 : arg8.IsWhole) (arg9 : Memref sig .tc .vmem S64x8192 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x1 .i32) (harg13 : arg13.IsWhole) (arg14 : Memref sig .tc .vmem S2x8192 .f32) (harg14 : arg14.IsWhole) (arg15 : Memref sig .tc .vmem S128x8192 .f32) (harg15 : arg15.IsWhole) (arg16 : Memref sig .tc .vmem S16x8192 .f32) (harg16 : arg16.IsWhole) (arg17 : Memref sig .tc .smem S2x1 .f32) (harg17 : arg17.IsWhole) (arg18 : Memref sig .tc .smem S2x8 .i32) (harg18 : arg18.IsWhole) (arg19 : Memref sig .tc .vmem S1x8192 .f32) (harg19 : arg19.IsWhole) (hc0 : ¬cond0 i) (hc1 : cond1 i) (x2 : Vec F S1x128x64 .f32) (x3 : Vec F S1x128x64 .f32) (x4 : Vec F S8192x64 .bf16) (x5 : Vec F S64x8192 .f32) (x6 : Vec F S1x8192 .f32) (x7 : Vec F S64x8192 .f32) (x14 : Vec F S2x8192 .f32) (x15 : Vec F S128x8192 .f32) (x16 : Vec F S16x8192 .f32) (x17 : Vec F S2x1 .f32) (x18 : Vec F S2x8 .i32) (f : arg10.view.ty.Contents (Elt F)) :
    arg10.view.writes (Elt F) f (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x14 x15 x16 x17 x18 (esqV x5)).2.2.1 = harg10.unread (lcmOut (phPut i x2 x3 x5 x16)) := by
  unfold runC; dsimp only
  rw [writes_full harg10]
  simp only [entOut, lcmOut, acOut, vcOut, eqOut, modeEq, modeAt, cntPut, dwPut, phPut, consPut, modesPut, statsV, modeV, phV, adjV, distV, dminV, idxV, runC.sl.r, runC.sl.r_1, runC.sl.r_2, runC.sl.r_3, runC.sl.r_4, runC.sl.r_5, runC.sl.r_6, runC.sl.r_7, runC.sl.r_8, runC.sl.r_9, runC.sl.r_10, runC.sl.r_11, runC.sl.r_12, runC.sl.r_13, runC.sl.r_14, runC.sl.r_15, runC.sl.r_16, runC.sl.r_17, runC.sl.r_18, runC.sl.r_19, runC.sl.r_20, runC.sl.r_21, runC.sl.r_22, runC.sl.r_23, runC.sl.r_24, runC.sl.r_25, runC.sl.r_26, runC.sl.r_27, runC.sl.r_28, runC.sl.r_29, runC.sl.r_30, runC.sl.r_31, runC.sl.r_32, runC.sl.r_33, runC.sl.r_34, runC.sl.r_35, runC.sl.v10, runC.sl.v131, runC.sl.f, runC.sl.f_1, runC.sl.f_2, runC.sl.f_3, runC.sl.f_4, runC.sl.f_5, runC.sl.f_6, runC.sl.f_7, runC.sl.f_8, runC.sl.f_9, runC.sl.f_10, runC.sl.f_11, runC.sl.f_12, runC.sl.f_13, runC.sl.f_14, runC.sl.f_15, runC.sl.f_16, runC.sl.f_17, runC.sl.H14_1, runC.sl.H15_1, runC.sl.H16_1, runC.sl.H17_1, runC.sl.H18_1, runC.sl.v144, runC.sl.v145, runC.sl.v164, runC.sl.v186, runC.sl.v193, runC.sl.v194, runC.sl.v234, runC.sl.v235, runC.sl.v236, runC.sl.v239, runC.sl.v240, runC.sl.v241, runC.sl.v244, runC.sl.v245, runC.sl.v246, runC.sl.v249, runC.sl.v250, runC.sl.v251, runC.sl.v254, runC.sl.v255, runC.sl.v256, runC.sl.v259, runC.sl.v260, runC.sl.v261, runC.sl.v264, runC.sl.v265, runC.sl.v266, runC.sl.v269, runC.sl.v270, runC.sl.v271, readAt_full harg2, readAt_full harg3, readAt_full harg4, readAt_full harg5, readAt_full harg6, readAt_full harg7, readAt_full harg19, writes_part, readAt_part]
  try rfl

theorem piecesC_11 (c : Dev nD) (i : grid0.Coords) (arg2 : Memref sig .tc .vmem S1x128x64 .f32) (harg2 : arg2.IsWhole) (arg3 : Memref sig .tc .vmem S1x128x64 .f32) (harg3 : arg3.IsWhole) (arg4 : Memref sig .tc .vmem S8192x64 .bf16) (harg4 : arg4.IsWhole) (arg5 : Memref sig .tc .vmem S64x8192 .f32) (harg5 : arg5.IsWhole) (arg6 : Memref sig .tc .vmem S1x8192 .f32) (harg6 : arg6.IsWhole) (arg7 : Memref sig .tc .vmem S64x8192 .f32) (harg7 : arg7.IsWhole) (arg8 : Memref sig .tc .vmem S1x1x128x64 .f32) (harg8 : arg8.IsWhole) (arg9 : Memref sig .tc .vmem S64x8192 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x1 .i32) (harg13 : arg13.IsWhole) (arg14 : Memref sig .tc .vmem S2x8192 .f32) (harg14 : arg14.IsWhole) (arg15 : Memref sig .tc .vmem S128x8192 .f32) (harg15 : arg15.IsWhole) (arg16 : Memref sig .tc .vmem S16x8192 .f32) (harg16 : arg16.IsWhole) (arg17 : Memref sig .tc .smem S2x1 .f32) (harg17 : arg17.IsWhole) (arg18 : Memref sig .tc .smem S2x8 .i32) (harg18 : arg18.IsWhole) (arg19 : Memref sig .tc .vmem S1x8192 .f32) (harg19 : arg19.IsWhole) (hc0 : ¬cond0 i) (hc1 : cond1 i) (x2 : Vec F S1x128x64 .f32) (x3 : Vec F S1x128x64 .f32) (x4 : Vec F S8192x64 .bf16) (x5 : Vec F S64x8192 .f32) (x6 : Vec F S1x8192 .f32) (x7 : Vec F S64x8192 .f32) (x14 : Vec F S2x8192 .f32) (x15 : Vec F S128x8192 .f32) (x16 : Vec F S16x8192 .f32) (x17 : Vec F S2x1 .f32) (x18 : Vec F S2x8 .i32) (f : arg11.view.ty.Contents (Elt F)) :
    arg11.view.writes (Elt F) f (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x14 x15 x16 x17 x18 (esqV x5)).2.2.2.1 = harg11.unread (acOut (consPut i x2 x3 x5 x17)) := by
  unfold runC; dsimp only
  rw [writes_full harg11]
  simp only [entOut, lcmOut, acOut, vcOut, eqOut, modeEq, modeAt, cntPut, dwPut, phPut, consPut, modesPut, statsV, modeV, phV, adjV, distV, dminV, idxV, runC.sl.r, runC.sl.r_1, runC.sl.r_2, runC.sl.r_3, runC.sl.r_4, runC.sl.r_5, runC.sl.r_6, runC.sl.r_7, runC.sl.r_8, runC.sl.r_9, runC.sl.r_10, runC.sl.r_11, runC.sl.r_12, runC.sl.r_13, runC.sl.r_14, runC.sl.r_15, runC.sl.r_16, runC.sl.r_17, runC.sl.r_18, runC.sl.r_19, runC.sl.r_20, runC.sl.r_21, runC.sl.r_22, runC.sl.r_23, runC.sl.r_24, runC.sl.r_25, runC.sl.r_26, runC.sl.r_27, runC.sl.r_28, runC.sl.r_29, runC.sl.r_30, runC.sl.r_31, runC.sl.r_32, runC.sl.r_33, runC.sl.r_34, runC.sl.r_35, runC.sl.v10, runC.sl.v131, runC.sl.f, runC.sl.f_1, runC.sl.f_2, runC.sl.f_3, runC.sl.f_4, runC.sl.f_5, runC.sl.f_6, runC.sl.f_7, runC.sl.f_8, runC.sl.f_9, runC.sl.f_10, runC.sl.f_11, runC.sl.f_12, runC.sl.f_13, runC.sl.f_14, runC.sl.f_15, runC.sl.f_16, runC.sl.f_17, runC.sl.H14_1, runC.sl.H15_1, runC.sl.H16_1, runC.sl.H17_1, runC.sl.H18_1, runC.sl.v144, runC.sl.v145, runC.sl.v164, runC.sl.v186, runC.sl.v193, runC.sl.v194, runC.sl.v234, runC.sl.v235, runC.sl.v236, runC.sl.v239, runC.sl.v240, runC.sl.v241, runC.sl.v244, runC.sl.v245, runC.sl.v246, runC.sl.v249, runC.sl.v250, runC.sl.v251, runC.sl.v254, runC.sl.v255, runC.sl.v256, runC.sl.v259, runC.sl.v260, runC.sl.v261, runC.sl.v264, runC.sl.v265, runC.sl.v266, runC.sl.v269, runC.sl.v270, runC.sl.v271, readAt_full harg2, readAt_full harg3, readAt_full harg4, readAt_full harg5, readAt_full harg6, readAt_full harg7, readAt_full harg19, writes_part, readAt_part]
  try rfl

theorem piecesC_12 (c : Dev nD) (i : grid0.Coords) (arg2 : Memref sig .tc .vmem S1x128x64 .f32) (harg2 : arg2.IsWhole) (arg3 : Memref sig .tc .vmem S1x128x64 .f32) (harg3 : arg3.IsWhole) (arg4 : Memref sig .tc .vmem S8192x64 .bf16) (harg4 : arg4.IsWhole) (arg5 : Memref sig .tc .vmem S64x8192 .f32) (harg5 : arg5.IsWhole) (arg6 : Memref sig .tc .vmem S1x8192 .f32) (harg6 : arg6.IsWhole) (arg7 : Memref sig .tc .vmem S64x8192 .f32) (harg7 : arg7.IsWhole) (arg8 : Memref sig .tc .vmem S1x1x128x64 .f32) (harg8 : arg8.IsWhole) (arg9 : Memref sig .tc .vmem S64x8192 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x1 .i32) (harg13 : arg13.IsWhole) (arg14 : Memref sig .tc .vmem S2x8192 .f32) (harg14 : arg14.IsWhole) (arg15 : Memref sig .tc .vmem S128x8192 .f32) (harg15 : arg15.IsWhole) (arg16 : Memref sig .tc .vmem S16x8192 .f32) (harg16 : arg16.IsWhole) (arg17 : Memref sig .tc .smem S2x1 .f32) (harg17 : arg17.IsWhole) (arg18 : Memref sig .tc .smem S2x8 .i32) (harg18 : arg18.IsWhole) (arg19 : Memref sig .tc .vmem S1x8192 .f32) (harg19 : arg19.IsWhole) (hc0 : ¬cond0 i) (hc1 : cond1 i) (x2 : Vec F S1x128x64 .f32) (x3 : Vec F S1x128x64 .f32) (x4 : Vec F S8192x64 .bf16) (x5 : Vec F S64x8192 .f32) (x6 : Vec F S1x8192 .f32) (x7 : Vec F S64x8192 .f32) (x14 : Vec F S2x8192 .f32) (x15 : Vec F S128x8192 .f32) (x16 : Vec F S16x8192 .f32) (x17 : Vec F S2x1 .f32) (x18 : Vec F S2x8 .i32) (f : arg12.view.ty.Contents (Elt F)) :
    arg12.view.writes (Elt F) f (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x14 x15 x16 x17 x18 (esqV x5)).2.2.2.2.1 = harg12.unread (vcOut (consPut i x2 x3 x5 x17)) := by
  unfold runC; dsimp only
  rw [writes_full harg12]
  simp only [entOut, lcmOut, acOut, vcOut, eqOut, modeEq, modeAt, cntPut, dwPut, phPut, consPut, modesPut, statsV, modeV, phV, adjV, distV, dminV, idxV, runC.sl.r, runC.sl.r_1, runC.sl.r_2, runC.sl.r_3, runC.sl.r_4, runC.sl.r_5, runC.sl.r_6, runC.sl.r_7, runC.sl.r_8, runC.sl.r_9, runC.sl.r_10, runC.sl.r_11, runC.sl.r_12, runC.sl.r_13, runC.sl.r_14, runC.sl.r_15, runC.sl.r_16, runC.sl.r_17, runC.sl.r_18, runC.sl.r_19, runC.sl.r_20, runC.sl.r_21, runC.sl.r_22, runC.sl.r_23, runC.sl.r_24, runC.sl.r_25, runC.sl.r_26, runC.sl.r_27, runC.sl.r_28, runC.sl.r_29, runC.sl.r_30, runC.sl.r_31, runC.sl.r_32, runC.sl.r_33, runC.sl.r_34, runC.sl.r_35, runC.sl.v10, runC.sl.v131, runC.sl.f, runC.sl.f_1, runC.sl.f_2, runC.sl.f_3, runC.sl.f_4, runC.sl.f_5, runC.sl.f_6, runC.sl.f_7, runC.sl.f_8, runC.sl.f_9, runC.sl.f_10, runC.sl.f_11, runC.sl.f_12, runC.sl.f_13, runC.sl.f_14, runC.sl.f_15, runC.sl.f_16, runC.sl.f_17, runC.sl.H14_1, runC.sl.H15_1, runC.sl.H16_1, runC.sl.H17_1, runC.sl.H18_1, runC.sl.v144, runC.sl.v145, runC.sl.v164, runC.sl.v186, runC.sl.v193, runC.sl.v194, runC.sl.v234, runC.sl.v235, runC.sl.v236, runC.sl.v239, runC.sl.v240, runC.sl.v241, runC.sl.v244, runC.sl.v245, runC.sl.v246, runC.sl.v249, runC.sl.v250, runC.sl.v251, runC.sl.v254, runC.sl.v255, runC.sl.v256, runC.sl.v259, runC.sl.v260, runC.sl.v261, runC.sl.v264, runC.sl.v265, runC.sl.v266, runC.sl.v269, runC.sl.v270, runC.sl.v271, readAt_full harg2, readAt_full harg3, readAt_full harg4, readAt_full harg5, readAt_full harg6, readAt_full harg7, readAt_full harg19, writes_part, readAt_part]
  try rfl

theorem piecesC_13 (c : Dev nD) (i : grid0.Coords) (arg2 : Memref sig .tc .vmem S1x128x64 .f32) (harg2 : arg2.IsWhole) (arg3 : Memref sig .tc .vmem S1x128x64 .f32) (harg3 : arg3.IsWhole) (arg4 : Memref sig .tc .vmem S8192x64 .bf16) (harg4 : arg4.IsWhole) (arg5 : Memref sig .tc .vmem S64x8192 .f32) (harg5 : arg5.IsWhole) (arg6 : Memref sig .tc .vmem S1x8192 .f32) (harg6 : arg6.IsWhole) (arg7 : Memref sig .tc .vmem S64x8192 .f32) (harg7 : arg7.IsWhole) (arg8 : Memref sig .tc .vmem S1x1x128x64 .f32) (harg8 : arg8.IsWhole) (arg9 : Memref sig .tc .vmem S64x8192 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x1 .i32) (harg13 : arg13.IsWhole) (arg14 : Memref sig .tc .vmem S2x8192 .f32) (harg14 : arg14.IsWhole) (arg15 : Memref sig .tc .vmem S128x8192 .f32) (harg15 : arg15.IsWhole) (arg16 : Memref sig .tc .vmem S16x8192 .f32) (harg16 : arg16.IsWhole) (arg17 : Memref sig .tc .smem S2x1 .f32) (harg17 : arg17.IsWhole) (arg18 : Memref sig .tc .smem S2x8 .i32) (harg18 : arg18.IsWhole) (arg19 : Memref sig .tc .vmem S1x8192 .f32) (harg19 : arg19.IsWhole) (hc0 : ¬cond0 i) (hc1 : cond1 i) (x2 : Vec F S1x128x64 .f32) (x3 : Vec F S1x128x64 .f32) (x4 : Vec F S8192x64 .bf16) (x5 : Vec F S64x8192 .f32) (x6 : Vec F S1x8192 .f32) (x7 : Vec F S64x8192 .f32) (x14 : Vec F S2x8192 .f32) (x15 : Vec F S128x8192 .f32) (x16 : Vec F S16x8192 .f32) (x17 : Vec F S2x1 .f32) (x18 : Vec F S2x8 .i32) (f : arg13.view.ty.Contents (Elt F)) :
    arg13.view.writes (Elt F) f (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x14 x15 x16 x17 x18 (esqV x5)).2.2.2.2.2.1 = harg13.unread (eqOut (modesPut i x2 x3 x5 x18)) := by
  unfold runC; dsimp only
  rw [writes_full harg13]
  simp only [entOut, lcmOut, acOut, vcOut, eqOut, modeEq, modeAt, cntPut, dwPut, phPut, consPut, modesPut, statsV, modeV, phV, adjV, distV, dminV, idxV, runC.sl.r, runC.sl.r_1, runC.sl.r_2, runC.sl.r_3, runC.sl.r_4, runC.sl.r_5, runC.sl.r_6, runC.sl.r_7, runC.sl.r_8, runC.sl.r_9, runC.sl.r_10, runC.sl.r_11, runC.sl.r_12, runC.sl.r_13, runC.sl.r_14, runC.sl.r_15, runC.sl.r_16, runC.sl.r_17, runC.sl.r_18, runC.sl.r_19, runC.sl.r_20, runC.sl.r_21, runC.sl.r_22, runC.sl.r_23, runC.sl.r_24, runC.sl.r_25, runC.sl.r_26, runC.sl.r_27, runC.sl.r_28, runC.sl.r_29, runC.sl.r_30, runC.sl.r_31, runC.sl.r_32, runC.sl.r_33, runC.sl.r_34, runC.sl.r_35, runC.sl.v10, runC.sl.v131, runC.sl.f, runC.sl.f_1, runC.sl.f_2, runC.sl.f_3, runC.sl.f_4, runC.sl.f_5, runC.sl.f_6, runC.sl.f_7, runC.sl.f_8, runC.sl.f_9, runC.sl.f_10, runC.sl.f_11, runC.sl.f_12, runC.sl.f_13, runC.sl.f_14, runC.sl.f_15, runC.sl.f_16, runC.sl.f_17, runC.sl.H14_1, runC.sl.H15_1, runC.sl.H16_1, runC.sl.H17_1, runC.sl.H18_1, runC.sl.v144, runC.sl.v145, runC.sl.v164, runC.sl.v186, runC.sl.v193, runC.sl.v194, runC.sl.v234, runC.sl.v235, runC.sl.v236, runC.sl.v239, runC.sl.v240, runC.sl.v241, runC.sl.v244, runC.sl.v245, runC.sl.v246, runC.sl.v249, runC.sl.v250, runC.sl.v251, runC.sl.v254, runC.sl.v255, runC.sl.v256, runC.sl.v259, runC.sl.v260, runC.sl.v261, runC.sl.v264, runC.sl.v265, runC.sl.v266, runC.sl.v269, runC.sl.v270, runC.sl.v271, readAt_full harg2, readAt_full harg3, readAt_full harg4, readAt_full harg5, readAt_full harg6, readAt_full harg7, readAt_full harg19, writes_part, readAt_part]
  try rfl

theorem piecesC_14 (c : Dev nD) (i : grid0.Coords) (arg2 : Memref sig .tc .vmem S1x128x64 .f32) (harg2 : arg2.IsWhole) (arg3 : Memref sig .tc .vmem S1x128x64 .f32) (harg3 : arg3.IsWhole) (arg4 : Memref sig .tc .vmem S8192x64 .bf16) (harg4 : arg4.IsWhole) (arg5 : Memref sig .tc .vmem S64x8192 .f32) (harg5 : arg5.IsWhole) (arg6 : Memref sig .tc .vmem S1x8192 .f32) (harg6 : arg6.IsWhole) (arg7 : Memref sig .tc .vmem S64x8192 .f32) (harg7 : arg7.IsWhole) (arg8 : Memref sig .tc .vmem S1x1x128x64 .f32) (harg8 : arg8.IsWhole) (arg9 : Memref sig .tc .vmem S64x8192 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x1 .i32) (harg13 : arg13.IsWhole) (arg14 : Memref sig .tc .vmem S2x8192 .f32) (harg14 : arg14.IsWhole) (arg15 : Memref sig .tc .vmem S128x8192 .f32) (harg15 : arg15.IsWhole) (arg16 : Memref sig .tc .vmem S16x8192 .f32) (harg16 : arg16.IsWhole) (arg17 : Memref sig .tc .smem S2x1 .f32) (harg17 : arg17.IsWhole) (arg18 : Memref sig .tc .smem S2x8 .i32) (harg18 : arg18.IsWhole) (arg19 : Memref sig .tc .vmem S1x8192 .f32) (harg19 : arg19.IsWhole) (hc0 : ¬cond0 i) (hc1 : cond1 i) (x2 : Vec F S1x128x64 .f32) (x3 : Vec F S1x128x64 .f32) (x4 : Vec F S8192x64 .bf16) (x5 : Vec F S64x8192 .f32) (x6 : Vec F S1x8192 .f32) (x7 : Vec F S64x8192 .f32) (x14 : Vec F S2x8192 .f32) (x15 : Vec F S128x8192 .f32) (x16 : Vec F S16x8192 .f32) (x17 : Vec F S2x1 .f32) (x18 : Vec F S2x8 .i32) :
    arg14.view.writes (Elt F) (harg14.unread x14) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x14 x15 x16 x17 x18 (esqV x5)).2.2.2.2.2.2.1 = harg14.unread (cntPut i x2 x3 x5 x14) := by
  unfold runC; dsimp only
  unfold runC.sl.H14_1
  rw [writes_part harg14]
  simp only [cntPut, statsV, adjV, distV, dminV, idxV, runC.sl.r, runC.sl.r_1, runC.sl.r_2, runC.sl.r_3, runC.sl.r_4, runC.sl.r_5, runC.sl.r_6, runC.sl.r_7, runC.sl.r_8, runC.sl.r_9, runC.sl.r_10, runC.sl.r_11, runC.sl.r_12, runC.sl.r_13, runC.sl.r_14, runC.sl.r_15, runC.sl.r_16, runC.sl.r_17, runC.sl.r_18, runC.sl.r_19, runC.sl.r_20, runC.sl.r_21, runC.sl.r_22, runC.sl.r_23, runC.sl.r_24, runC.sl.r_25, runC.sl.r_26, runC.sl.r_27, runC.sl.r_28, runC.sl.r_29, runC.sl.r_30, runC.sl.r_31, runC.sl.r_32, runC.sl.r_33, runC.sl.r_34, runC.sl.r_35, runC.sl.v10, runC.sl.v131, runC.sl.f, runC.sl.f_1, runC.sl.f_2, runC.sl.f_3, runC.sl.f_4, runC.sl.f_5, runC.sl.f_6, runC.sl.f_7, runC.sl.f_8, runC.sl.f_9, runC.sl.f_10, runC.sl.f_11, runC.sl.f_12, runC.sl.f_13, runC.sl.f_14, runC.sl.f_15, runC.sl.f_16, runC.sl.f_17, runC.sl.H14_1, runC.sl.H15_1, runC.sl.H16_1, runC.sl.H17_1, runC.sl.H18_1, runC.sl.v144, runC.sl.v145, runC.sl.v164, runC.sl.v186, runC.sl.v193, runC.sl.v194, runC.sl.v234, runC.sl.v235, runC.sl.v236, runC.sl.v239, runC.sl.v240, runC.sl.v241, runC.sl.v244, runC.sl.v245, runC.sl.v246, runC.sl.v249, runC.sl.v250, runC.sl.v251, runC.sl.v254, runC.sl.v255, runC.sl.v256, runC.sl.v259, runC.sl.v260, runC.sl.v261, runC.sl.v264, runC.sl.v265, runC.sl.v266, runC.sl.v269, runC.sl.v270, runC.sl.v271, readAt_full harg2, readAt_full harg3, readAt_full harg4, readAt_full harg5, readAt_full harg6, readAt_full harg7, readAt_full harg19, readAt_part]
  try rfl

theorem piecesC_15 (c : Dev nD) (i : grid0.Coords) (arg2 : Memref sig .tc .vmem S1x128x64 .f32) (harg2 : arg2.IsWhole) (arg3 : Memref sig .tc .vmem S1x128x64 .f32) (harg3 : arg3.IsWhole) (arg4 : Memref sig .tc .vmem S8192x64 .bf16) (harg4 : arg4.IsWhole) (arg5 : Memref sig .tc .vmem S64x8192 .f32) (harg5 : arg5.IsWhole) (arg6 : Memref sig .tc .vmem S1x8192 .f32) (harg6 : arg6.IsWhole) (arg7 : Memref sig .tc .vmem S64x8192 .f32) (harg7 : arg7.IsWhole) (arg8 : Memref sig .tc .vmem S1x1x128x64 .f32) (harg8 : arg8.IsWhole) (arg9 : Memref sig .tc .vmem S64x8192 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x1 .i32) (harg13 : arg13.IsWhole) (arg14 : Memref sig .tc .vmem S2x8192 .f32) (harg14 : arg14.IsWhole) (arg15 : Memref sig .tc .vmem S128x8192 .f32) (harg15 : arg15.IsWhole) (arg16 : Memref sig .tc .vmem S16x8192 .f32) (harg16 : arg16.IsWhole) (arg17 : Memref sig .tc .smem S2x1 .f32) (harg17 : arg17.IsWhole) (arg18 : Memref sig .tc .smem S2x8 .i32) (harg18 : arg18.IsWhole) (arg19 : Memref sig .tc .vmem S1x8192 .f32) (harg19 : arg19.IsWhole) (hc0 : ¬cond0 i) (hc1 : cond1 i) (x2 : Vec F S1x128x64 .f32) (x3 : Vec F S1x128x64 .f32) (x4 : Vec F S8192x64 .bf16) (x5 : Vec F S64x8192 .f32) (x6 : Vec F S1x8192 .f32) (x7 : Vec F S64x8192 .f32) (x14 : Vec F S2x8192 .f32) (x15 : Vec F S128x8192 .f32) (x16 : Vec F S16x8192 .f32) (x17 : Vec F S2x1 .f32) (x18 : Vec F S2x8 .i32) :
    arg15.view.writes (Elt F) (harg15.unread x15) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x14 x15 x16 x17 x18 (esqV x5)).2.2.2.2.2.2.2.1 = harg15.unread (dwPut i x2 x3 x5 x15) := by
  unfold runC; dsimp only
  unfold runC.sl.H15_1
  rw [writes_part harg15]
  simp only [dwPut, statsV, adjV, distV, dminV, idxV, runC.sl.r, runC.sl.r_1, runC.sl.r_2, runC.sl.r_3, runC.sl.r_4, runC.sl.r_5, runC.sl.r_6, runC.sl.r_7, runC.sl.r_8, runC.sl.r_9, runC.sl.r_10, runC.sl.r_11, runC.sl.r_12, runC.sl.r_13, runC.sl.r_14, runC.sl.r_15, runC.sl.r_16, runC.sl.r_17, runC.sl.r_18, runC.sl.r_19, runC.sl.r_20, runC.sl.r_21, runC.sl.r_22, runC.sl.r_23, runC.sl.r_24, runC.sl.r_25, runC.sl.r_26, runC.sl.r_27, runC.sl.r_28, runC.sl.r_29, runC.sl.r_30, runC.sl.r_31, runC.sl.r_32, runC.sl.r_33, runC.sl.r_34, runC.sl.r_35, runC.sl.v10, runC.sl.v131, runC.sl.f, runC.sl.f_1, runC.sl.f_2, runC.sl.f_3, runC.sl.f_4, runC.sl.f_5, runC.sl.f_6, runC.sl.f_7, runC.sl.f_8, runC.sl.f_9, runC.sl.f_10, runC.sl.f_11, runC.sl.f_12, runC.sl.f_13, runC.sl.f_14, runC.sl.f_15, runC.sl.f_16, runC.sl.f_17, runC.sl.H14_1, runC.sl.H15_1, runC.sl.H16_1, runC.sl.H17_1, runC.sl.H18_1, runC.sl.v144, runC.sl.v145, runC.sl.v164, runC.sl.v186, runC.sl.v193, runC.sl.v194, runC.sl.v234, runC.sl.v235, runC.sl.v236, runC.sl.v239, runC.sl.v240, runC.sl.v241, runC.sl.v244, runC.sl.v245, runC.sl.v246, runC.sl.v249, runC.sl.v250, runC.sl.v251, runC.sl.v254, runC.sl.v255, runC.sl.v256, runC.sl.v259, runC.sl.v260, runC.sl.v261, runC.sl.v264, runC.sl.v265, runC.sl.v266, runC.sl.v269, runC.sl.v270, runC.sl.v271, readAt_full harg2, readAt_full harg3, readAt_full harg4, readAt_full harg5, readAt_full harg6, readAt_full harg7, readAt_full harg19, readAt_part]
  try rfl

theorem piecesC_16 (c : Dev nD) (i : grid0.Coords) (arg2 : Memref sig .tc .vmem S1x128x64 .f32) (harg2 : arg2.IsWhole) (arg3 : Memref sig .tc .vmem S1x128x64 .f32) (harg3 : arg3.IsWhole) (arg4 : Memref sig .tc .vmem S8192x64 .bf16) (harg4 : arg4.IsWhole) (arg5 : Memref sig .tc .vmem S64x8192 .f32) (harg5 : arg5.IsWhole) (arg6 : Memref sig .tc .vmem S1x8192 .f32) (harg6 : arg6.IsWhole) (arg7 : Memref sig .tc .vmem S64x8192 .f32) (harg7 : arg7.IsWhole) (arg8 : Memref sig .tc .vmem S1x1x128x64 .f32) (harg8 : arg8.IsWhole) (arg9 : Memref sig .tc .vmem S64x8192 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x1 .i32) (harg13 : arg13.IsWhole) (arg14 : Memref sig .tc .vmem S2x8192 .f32) (harg14 : arg14.IsWhole) (arg15 : Memref sig .tc .vmem S128x8192 .f32) (harg15 : arg15.IsWhole) (arg16 : Memref sig .tc .vmem S16x8192 .f32) (harg16 : arg16.IsWhole) (arg17 : Memref sig .tc .smem S2x1 .f32) (harg17 : arg17.IsWhole) (arg18 : Memref sig .tc .smem S2x8 .i32) (harg18 : arg18.IsWhole) (arg19 : Memref sig .tc .vmem S1x8192 .f32) (harg19 : arg19.IsWhole) (hc0 : ¬cond0 i) (hc1 : cond1 i) (x2 : Vec F S1x128x64 .f32) (x3 : Vec F S1x128x64 .f32) (x4 : Vec F S8192x64 .bf16) (x5 : Vec F S64x8192 .f32) (x6 : Vec F S1x8192 .f32) (x7 : Vec F S64x8192 .f32) (x14 : Vec F S2x8192 .f32) (x15 : Vec F S128x8192 .f32) (x16 : Vec F S16x8192 .f32) (x17 : Vec F S2x1 .f32) (x18 : Vec F S2x8 .i32) :
    arg16.view.writes (Elt F) (harg16.unread x16) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x14 x15 x16 x17 x18 (esqV x5)).2.2.2.2.2.2.2.2.1 = harg16.unread (phPut i x2 x3 x5 x16) := by
  unfold runC; dsimp only
  unfold runC.sl.H16_1
  rw [writes_part harg16]
  simp only [phPut, phV, distV, dminV, runC.sl.r, runC.sl.r_1, runC.sl.r_2, runC.sl.r_3, runC.sl.r_4, runC.sl.r_5, runC.sl.r_6, runC.sl.r_7, runC.sl.r_8, runC.sl.r_9, runC.sl.r_10, runC.sl.r_11, runC.sl.r_12, runC.sl.r_13, runC.sl.r_14, runC.sl.r_15, runC.sl.r_16, runC.sl.r_17, runC.sl.r_18, runC.sl.r_19, runC.sl.r_20, runC.sl.r_21, runC.sl.r_22, runC.sl.r_23, runC.sl.r_24, runC.sl.r_25, runC.sl.r_26, runC.sl.r_27, runC.sl.r_28, runC.sl.r_29, runC.sl.r_30, runC.sl.r_31, runC.sl.r_32, runC.sl.r_33, runC.sl.r_34, runC.sl.r_35, runC.sl.v10, runC.sl.v131, runC.sl.f, runC.sl.f_1, runC.sl.f_2, runC.sl.f_3, runC.sl.f_4, runC.sl.f_5, runC.sl.f_6, runC.sl.f_7, runC.sl.f_8, runC.sl.f_9, runC.sl.f_10, runC.sl.f_11, runC.sl.f_12, runC.sl.f_13, runC.sl.f_14, runC.sl.f_15, runC.sl.f_16, runC.sl.f_17, runC.sl.H14_1, runC.sl.H15_1, runC.sl.H16_1, runC.sl.H17_1, runC.sl.H18_1, runC.sl.v144, runC.sl.v145, runC.sl.v164, runC.sl.v186, runC.sl.v193, runC.sl.v194, runC.sl.v234, runC.sl.v235, runC.sl.v236, runC.sl.v239, runC.sl.v240, runC.sl.v241, runC.sl.v244, runC.sl.v245, runC.sl.v246, runC.sl.v249, runC.sl.v250, runC.sl.v251, runC.sl.v254, runC.sl.v255, runC.sl.v256, runC.sl.v259, runC.sl.v260, runC.sl.v261, runC.sl.v264, runC.sl.v265, runC.sl.v266, runC.sl.v269, runC.sl.v270, runC.sl.v271, readAt_full harg2, readAt_full harg3, readAt_full harg4, readAt_full harg5, readAt_full harg6, readAt_full harg7, readAt_full harg19, readAt_part]
  try rfl

theorem piecesC_17 (c : Dev nD) (i : grid0.Coords) (arg2 : Memref sig .tc .vmem S1x128x64 .f32) (harg2 : arg2.IsWhole) (arg3 : Memref sig .tc .vmem S1x128x64 .f32) (harg3 : arg3.IsWhole) (arg4 : Memref sig .tc .vmem S8192x64 .bf16) (harg4 : arg4.IsWhole) (arg5 : Memref sig .tc .vmem S64x8192 .f32) (harg5 : arg5.IsWhole) (arg6 : Memref sig .tc .vmem S1x8192 .f32) (harg6 : arg6.IsWhole) (arg7 : Memref sig .tc .vmem S64x8192 .f32) (harg7 : arg7.IsWhole) (arg8 : Memref sig .tc .vmem S1x1x128x64 .f32) (harg8 : arg8.IsWhole) (arg9 : Memref sig .tc .vmem S64x8192 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x1 .i32) (harg13 : arg13.IsWhole) (arg14 : Memref sig .tc .vmem S2x8192 .f32) (harg14 : arg14.IsWhole) (arg15 : Memref sig .tc .vmem S128x8192 .f32) (harg15 : arg15.IsWhole) (arg16 : Memref sig .tc .vmem S16x8192 .f32) (harg16 : arg16.IsWhole) (arg17 : Memref sig .tc .smem S2x1 .f32) (harg17 : arg17.IsWhole) (arg18 : Memref sig .tc .smem S2x8 .i32) (harg18 : arg18.IsWhole) (arg19 : Memref sig .tc .vmem S1x8192 .f32) (harg19 : arg19.IsWhole) (hc0 : ¬cond0 i) (hc1 : cond1 i) (x2 : Vec F S1x128x64 .f32) (x3 : Vec F S1x128x64 .f32) (x4 : Vec F S8192x64 .bf16) (x5 : Vec F S64x8192 .f32) (x6 : Vec F S1x8192 .f32) (x7 : Vec F S64x8192 .f32) (x14 : Vec F S2x8192 .f32) (x15 : Vec F S128x8192 .f32) (x16 : Vec F S16x8192 .f32) (x17 : Vec F S2x1 .f32) (x18 : Vec F S2x8 .i32) :
    arg17.view.writes (Elt F) (harg17.unread x17) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x14 x15 x16 x17 x18 (esqV x5)).2.2.2.2.2.2.2.2.2.1 = harg17.unread (consPut i x2 x3 x5 x17) := by
  unfold runC; dsimp only
  unfold runC.sl.H17_1
  rw [writes_part harg17]
  simp only [consPut, distV, dminV, runC.sl.r, runC.sl.r_1, runC.sl.r_2, runC.sl.r_3, runC.sl.r_4, runC.sl.r_5, runC.sl.r_6, runC.sl.r_7, runC.sl.r_8, runC.sl.r_9, runC.sl.r_10, runC.sl.r_11, runC.sl.r_12, runC.sl.r_13, runC.sl.r_14, runC.sl.r_15, runC.sl.r_16, runC.sl.r_17, runC.sl.r_18, runC.sl.r_19, runC.sl.r_20, runC.sl.r_21, runC.sl.r_22, runC.sl.r_23, runC.sl.r_24, runC.sl.r_25, runC.sl.r_26, runC.sl.r_27, runC.sl.r_28, runC.sl.r_29, runC.sl.r_30, runC.sl.r_31, runC.sl.r_32, runC.sl.r_33, runC.sl.r_34, runC.sl.r_35, runC.sl.v10, runC.sl.v131, runC.sl.f, runC.sl.f_1, runC.sl.f_2, runC.sl.f_3, runC.sl.f_4, runC.sl.f_5, runC.sl.f_6, runC.sl.f_7, runC.sl.f_8, runC.sl.f_9, runC.sl.f_10, runC.sl.f_11, runC.sl.f_12, runC.sl.f_13, runC.sl.f_14, runC.sl.f_15, runC.sl.f_16, runC.sl.f_17, runC.sl.H14_1, runC.sl.H15_1, runC.sl.H16_1, runC.sl.H17_1, runC.sl.H18_1, runC.sl.v144, runC.sl.v145, runC.sl.v164, runC.sl.v186, runC.sl.v193, runC.sl.v194, runC.sl.v234, runC.sl.v235, runC.sl.v236, runC.sl.v239, runC.sl.v240, runC.sl.v241, runC.sl.v244, runC.sl.v245, runC.sl.v246, runC.sl.v249, runC.sl.v250, runC.sl.v251, runC.sl.v254, runC.sl.v255, runC.sl.v256, runC.sl.v259, runC.sl.v260, runC.sl.v261, runC.sl.v264, runC.sl.v265, runC.sl.v266, runC.sl.v269, runC.sl.v270, runC.sl.v271, readAt_full harg2, readAt_full harg3, readAt_full harg4, readAt_full harg5, readAt_full harg6, readAt_full harg7, readAt_full harg19, readAt_part]
  try rfl

theorem piecesC_18 (c : Dev nD) (i : grid0.Coords) (arg2 : Memref sig .tc .vmem S1x128x64 .f32) (harg2 : arg2.IsWhole) (arg3 : Memref sig .tc .vmem S1x128x64 .f32) (harg3 : arg3.IsWhole) (arg4 : Memref sig .tc .vmem S8192x64 .bf16) (harg4 : arg4.IsWhole) (arg5 : Memref sig .tc .vmem S64x8192 .f32) (harg5 : arg5.IsWhole) (arg6 : Memref sig .tc .vmem S1x8192 .f32) (harg6 : arg6.IsWhole) (arg7 : Memref sig .tc .vmem S64x8192 .f32) (harg7 : arg7.IsWhole) (arg8 : Memref sig .tc .vmem S1x1x128x64 .f32) (harg8 : arg8.IsWhole) (arg9 : Memref sig .tc .vmem S64x8192 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x1 .i32) (harg13 : arg13.IsWhole) (arg14 : Memref sig .tc .vmem S2x8192 .f32) (harg14 : arg14.IsWhole) (arg15 : Memref sig .tc .vmem S128x8192 .f32) (harg15 : arg15.IsWhole) (arg16 : Memref sig .tc .vmem S16x8192 .f32) (harg16 : arg16.IsWhole) (arg17 : Memref sig .tc .smem S2x1 .f32) (harg17 : arg17.IsWhole) (arg18 : Memref sig .tc .smem S2x8 .i32) (harg18 : arg18.IsWhole) (arg19 : Memref sig .tc .vmem S1x8192 .f32) (harg19 : arg19.IsWhole) (hc0 : ¬cond0 i) (hc1 : cond1 i) (x2 : Vec F S1x128x64 .f32) (x3 : Vec F S1x128x64 .f32) (x4 : Vec F S8192x64 .bf16) (x5 : Vec F S64x8192 .f32) (x6 : Vec F S1x8192 .f32) (x7 : Vec F S64x8192 .f32) (x14 : Vec F S2x8192 .f32) (x15 : Vec F S128x8192 .f32) (x16 : Vec F S16x8192 .f32) (x17 : Vec F S2x1 .f32) (x18 : Vec F S2x8 .i32) :
    arg18.view.writes (Elt F) (harg18.unread x18) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x14 x15 x16 x17 x18 (esqV x5)).2.2.2.2.2.2.2.2.2.2.1 = harg18.unread (modesPut i x2 x3 x5 x18) := by
  unfold runC; dsimp only
  unfold runC.sl.H18_1
  rw [writes_part harg18]
  simp only [modesPut, modeV, statsV, adjV, distV, dminV, idxV, runC.sl.r, runC.sl.r_1, runC.sl.r_2, runC.sl.r_3, runC.sl.r_4, runC.sl.r_5, runC.sl.r_6, runC.sl.r_7, runC.sl.r_8, runC.sl.r_9, runC.sl.r_10, runC.sl.r_11, runC.sl.r_12, runC.sl.r_13, runC.sl.r_14, runC.sl.r_15, runC.sl.r_16, runC.sl.r_17, runC.sl.r_18, runC.sl.r_19, runC.sl.r_20, runC.sl.r_21, runC.sl.r_22, runC.sl.r_23, runC.sl.r_24, runC.sl.r_25, runC.sl.r_26, runC.sl.r_27, runC.sl.r_28, runC.sl.r_29, runC.sl.r_30, runC.sl.r_31, runC.sl.r_32, runC.sl.r_33, runC.sl.r_34, runC.sl.r_35, runC.sl.v10, runC.sl.v131, runC.sl.f, runC.sl.f_1, runC.sl.f_2, runC.sl.f_3, runC.sl.f_4, runC.sl.f_5, runC.sl.f_6, runC.sl.f_7, runC.sl.f_8, runC.sl.f_9, runC.sl.f_10, runC.sl.f_11, runC.sl.f_12, runC.sl.f_13, runC.sl.f_14, runC.sl.f_15, runC.sl.f_16, runC.sl.f_17, runC.sl.H14_1, runC.sl.H15_1, runC.sl.H16_1, runC.sl.H17_1, runC.sl.H18_1, runC.sl.v144, runC.sl.v145, runC.sl.v164, runC.sl.v186, runC.sl.v193, runC.sl.v194, runC.sl.v234, runC.sl.v235, runC.sl.v236, runC.sl.v239, runC.sl.v240, runC.sl.v241, runC.sl.v244, runC.sl.v245, runC.sl.v246, runC.sl.v249, runC.sl.v250, runC.sl.v251, runC.sl.v254, runC.sl.v255, runC.sl.v256, runC.sl.v259, runC.sl.v260, runC.sl.v261, runC.sl.v264, runC.sl.v265, runC.sl.v266, runC.sl.v269, runC.sl.v270, runC.sl.v271, readAt_full harg2, readAt_full harg3, readAt_full harg4, readAt_full harg5, readAt_full harg6, readAt_full harg7, readAt_full harg19, readAt_part]
  try rfl

set_option maxHeartbeats 2000000 in
/-- The body's triple in this case: every buffer it stores into ends at a stated value. -/
theorem stepC (c : Dev nD) (i : grid0.Coords) (arg2 : Memref sig .tc .vmem S1x128x64 .f32) (harg2 : arg2.IsWhole) (arg3 : Memref sig .tc .vmem S1x128x64 .f32) (harg3 : arg3.IsWhole) (arg4 : Memref sig .tc .vmem S8192x64 .bf16) (harg4 : arg4.IsWhole) (arg5 : Memref sig .tc .vmem S64x8192 .f32) (harg5 : arg5.IsWhole) (arg6 : Memref sig .tc .vmem S1x8192 .f32) (harg6 : arg6.IsWhole) (arg7 : Memref sig .tc .vmem S64x8192 .f32) (harg7 : arg7.IsWhole) (arg8 : Memref sig .tc .vmem S1x1x128x64 .f32) (harg8 : arg8.IsWhole) (arg9 : Memref sig .tc .vmem S64x8192 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x1 .i32) (harg13 : arg13.IsWhole) (arg14 : Memref sig .tc .vmem S2x8192 .f32) (harg14 : arg14.IsWhole) (arg15 : Memref sig .tc .vmem S128x8192 .f32) (harg15 : arg15.IsWhole) (arg16 : Memref sig .tc .vmem S16x8192 .f32) (harg16 : arg16.IsWhole) (arg17 : Memref sig .tc .smem S2x1 .f32) (harg17 : arg17.IsWhole) (arg18 : Memref sig .tc .smem S2x8 .i32) (harg18 : arg18.IsWhole) (arg19 : Memref sig .tc .vmem S1x8192 .f32) (harg19 : arg19.IsWhole) (hc0 : ¬cond0 i) (hc1 : cond1 i) (x2 : Vec F S1x128x64 .f32) (x3 : Vec F S1x128x64 .f32) (x4 : Vec F S8192x64 .bf16) (x5 : Vec F S64x8192 .f32) (x6 : Vec F S1x8192 .f32) (x7 : Vec F S64x8192 .f32) (x14 : Vec F S2x8192 .f32) (x15 : Vec F S128x8192 .f32) (x16 : Vec F S16x8192 .f32) (x17 : Vec F S2x1 .f32) (x18 : Vec F S2x8 .i32)
     (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare (esqV x5)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (qV i x2 x3 x4 x5) ∗ owns (c : Thread nD τ) arg9 fullShare (entOut x6 x7 (cntPut i x2 x3 x5 x14) (dwPut i x2 x3 x5 x15)) ∗ owns (c : Thread nD τ) arg10 fullShare (lcmOut (phPut i x2 x3 x5 x16)) ∗ owns (c : Thread nD τ) arg11 fullShare (acOut (consPut i x2 x3 x5 x17)) ∗ owns (c : Thread nD τ) arg12 fullShare (vcOut (consPut i x2 x3 x5 x17)) ∗ owns (c : Thread nD τ) arg13 fullShare (eqOut (modesPut i x2 x3 x5 x18)) ∗ owns (c : Thread nD τ) arg14 fullShare (cntPut i x2 x3 x5 x14) ∗ owns (c : Thread nD τ) arg15 fullShare (dwPut i x2 x3 x5 x15) ∗ owns (c : Thread nD τ) arg16 fullShare (phPut i x2 x3 x5 x16) ∗ owns (c : Thread nD τ) arg17 fullShare (consPut i x2 x3 x5 x17) ∗ owns (c : Thread nD τ) arg18 fullShare (modesPut i x2 x3 x5 x18) ∗ owns (c : Thread nD τ) arg19 fullShare (esqV x5)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  have H := (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x14 x15 x16 x17 x18 (esqV x5)).2.2.2.2.2.2.2.2.2.2.2  E K
  have e8 := piecesC_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x14 x15 x16 x17 x18
  have e9 := piecesC_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x14 x15 x16 x17 x18
  have e10 := piecesC_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x14 x15 x16 x17 x18
  have e11 := piecesC_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x14 x15 x16 x17 x18
  have e12 := piecesC_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x14 x15 x16 x17 x18
  have e13 := piecesC_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x14 x15 x16 x17 x18
  have e14 := piecesC_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x14 x15 x16 x17 x18
  have e15 := piecesC_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x14 x15 x16 x17 x18
  have e16 := piecesC_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x14 x15 x16 x17 x18
  have e17 := piecesC_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x14 x15 x16 x17 x18
  have e18 := piecesC_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x2 x3 x4 x5 x6 x7 x14 x15 x16 x17 x18
  simp only [e8, e9, e10, e11, e12, e13, e14, e15, e16, e17, e18] at H
  iintro ⟨H2, H3, H4, H5, H6, H7, H8, H9, H10, H11, H12, H13, H14, H15, H16, H17, H18, H19, Hk⟩
  iapply H
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iintro ⟨H2, H3, H4, H5, H6, H7, ⟨%f8, H8⟩, ⟨%f9, H9⟩, ⟨%f10, H10⟩, ⟨%f11, H11⟩, ⟨%f12, H12⟩, ⟨%f13, H13⟩, H14, H15, H16, H17, H18, H19⟩
  iapply Hk
  isplitl [H2]
  · iexact H2
  isplitl [H3]
  · iexact H3
  isplitl [H4]
  · iexact H4
  isplitl [H5]
  · iexact H5
  isplitl [H6]
  · iexact H6
  isplitl [H7]
  · iexact H7
  isplitl [H8]
  · unfold owns; iexists _; isplitr; swap; · iexact H8
    ipureintro; exact harg8.read_unread _
  isplitl [H9]
  · unfold owns; iexists _; isplitr; swap; · iexact H9
    ipureintro; exact harg9.read_unread _
  isplitl [H10]
  · unfold owns; iexists _; isplitr; swap; · iexact H10
    ipureintro; exact harg10.read_unread _
  isplitl [H11]
  · unfold owns; iexists _; isplitr; swap; · iexact H11
    ipureintro; exact harg11.read_unread _
  isplitl [H12]
  · unfold owns; iexists _; isplitr; swap; · iexact H12
    ipureintro; exact harg12.read_unread _
  isplitl [H13]
  · unfold owns; iexists _; isplitr; swap; · iexact H13
    ipureintro; exact harg13.read_unread _
  isplitl [H14]
  · unfold owns; iexists _; isplitr; swap; · iexact H14
    ipureintro; exact harg14.read_unread _
  isplitl [H15]
  · unfold owns; iexists _; isplitr; swap; · iexact H15
    ipureintro; exact harg15.read_unread _
  isplitl [H16]
  · unfold owns; iexists _; isplitr; swap; · iexact H16
    ipureintro; exact harg16.read_unread _
  isplitl [H17]
  · unfold owns; iexists _; isplitr; swap; · iexact H17
    ipureintro; exact harg17.read_unread _
  isplitl [H18]
  · unfold owns; iexists _; isplitr; swap; · iexact H18
    ipureintro; exact harg18.read_unread _
  iexact H19

end Cert.KernelIdeal.Hand

end
-- ==== Proof.KernelIdeal.Run.lean ====
/- What the scratch buffers hold as the grid goes on: the two accumulators and the losses by recursion over the points,
   the mean distributions and the modes entry by entry. -/
module

public import proofs.«01_k».proof.Proof.KernelIdeal.StepA
public import proofs.«01_k».proof.Proof.KernelIdeal.StepB
public import proofs.«01_k».proof.Proof.KernelIdeal.StepC
public import Idealize.ShloMosaic.Lib.ValueIdxCore

@[expose] public section

-- long rectangles (8192 entries a row) are looked through coordinate by coordinate
set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx (ix2)

variable (m : (ℓ : Loc nD τ sig) → Buf (Elt F) ℓ)

/-- The grid's point number `n`. -/
def pt (n : ℕ) : Fin cfg0.N := ⟨n % 16, lt_of_lt_of_eq (Nat.mod_lt _ (by decide)) (show cfg0.N = 16 from N_0).symm⟩

theorem pt_val (t : Fin cfg0.N) : pt t.val = t := Fin.ext (Nat.mod_eq_of_lt (lt16 t))

theorem pt_of_lt {n : ℕ} (h : n < 16) : (pt n).val = n := Nat.mod_eq_of_lt h

/-! The input blocks of a point. -/

abbrev blkA (c : Dev nD) (t : Fin cfg0.N) : Vec F S1x128x64 .f32 := iblk m c 0 t
abbrev blkV (c : Dev nD) (t : Fin cfg0.N) : Vec F S1x128x64 .f32 := iblk m c 1 t
abbrev blkE (c : Dev nD) (t : Fin cfg0.N) : Vec F S8192x64 .bf16 := iblk m c 2 t
abbrev blkT (c : Dev nD) (t : Fin cfg0.N) : Vec F S64x8192 .f32 := iblk m c 3 t
abbrev blkC (c : Dev nD) (t : Fin cfg0.N) : Vec F S1x8192 .f32 := iblk m c 4 t
abbrev blkW (c : Dev nD) (t : Fin cfg0.N) : Vec F S64x8192 .f32 := iblk m c 5 t

/-- The codebook's block is the same at every point. -/
theorem blkT_const (c : Dev nD) (t t' : Fin cfg0.N) : blkT m c t = blkT m c t' := by
  unfold blkT iblk; rfl

/-- The weights after `n` points. -/
def cntAt (c : Dev nD) : ℕ → Vec F S2x8192 .f32
  | 0 => k0_pay14
  | n + 1 => cntPut (grid0.coords (pt n)) (blkA m c (pt n)) (blkV m c (pt n)) (blkT m c (pt n)) (cntAt c n)
/-- The weighted sums after `n` points. -/
def dwAt (c : Dev nD) : ℕ → Vec F S128x8192 .f32
  | 0 => k0_pay15
  | n + 1 => dwPut (grid0.coords (pt n)) (blkA m c (pt n)) (blkV m c (pt n)) (blkT m c (pt n)) (dwAt c n)
/-- The consistency losses after `n` points. -/
def consAt (c : Dev nD) : ℕ → Vec F S2x1 .f32
  | 0 => consZero
  | n + 1 => consPut (grid0.coords (pt n)) (blkA m c (pt n)) (blkV m c (pt n)) (blkT m c (pt n)) (consAt c n)
/-- All the mean distributions: row `n` is point `n`'s. -/
def phAll (c : Dev nD) : Vec F S16x8192 .f32 := fun y =>
  phV (grid0.coords (pt (y 0).val)) (blkA m c (pt (y 0).val)) (blkV m c (pt (y 0).val)) (blkT m c (pt (y 0).val)) (ix2 (0 : Fin 1) (y 1))
/-- All the modes: entry `(s, b)` is point `8 s + b`'s. -/
def modesAll (c : Dev nD) : Vec F S2x8 .i32 := fun y =>
  modeV (grid0.coords (pt (8 * (y 0).val + (y 1).val))) (blkA m c (pt (8 * (y 0).val + (y 1).val))) (blkV m c (pt (8 * (y 0).val + (y 1).val))) (blkT m c (pt (8 * (y 0).val + (y 1).val)))

/-- The scratch buffers' contents before point `n`. -/
structure Good (c : Dev nD) (n : ℕ) (x14 : Vec F S2x8192 .f32) (x15 : Vec F S128x8192 .f32) (x16 : Vec F S16x8192 .f32)
    (x17 : Vec F S2x1 .f32) (x18 : Vec F S2x8 .i32) (x19 : Vec F S1x8192 .f32) : Prop where
  cnt : 0 < n → x14 = cntAt m c n
  dw : 0 < n → x15 = dwAt m c n
  cons : 0 < n → x17 = consAt m c n
  esq : 0 < n → x19 = esqV (blkT m c (pt n))
  ph : ∀ y : S16x8192.Idx, (y 0).val < n → x16 y = phAll m c y
  modes : ∀ y : S2x8.Idx, 8 * (y 0).val + (y 1).val < n → x18 y = modesAll m c y

/-- Before the first point nothing is asked. -/
theorem Good.zero (c : Dev nD) (x14 : Vec F S2x8192 .f32) (x15 : Vec F S128x8192 .f32) (x16 : Vec F S16x8192 .f32)
    (x17 : Vec F S2x1 .f32) (x18 : Vec F S2x8 .i32) (x19 : Vec F S1x8192 .f32) : Good m c 0 x14 x15 x16 x17 x18 x19 :=
  ⟨fun h => absurd h (lt_irrefl _), fun h => absurd h (lt_irrefl _), fun h => absurd h (lt_irrefl _), fun h => absurd h (lt_irrefl _),
    fun _ h => absurd h (Nat.not_lt_zero _), fun _ h => absurd h (Nat.not_lt_zero _)⟩

/-- The row a point writes is the point's number. -/
theorem off1_coords (t : Fin cfg0.N) : k0_off1 (grid0.coords t) = ![t.val, 0] := by
  have ht := lt16 t
  obtain ⟨e0, e1⟩ := coords_eq t
  rw [k0_off1_eq, e0, e1]
  have : 8 * (t.val / 8 % 2) + t.val / 1 % 8 = t.val := by omega
  rw [this]
/-- The entry a point writes its mode into. -/
theorem off5_coords (t : Fin cfg0.N) : k0_off5 (grid0.coords t) = ![t.val / 8, t.val % 8] := by
  have ht := lt16 t
  obtain ⟨e0, e1⟩ := coords_eq t
  rw [k0_off5_eq, e0, e1]
  have h0 : t.val / 8 % 2 = t.val / 8 := by omega
  have h1 : t.val / 1 % 8 = t.val % 8 := by omega
  rw [h0, h1]

/-- A point writes its row of mean distributions and leaves the others. -/
theorem ph_step (c : Dev nD) (t : Fin cfg0.N) (x16 : Vec F S16x8192 .f32)
    (h : ∀ y : S16x8192.Idx, (y 0).val < t.val → x16 y = phAll m c y) (y : S16x8192.Idx) (hy : (y 0).val < t.val + 1) :
    phPut (grid0.coords t) (blkA m c t) (blkV m c t) (blkT m c t) x16 y = phAll m c y := by
  unfold phPut VecWindow.put
  rw [off1_coords]
  split
  · next hin =>
    have e : (y 0).val = t.val := by have := hin 0; simp at this; omega
    unfold phAll
    rw [e, pt_val]
    refine congrArg _ (funext fun a => Fin.ext ?_)
    fin_cases a
    · show (y 0).val - t.val = 0; omega
    · show (y 1).val - 0 = (y 1).val; omega
  · next hout =>
    refine h y (lt_of_le_of_ne (Nat.lt_succ_iff.mp hy) fun e => hout fun a => ?_)
    fin_cases a
    · exact ⟨by simp [e], by simp [e]⟩
    · exact ⟨Nat.zero_le _, by simpa using (y 1).isLt⟩

/-- A point writes its mode and leaves the others. -/
theorem modes_step (c : Dev nD) (t : Fin cfg0.N) (x18 : Vec F S2x8 .i32)
    (h : ∀ y : S2x8.Idx, 8 * (y 0).val + (y 1).val < t.val → x18 y = modesAll m c y) (y : S2x8.Idx) (hy : 8 * (y 0).val + (y 1).val < t.val + 1) :
    modesPut (grid0.coords t) (blkA m c t) (blkV m c t) (blkT m c t) x18 y = modesAll m c y := by
  have h8 : (y 1).val < 8 := (y 1).isLt
  unfold modesPut VecWindow.put
  rw [off5_coords]
  split
  · next hin =>
    have e0 : (y 0).val = t.val / 8 := by have := hin 0; simp at this; omega
    have e1 : (y 1).val = t.val % 8 := by have := hin 1; simp at this; omega
    have e : 8 * (y 0).val + (y 1).val = t.val := by omega
    unfold modesAll
    rw [e, pt_val]
  · next hout =>
    refine h y (lt_of_le_of_ne (Nat.lt_succ_iff.mp hy) fun e => hout fun a => ?_)
    fin_cases a
    · exact ⟨by simp; omega, by simp; omega⟩
    · exact ⟨by simp; omega, by simp; omega⟩

/-- From the first point on, a point takes good contents to good contents. -/
theorem Good.step (c : Dev nD) (t : Fin cfg0.N) {x16 : Vec F S16x8192 .f32} {x18 : Vec F S2x8 .i32}
    (hp : ∀ y : S16x8192.Idx, (y 0).val < t.val → x16 y = phAll m c y)
    (hm : ∀ y : S2x8.Idx, 8 * (y 0).val + (y 1).val < t.val → x18 y = modesAll m c y) :
    Good m c (t.val + 1) (cntPut (grid0.coords t) (blkA m c t) (blkV m c t) (blkT m c t) (cntAt m c t.val))
      (dwPut (grid0.coords t) (blkA m c t) (blkV m c t) (blkT m c t) (dwAt m c t.val))
      (phPut (grid0.coords t) (blkA m c t) (blkV m c t) (blkT m c t) x16)
      (consPut (grid0.coords t) (blkA m c t) (blkV m c t) (blkT m c t) (consAt m c t.val))
      (modesPut (grid0.coords t) (blkA m c t) (blkV m c t) (blkT m c t) x18) (esqV (blkT m c t)) where
  cnt _ := by show _ = cntPut _ _ _ _ _; rw [pt_val]
  dw _ := by show _ = dwPut _ _ _ _ _; rw [pt_val]
  cons _ := by show _ = consPut _ _ _ _ _; rw [pt_val]
  esq _ := by rw [blkT_const m c t (pt (t.val + 1))]
  ph := ph_step m c t x16 hp
  modes := modes_step m c t x18 hm

/-- After the last point the mean distributions are all there. -/
theorem Good.phFull (c : Dev nD) {x14 : Vec F S2x8192 .f32} {x15 : Vec F S128x8192 .f32} {x16 : Vec F S16x8192 .f32}
    {x17 : Vec F S2x1 .f32} {x18 : Vec F S2x8 .i32} {x19 : Vec F S1x8192 .f32} (h : Good m c 16 x14 x15 x16 x17 x18 x19) : x16 = phAll m c :=
  funext fun y => h.ph y (y 0).isLt

/-- After the last point the modes are all there. -/
theorem Good.modesFull (c : Dev nD) {x14 : Vec F S2x8192 .f32} {x15 : Vec F S128x8192 .f32} {x16 : Vec F S16x8192 .f32}
    {x17 : Vec F S2x1 .f32} {x18 : Vec F S2x8 .i32} {x19 : Vec F S1x8192 .f32} (h : Good m c 16 x14 x15 x16 x17 x18 x19) : x18 = modesAll m c :=
  funext fun y => h.modes y (by
    have h0 : (y 0).val < 2 := (y 0).isLt
    have h1 : (y 1).val < 8 := (y 1).isLt
    omega)

end Cert.KernelIdeal.Hand

end
-- ==== Proof.KernelIdeal.Frame.lean ====
/- The frame: the kernel runs, leaves its arguments unchanged and its counters at zero; and what its result arrays end as. -/
module

public import proofs.«01_k».proof.Proof.KernelIdeal.Run

@[expose] public section

-- long rectangles (8192 entries a row) are looked through coordinate by coordinate
set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The invariant before point `n`: the scratch buffers at good contents, and the generator register at some state. -/
def PhiS (c : Dev nD) (n : ℕ) (_ : n ≤ cfg0.N) : sProp 𝕄 :=
  iprop((∃ x14, ∃ x15, ∃ x16, ∃ x17, ∃ x18, ∃ x19, ⌜Good m c n x14 x15 x16 x17 x18 x19⌝
      ∗ owns (c : Thread nD τ) cntM fullShare x14 ∗ owns (c : Thread nD τ) dwM fullShare x15
      ∗ owns (c : Thread nD τ) phM fullShare x16 ∗ owns (c : Thread nD τ) consM fullShare x17
      ∗ owns (c : Thread nD τ) modesM fullShare x18 ∗ owns (c : Thread nD τ) esqM fullShare x19)
    ∗ (∃ r, prngReg c r))

/-- The pipeline's proof data: each input's buffer at its block, the quantized rows at each point's, the other outputs at
    what the last point computes from the finished scratch buffers. -/
def dats (_ : Fin 1) (c : Dev nD) : Dat τ (Elt F) Unit ℕ (UR sig nD τ) ℕ cfg0 c where
  A w := V m c (Pipeline.arrRef spec0 w)
  after w t := match w with
    | ⟨0, _⟩ => blkA m c t
    | ⟨1, _⟩ => blkV m c t
    | ⟨2, _⟩ => blkE m c t
    | ⟨3, _⟩ => blkT m c t
    | ⟨4, _⟩ => blkC m c t
    | ⟨5, _⟩ => blkW m c t
    | ⟨6, _⟩ => qV (grid0.coords t) (blkA m c t) (blkV m c t) (blkE m c t) (blkT m c t)
    | ⟨7, _⟩ => entOut (blkC m c t) (blkW m c t) (cntAt m c 16) (dwAt m c 16)
    | ⟨8, _⟩ => lcmOut (phAll m c)
    | ⟨9, _⟩ => acOut (consAt m c 16)
    | ⟨10, _⟩ => vcOut (consAt m c 16)
    | ⟨11, _⟩ => eqOut (modesAll m c)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = blkA m c t := by dsimp only [dats]
theorem after_1 (c : Dev nD) (t : Fin cfg0.N) : (dats m 0 c).after 1 t = blkV m c t := by dsimp only [dats]
theorem after_2 (c : Dev nD) (t : Fin cfg0.N) : (dats m 0 c).after 2 t = blkE m c t := by dsimp only [dats]
theorem after_3 (c : Dev nD) (t : Fin cfg0.N) : (dats m 0 c).after 3 t = blkT m c t := by dsimp only [dats]
theorem after_4 (c : Dev nD) (t : Fin cfg0.N) : (dats m 0 c).after 4 t = blkC m c t := by dsimp only [dats]
theorem after_5 (c : Dev nD) (t : Fin cfg0.N) : (dats m 0 c).after 5 t = blkW m c t := by dsimp only [dats]
theorem after_6 (c : Dev nD) (t : Fin cfg0.N) : (dats m 0 c).after 6 t = qV (grid0.coords t) (blkA m c t) (blkV m c t) (blkE m c t) (blkT m c t) := by dsimp only [dats]
theorem after_7 (c : Dev nD) (t : Fin cfg0.N) : (dats m 0 c).after 7 t = entOut (blkC m c t) (blkW m c t) (cntAt m c 16) (dwAt m c 16) := by dsimp only [dats]
theorem after_8 (c : Dev nD) (t : Fin cfg0.N) : (dats m 0 c).after 8 t = lcmOut (phAll m c) := by dsimp only [dats]
theorem after_9 (c : Dev nD) (t : Fin cfg0.N) : (dats m 0 c).after 9 t = acOut (consAt m c 16) := by dsimp only [dats]
theorem after_10 (c : Dev nD) (t : Fin cfg0.N) : (dats m 0 c).after 10 t = vcOut (consAt m c 16) := by dsimp only [dats]
theorem after_11 (c : Dev nD) (t : Fin cfg0.N) : (dats m 0 c).after 11 t = eqOut (modesAll m c) := by dsimp only [dats]

theorem before_0 (c : Dev nD) (t : Fin cfg0.N) (d) : (dats m 0 c).before 0 t d = blkA m c t :=
  before0_0_of m (dats m 0 c) (A_eq m c 0) (after_0 m c) t d
theorem before_1 (c : Dev nD) (t : Fin cfg0.N) (d) : (dats m 0 c).before 1 t d = blkV m c t :=
  before0_1_of m (dats m 0 c) (A_eq m c 1) (after_1 m c) t d
theorem before_2 (c : Dev nD) (t : Fin cfg0.N) (d) : (dats m 0 c).before 2 t d = blkE m c t :=
  before0_2_of m (dats m 0 c) (A_eq m c 2) (after_2 m c) t d
theorem before_3 (c : Dev nD) (t : Fin cfg0.N) (d) : (dats m 0 c).before 3 t d = blkT m c t :=
  before0_3_of m (dats m 0 c) (A_eq m c 3) (after_3 m c) t d
theorem before_4 (c : Dev nD) (t : Fin cfg0.N) (d) : (dats m 0 c).before 4 t d = blkC m c t :=
  before0_4_of m (dats m 0 c) (A_eq m c 4) (after_4 m c) t d
theorem before_5 (c : Dev nD) (t : Fin cfg0.N) (d) : (dats m 0 c).before 5 t d = blkW m c t :=
  before0_5_of m (dats m 0 c) (A_eq m c 5) (after_5 m c) t d

/-- A window that is not idle is left at `after`. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- What the body is called with at a point, the windows one by one, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d))
    ∗ (∃ d, owns (c : Thread nD τ) (stg11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 2000000 in
/-- The body at the first point. -/
theorem bodyA (c : Dev nD) (t : Fin cfg0.N) (ht : t.val = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl, PhiS_castSucc,
    show (dats m 0 c).Φ t.succ = PhiS m c (t.val + 1) t.isLt from rfl]
  rw [leaves_live m c 0 t (live_low 0 (by decide) t), after_0]
  rw [leaves_live m c 1 t (live_low 1 (by decide) t), after_1]
  rw [leaves_live m c 2 t (live_low 2 (by decide) t), after_2]
  rw [leaves_live m c 3 t (live_low 3 (by decide) t), after_3]
  rw [leaves_live m c 4 t (live_low 4 (by decide) t), after_4]
  rw [leaves_live m c 5 t (live_low 5 (by decide) t), after_5]
  rw [leaves_live m c 6 t (live_low 6 (by decide) t), after_6]
  rw [Dat.leavesExact_idle (dats m 0 c) 7 t (idle_high 7 (by decide) t (by omega)).1 (idle_high 7 (by decide) t (by omega)).2]
  rw [Dat.leavesExact_idle (dats m 0 c) 8 t (idle_high 8 (by decide) t (by omega)).1 (idle_high 8 (by decide) t (by omega)).2]
  rw [Dat.leavesExact_idle (dats m 0 c) 9 t (idle_high 9 (by decide) t (by omega)).1 (idle_high 9 (by decide) t (by omega)).2]
  rw [Dat.leavesExact_idle (dats m 0 c) 10 t (idle_high 10 (by decide) t (by omega)).1 (idle_high 10 (by decide) t (by omega)).2]
  rw [Dat.leavesExact_idle (dats m 0 c) 11 t (idle_high 11 (by decide) t (by omega)).1 (idle_high 11 (by decide) t (by omega)).2]
  unfold PhiS
  iintro ⟨⟨⟨%x14, %x15, %x16, %x17, %x18, %x19, %hg, HS14, HS15, HS16, HS17, HS18, HS19⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have hg := Good.step m c t hg.ph hg.modes
  have e14 : cntAt m c t.val = k0_pay14 := by rw [ht]; rfl
  have e15 : dwAt m c t.val = k0_pay15 := by rw [ht]; rfl
  have e17 : consAt m c t.val = consZero := by rw [ht]; rfl
  rw [e14, e15, e17] at hg
  iapply (stepA c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) (stg8 t) (hstg8 t) (stg9 t) (hstg9 t) (stg10 t) (hstg10 t) (stg11 t) (hstg11 t) cntM (Memref.isWhole_whole _) dwM (Memref.isWhole_whole _) phM (Memref.isWhole_whole _) consM (Memref.isWhole_whole _) modesM (Memref.isWhole_whole _) esqM (Memref.isWhole_whole _) ((hcond0 t).mpr ht) (fun h => by have := (hcond1 t).mp h; omega) (blkA m c t) (blkV m c t) (blkE m c t) (blkT m c t) (blkC m c t) (blkW m c t) x14 x15 x16 x17 x18 x19 ((dats m 0 c).before 7 t d7) ((dats m 0 c).before 8 t d8) ((dats m 0 c).before 9 t d9) ((dats m 0 c).before 10 t d10) ((dats m 0 c).before 11 t d11) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  isplitl [H9]; · iexact H9
  isplitl [H10]; · iexact H10
  isplitl [H11]; · iexact H11
  isplitl [HS14]; · iexact HS14
  isplitl [HS15]; · iexact HS15
  isplitl [HS16]; · iexact HS16
  isplitl [HS17]; · iexact HS17
  isplitl [HS18]; · iexact HS18
  isplitl [HS19]; · iexact HS19
  iintro ⟨H0, H1, H2, H3, H4, H5, H6, H7, H8, H9, H10, H11, HS14, HS15, HS16, HS17, HS18, HS19⟩
  isplitl [HS14 HS15 HS16 HS17 HS18 HS19 Hg]
  · isplitr [Hg]
    swap; · iexact Hg
    iexists _, _, _, _, _, _
    isplitr; · ipureintro; exact hg
    isplitl [HS14]; · iexact HS14
    isplitl [HS15]; · iexact HS15
    isplitl [HS16]; · iexact HS16
    isplitl [HS17]; · iexact HS17
    isplitl [HS18]; · iexact HS18
    iexact HS19
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  iexists _; iexact H11

set_option maxHeartbeats 2000000 in
/-- The body at a point between the first and the last. -/
theorem bodyB (c : Dev nD) (t : Fin cfg0.N) (h0 : t.val ≠ 0) (h15 : t.val ≠ 15) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl, PhiS_castSucc,
    show (dats m 0 c).Φ t.succ = PhiS m c (t.val + 1) t.isLt from rfl]
  rw [leaves_live m c 0 t (live_low 0 (by decide) t), after_0]
  rw [leaves_live m c 1 t (live_low 1 (by decide) t), after_1]
  rw [leaves_live m c 2 t (live_low 2 (by decide) t), after_2]
  rw [leaves_live m c 3 t (live_low 3 (by decide) t), after_3]
  rw [leaves_live m c 4 t (live_low 4 (by decide) t), after_4]
  rw [leaves_live m c 5 t (live_low 5 (by decide) t), after_5]
  rw [leaves_live m c 6 t (live_low 6 (by decide) t), after_6]
  rw [Dat.leavesExact_idle (dats m 0 c) 7 t (idle_high 7 (by decide) t h15).1 (idle_high 7 (by decide) t h15).2]
  rw [Dat.leavesExact_idle (dats m 0 c) 8 t (idle_high 8 (by decide) t h15).1 (idle_high 8 (by decide) t h15).2]
  rw [Dat.leavesExact_idle (dats m 0 c) 9 t (idle_high 9 (by decide) t h15).1 (idle_high 9 (by decide) t h15).2]
  rw [Dat.leavesExact_idle (dats m 0 c) 10 t (idle_high 10 (by decide) t h15).1 (idle_high 10 (by decide) t h15).2]
  rw [Dat.leavesExact_idle (dats m 0 c) 11 t (idle_high 11 (by decide) t h15).1 (idle_high 11 (by decide) t h15).2]
  unfold PhiS
  iintro ⟨⟨⟨%x14, %x15, %x16, %x17, %x18, %x19, %hg, HS14, HS15, HS16, HS17, HS18, HS19⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  obtain ⟨e14, e15, e17, e19, hp, hm⟩ := hg
  obtain rfl := e14 (Nat.pos_of_ne_zero h0); obtain rfl := e15 (Nat.pos_of_ne_zero h0); obtain rfl := e17 (Nat.pos_of_ne_zero h0)
  obtain rfl : x19 = esqV (blkT m c t) := (e19 (Nat.pos_of_ne_zero h0)).trans (by rw [blkT_const m c t (pt t.val)])
  have hg := Good.step m c t hp hm
  iapply (stepB c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) (stg8 t) (hstg8 t) (stg9 t) (hstg9 t) (stg10 t) (hstg10 t) (stg11 t) (hstg11 t) cntM (Memref.isWhole_whole _) dwM (Memref.isWhole_whole _) phM (Memref.isWhole_whole _) consM (Memref.isWhole_whole _) modesM (Memref.isWhole_whole _) esqM (Memref.isWhole_whole _) (fun h => h0 ((hcond0 t).mp h)) (fun h => h15 ((hcond1 t).mp h)) (blkA m c t) (blkV m c t) (blkE m c t) (blkT m c t) (blkC m c t) (blkW m c t) (cntAt m c t.val) (dwAt m c t.val) x16 (consAt m c t.val) x18  ((dats m 0 c).before 7 t d7) ((dats m 0 c).before 8 t d8) ((dats m 0 c).before 9 t d9) ((dats m 0 c).before 10 t d10) ((dats m 0 c).before 11 t d11) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  isplitl [H9]; · iexact H9
  isplitl [H10]; · iexact H10
  isplitl [H11]; · iexact H11
  isplitl [HS14]; · iexact HS14
  isplitl [HS15]; · iexact HS15
  isplitl [HS16]; · iexact HS16
  isplitl [HS17]; · iexact HS17
  isplitl [HS18]; · iexact HS18
  isplitl [HS19]; · iexact HS19
  iintro ⟨H0, H1, H2, H3, H4, H5, H6, H7, H8, H9, H10, H11, HS14, HS15, HS16, HS17, HS18, HS19⟩
  isplitl [HS14 HS15 HS16 HS17 HS18 HS19 Hg]
  · isplitr [Hg]
    swap; · iexact Hg
    iexists _, _, _, _, _, _
    isplitr; · ipureintro; exact hg
    isplitl [HS14]; · iexact HS14
    isplitl [HS15]; · iexact HS15
    isplitl [HS16]; · iexact HS16
    isplitl [HS17]; · iexact HS17
    isplitl [HS18]; · iexact HS18
    iexact HS19
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  iexists _; iexact H11

set_option maxHeartbeats 2000000 in
/-- The body at the last point. -/
theorem bodyC (c : Dev nD) (t : Fin cfg0.N) (ht : t.val = 15) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl, PhiS_castSucc,
    show (dats m 0 c).Φ t.succ = PhiS m c (t.val + 1) t.isLt from rfl]
  rw [leaves_live m c 0 t (live_low 0 (by decide) t), after_0]
  rw [leaves_live m c 1 t (live_low 1 (by decide) t), after_1]
  rw [leaves_live m c 2 t (live_low 2 (by decide) t), after_2]
  rw [leaves_live m c 3 t (live_low 3 (by decide) t), after_3]
  rw [leaves_live m c 4 t (live_low 4 (by decide) t), after_4]
  rw [leaves_live m c 5 t (live_low 5 (by decide) t), after_5]
  rw [leaves_live m c 6 t (live_low 6 (by decide) t), after_6]
  rw [leaves_live m c 7 t (live_last 7 t ht), after_7]
  rw [leaves_live m c 8 t (live_last 8 t ht), after_8]
  rw [leaves_live m c 9 t (live_last 9 t ht), after_9]
  rw [leaves_live m c 10 t (live_last 10 t ht), after_10]
  rw [leaves_live m c 11 t (live_last 11 t ht), after_11]
  unfold PhiS
  iintro ⟨⟨⟨%x14, %x15, %x16, %x17, %x18, %x19, %hg, HS14, HS15, HS16, HS17, HS18, HS19⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  obtain ⟨e14, e15, e17, e19, hp, hm⟩ := hg
  obtain rfl := e14 (by omega); obtain rfl := e15 (by omega); obtain rfl := e17 (by omega)
  obtain rfl : x19 = esqV (blkT m c t) := (e19 (by omega)).trans (by rw [blkT_const m c t (pt t.val)])
  have hg := Good.step m c t hp hm
  have hF : Good m c 16 _ _ _ _ _ _ := (show t.val + 1 = 16 by omega) ▸ hg
  have f14 := hF.cnt (by decide)
  have f15 := hF.dw (by decide)
  have f16 := hF.phFull
  have f17 := hF.cons (by decide)
  have f18 := hF.modesFull
  iapply (stepC c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) (stg8 t) (hstg8 t) (stg9 t) (hstg9 t) (stg10 t) (hstg10 t) (stg11 t) (hstg11 t) cntM (Memref.isWhole_whole _) dwM (Memref.isWhole_whole _) phM (Memref.isWhole_whole _) consM (Memref.isWhole_whole _) modesM (Memref.isWhole_whole _) esqM (Memref.isWhole_whole _) (fun h => by have := (hcond0 t).mp h; omega) ((hcond1 t).mpr ht) (blkA m c t) (blkV m c t) (blkE m c t) (blkT m c t) (blkC m c t) (blkW m c t) (cntAt m c t.val) (dwAt m c t.val) x16 (consAt m c t.val) x18   Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [HS14]; · iexact HS14
  isplitl [HS15]; · iexact HS15
  isplitl [HS16]; · iexact HS16
  isplitl [HS17]; · iexact HS17
  isplitl [HS18]; · iexact HS18
  isplitl [HS19]; · iexact HS19
  iintro ⟨H0, H1, H2, H3, H4, H5, H6, H7, H8, H9, H10, H11, HS14, HS15, HS16, HS17, HS18, HS19⟩
  isplitl [HS14 HS15 HS16 HS17 HS18 HS19 Hg]
  · isplitr [Hg]
    swap; · iexact Hg
    iexists _, _, _, _, _, _
    isplitr; · ipureintro; exact hg
    isplitl [HS14]; · iexact HS14
    isplitl [HS15]; · iexact HS15
    isplitl [HS16]; · iexact HS16
    isplitl [HS17]; · iexact HS17
    isplitl [HS18]; · iexact HS18
    iexact HS19
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · rw [← f14, ← f15]; iexact H7
  isplitl [H8]; · rw [← f16]; iexact H8
  isplitl [H9]; · rw [← f17]; iexact H9
  isplitl [H10]; · rw [← f17]; iexact H10
  rw [← f18]; iexact H11

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact bodyA m c t h0
  by_cases h15 : t.val = 15
  · exact bodyC m c t h15
  · exact bodyB m c t h0 h15

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- At launch the scratch buffers hold anything. -/
theorem hin (c : Dev nD) : Pipeline.ΦA spec0 c ⊢ (dats m 0 c).Φ 0 := by
  rw [show (dats m 0 c).Φ 0 = PhiS m c 0 (Nat.zero_le _) from rfl, PhiA_eq]
  unfold PhiS
  iintro ⟨⟨⟨%x14, H14⟩, ⟨%x15, H15⟩, ⟨%x16, H16⟩, ⟨%x19, H19⟩, ⟨%x17, H17⟩, ⟨%x18, H18⟩⟩, Hg⟩
  isplitr [Hg]
  swap; · iexact Hg
  iexists x14, x15, x16, x17, x18, x19
  isplitr; · ipureintro; exact Good.zero m c _ _ _ _ _ _
  isplitl [H14]; · iexact H14
  isplitl [H15]; · iexact H15
  isplitl [H16]; · iexact H16
  isplitl [H17]; · iexact H17
  isplitl [H18]; · iexact H18
  iexact H19

/-- After the last point their contents are forgotten. -/
theorem hout (c : Dev nD) : (dats m 0 c).Φ (Fin.last cfg0.N) ⊢ Pipeline.ΦA spec0 c := by
  rw [show (dats m 0 c).Φ (Fin.last cfg0.N) = PhiS m c cfg0.N le_rfl from rfl, PhiA_eq]
  unfold PhiS
  iintro ⟨⟨%x14, %x15, %x16, %x17, %x18, %x19, %hg, H14, H15, H16, H17, H18, H19⟩, Hg⟩
  isplitr [Hg]
  swap; · iexact Hg
  isplitl [H14]; · iexists _; iexact H14
  isplitl [H15]; · iexists _; iexact H15
  isplitl [H16]; · iexists _; iexact H16
  isplitl [H19]; · iexists _; iexact H19
  isplitl [H17]; · iexists _; iexact H17
  iexists _; iexact H18

-- the library theorem's implicit arguments are found by unifying its conclusion with this one
set_option backward.isDefEq.respectTransparency.types false in
set_option maxHeartbeats 800000 in
/-- The launch: every execution ends, the pipeline's arrays at what the proof data says and every counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.KernelFrame.lean ====
/- The frame of the original program, from the frame of its idealization: with no rewrite the two programs are one text. -/
module

public import proofs.«01_k».proof.Proof.KernelIdeal.Frame
public import proofs.«01_k».proof.Proof.Gen.Kernel
public import proofs.«01_k».proof.Proof.Gen.KernelIdeal
public import Idealize.ShloMosaic.PureOps.BitExact
public import Idealize.ShloMosaic.Lib.Tactic

@[expose] public section

set_option maxRecDepth 16384

noncomputable section

namespace Cert.KernelIdeal.Hand

open Cert.KernelIdeal Cert.KernelIdeal.Gen Idealize.ShloMosaic Idealize.SL.Sem

/-- The frame of the kernel's program, over any floats. -/
def FrameStmt (F : FTy → Type) [FloatOps F] : Prop :=
  ∀ (m : (ℓ : Loc nD τ sig) → Buf (Elt F) ℓ) (g : Dev nD → PrngReg),
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)

/-- The same sentence about the original program, over float words. -/
def KernelStmt : Prop :=
  ∀ (m : (ℓ : Loc Cert.Kernel.nD Cert.Kernel.τ Cert.Kernel.sig) → Buf (Elt Bits) ℓ) (g : Dev Cert.Kernel.nD → PrngReg),
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

/-- The two sentences are one. -/
theorem kernelStmt_eq : KernelStmt = FrameStmt Bits := by sl_kernel_rfl

/-- The original program's frame. -/
theorem kernel_frame : KernelStmt := kernelStmt_eq ▸ fun m g => frame m g

end Cert.KernelIdeal.Hand

end
-- ==== Proof.Reference.Straight.lean ====
/- A straight line of host operations in which every operation writes one buffer of its own, from buffers written before:
   the final contents satisfy every operation's equation. -/
module

public import Idealize.ShloMosaic.Lib.StableHlo.Run

@[expose] public section

noncomputable section

namespace Cert.Hand.Straight

open Idealize.ShloMosaic Idealize.ShloMosaic.TcCoe Idealize.SL.Sem Idealize.ShloMosaic.StableHlo

variable {τ : Topo} {sig : RefSig} {Val : EltTy → Type}

/-- A buffer's place in the program. -/
abbrev rank (r : Ref sig .tc) : ℕ := r.idx.val

/-- The operation writes `y` alone, from buffers that come before it. -/
def Writes (op : HloOp τ sig Val) (y : Ref sig .tc) : Prop :=
  op.writes = {(Proc.devRef .tc y : DevRef τ sig)}
    ∧ (∀ V W : Valuation τ sig Val, (∀ r : Ref sig .tc, rank r < rank y → V (Proc.devRef .tc r) = W (Proc.devRef .tc r)) →
      op.result V (Proc.devRef .tc y) = op.result W (Proc.devRef .tc y))
    ∧ op.bufs ⊆ tcRefs τ sig ∧ op.fresh = ∅

/-- The line's operations write buffers in increasing order, from place `n` on and below place `k`. -/
inductive Line : ℕ → ℕ → List (HloOp τ sig Val) → Prop
  | nil {n k : ℕ} (h : n ≤ k) : Line n k []
  | cons {n k : ℕ} {op : HloOp τ sig Val} {ops : List (HloOp τ sig Val)} (y : Ref sig .tc) (hn : n ≤ rank y) (h : Writes op y)
      (t : Line (rank y + 1) k ops) : Line n k (op :: ops)

theorem Line.append {n k l : ℕ} {xs zs : List (HloOp τ sig Val)} (ha : Line n k xs) (hb : Line k l zs) : Line n l (xs ++ zs) := by
  induction ha with
  | nil h =>
    cases hb with
    | nil h' => exact .nil (h.trans h')
    | cons y hn w t => exact .cons y (h.trans hn) w t
  | cons y hn w _ ih => exact .cons y hn w (ih hb)

/-- An operation leaves the other buffers. -/
theorem Writes.other {op : HloOp τ sig Val} {y r : Ref sig .tc} (h : Writes op y) (hr : r ≠ y) (V : Valuation τ sig Val) :
    op.result V (Proc.devRef .tc r) = V (Proc.devRef .tc r) :=
  op.result_of_not_mem V (by rw [h.1, Finset.mem_singleton]; exact fun e => hr (Proc.devRef_injective _ e))

theorem ne_of_rank_lt {r y : Ref sig .tc} (h : rank r < rank y) : r ≠ y := fun e => absurd h (by rw [e]; exact lt_irrefl _)

/-- A buffer before the line is left. -/
theorem Line.before {n k : ℕ} {ops : List (HloOp τ sig Val)} (h : Line n k ops) (V : Valuation τ sig Val) {r : Ref sig .tc} (hr : rank r < n) :
    after ops V (Proc.devRef .tc r) = V (Proc.devRef .tc r) := by
  induction h generalizing V with
  | nil _ => rfl
  | cons y hn w _ ih =>
    rw [after_cons, ih _ (lt_of_lt_of_le hr (hn.trans (Nat.le_succ _))), w.other (ne_of_rank_lt (lt_of_lt_of_le hr hn))]

/-- At the end every operation's equation holds. -/
theorem Line.fixed {n k : ℕ} {ops : List (HloOp τ sig Val)} (h : Line n k ops) (V : Valuation τ sig Val) :
    ∀ op ∈ ops, ∀ r : Ref sig .tc, op.result (after ops V) (Proc.devRef .tc r) = after ops V (Proc.devRef .tc r) := by
  induction h generalizing V with
  | nil _ => intro _ ho; cases ho
  | @cons n k op ops y hn w t ih =>
    intro o ho r
    rw [after_cons]
    rcases List.mem_cons.mp ho with rfl | ho
    · by_cases hr : r = y
      · subst hr
        rw [t.before _ (Nat.lt_succ_self _)]
        refine w.2.1 _ _ fun r hr => ?_
        rw [t.before _ (hr.trans (Nat.lt_succ_self _)), w.other (ne_of_rank_lt hr)]
      · exact w.other hr _
    · exact ih _ o ho r

theorem Line.mem {n k : ℕ} {ops : List (HloOp τ sig Val)} (h : Line n k ops) : ∀ op ∈ ops, op.bufs ⊆ tcRefs τ sig ∧ op.fresh = ∅ := by
  induction h with
  | nil _ => intro _ ho; cases ho
  | cons y _ w _ ih =>
    intro o ho
    rcases List.mem_cons.mp ho with rfl | ho
    · exact w.2.2
    · exact ih o ho

section Builders

variable {n k : ℕ} {ops : List (HloOp τ sig Val)}

theorem Line.nullary {y : Ref sig .tc} {v : y.ty.Contents Val} {hy} (hn : n ≤ rank y) (t : Line (rank y + 1) k ops) :
    Line n k (nullary (τ := τ) y v hy :: ops) :=
  .cons y hn ⟨rfl, fun V W _ => by rw [nullary_result, nullary_result], nullary_bufs_sub .., rfl⟩ t

theorem Line.unary {x y : Ref sig .tc} {f : x.ty.Contents Val → y.ty.Contents Val} {hx hy} (hn : n ≤ rank y) (h : rank x < rank y)
    (t : Line (rank y + 1) k ops) : Line n k (unary (τ := τ) x y f hx hy :: ops) :=
  .cons y hn ⟨rfl, fun V W e => by rw [unary_result, unary_result, e x h], unary_bufs_sub .., rfl⟩ t

theorem Line.reshape {x y : Ref sig .tc} {he : x.ty.elt = y.ty.elt} {hs : x.ty.shape.ShapeCasts y.ty.shape} {hx hy} (hn : n ≤ rank y) (h : rank x < rank y)
    (t : Line (rank y + 1) k ops) : Line n k (reshape (τ := τ) (Val := Val) x y he hs hx hy :: ops) :=
  .cons y hn ⟨rfl, fun V W e => by rw [reshape_result, reshape_result, e x h], reshape_bufs_sub .., rfl⟩ t

theorem Line.binary {a b y : Ref sig .tc} {f : a.ty.Contents Val → b.ty.Contents Val → y.ty.Contents Val} {ha hb hy} (hn : n ≤ rank y)
    (h : rank a < rank y) (h' : rank b < rank y) (t : Line (rank y + 1) k ops) : Line n k (binary (τ := τ) a b y f ha hb hy :: ops) :=
  .cons y hn ⟨rfl, fun V W e => by rw [binary_result, binary_result, e a h, e b h'], binary_bufs_sub .., rfl⟩ t

theorem Line.ternary {c a b y : Ref sig .tc} {f : c.ty.Contents Val → a.ty.Contents Val → b.ty.Contents Val → y.ty.Contents Val} {hc ha hb hy} (hn : n ≤ rank y)
    (h0 : rank c < rank y) (h : rank a < rank y) (h' : rank b < rank y) (t : Line (rank y + 1) k ops) :
    Line n k (ternary (τ := τ) c a b y f hc ha hb hy :: ops) :=
  .cons y hn ⟨rfl, fun V W e => by rw [ternary_result, ternary_result, e c h0, e a h, e b h'], ternary_bufs_sub .., rfl⟩ t

theorem Line.quaternary {a b c d y : Ref sig .tc} {f : a.ty.Contents Val → b.ty.Contents Val → c.ty.Contents Val → d.ty.Contents Val → y.ty.Contents Val}
    {ha hb hc hd hy} (hn : n ≤ rank y) (h0 : rank a < rank y) (h1 : rank b < rank y) (h2 : rank c < rank y) (h3 : rank d < rank y)
    (t : Line (rank y + 1) k ops) : Line n k (quaternary (τ := τ) a b c d y f ha hb hc hd hy :: ops) :=
  .cons y hn ⟨rfl, fun V W e => by rw [quaternary_result, quaternary_result, e a h0, e b h1, e c h2, e d h3], quaternary_bufs_sub .., rfl⟩ t

theorem Line.nary {m : ℕ} {xs : Fin m → Ref sig .tc} {y : Ref sig .tc} {f : ((j : Fin m) → (xs j).ty.Contents Val) → y.ty.Contents Val} {hxs hy}
    (hn : n ≤ rank y) (h : ∀ j, rank (xs j) < rank y) (t : Line (rank y + 1) k ops) : Line n k (nary (τ := τ) xs y f hxs hy :: ops) :=
  .cons y hn ⟨rfl, fun V W e => by
    rw [nary_result, nary_result]; exact congrArg f (funext fun j => e (xs j) (h j)), nary_bufs_sub .., rfl⟩ t

end Builders

/-! The equations: `X` is a valuation every operation of the list fixes. -/

/-- Every operation of the list leaves `X`. -/
def Solves (ops : List (HloOp τ sig Val)) (X : Valuation τ sig Val) : Prop :=
  ∀ op ∈ ops, ∀ r : Ref sig .tc, op.result X (Proc.devRef .tc r) = X (Proc.devRef .tc r)

variable {ops : List (HloOp τ sig Val)} {X : Valuation τ sig Val}

theorem Solves.at (h : Solves ops X) (i : ℕ) {op : HloOp τ sig Val} (e : ops[i]? = some op) (r : Ref sig .tc) :
    op.result X (Proc.devRef .tc r) = X (Proc.devRef .tc r) := h op (List.mem_of_getElem? e) r

theorem Solves.nullary (h : Solves ops X) (i : ℕ) {y : Ref sig .tc} {v : y.ty.Contents Val} {hy}
    (e : ops[i]? = some (StableHlo.nullary y v hy)) : X (Proc.devRef .tc y) = v := by rw [← h.at i e y, nullary_result]

theorem Solves.unary (h : Solves ops X) (i : ℕ) {x y : Ref sig .tc} {f : x.ty.Contents Val → y.ty.Contents Val} {hx hy}
    (e : ops[i]? = some (StableHlo.unary x y f hx hy)) : X (Proc.devRef .tc y) = f (X (Proc.devRef .tc x)) := by rw [← h.at i e y, unary_result]

theorem Solves.reshape (h : Solves ops X) (i : ℕ) {x y : Ref sig .tc} {he : x.ty.elt = y.ty.elt} {hs : x.ty.shape.ShapeCasts y.ty.shape} {hx hy}
    (e : ops[i]? = some (StableHlo.reshape x y he hs hx hy)) :
    X (Proc.devRef .tc y) = fun j => he ▸ shapeCast y.ty.shape (X (Proc.devRef .tc x)) hs j := by rw [← h.at i e y, reshape_result]

theorem Solves.binary (h : Solves ops X) (i : ℕ) {a b y : Ref sig .tc} {f : a.ty.Contents Val → b.ty.Contents Val → y.ty.Contents Val} {ha hb hy}
    (e : ops[i]? = some (StableHlo.binary a b y f ha hb hy)) :
    X (Proc.devRef .tc y) = f (X (Proc.devRef .tc a)) (X (Proc.devRef .tc b)) := by rw [← h.at i e y, binary_result]

theorem Solves.ternary (h : Solves ops X) (i : ℕ) {c a b y : Ref sig .tc} {f : c.ty.Contents Val → a.ty.Contents Val → b.ty.Contents Val → y.ty.Contents Val} {hc ha hb hy}
    (e : ops[i]? = some (StableHlo.ternary c a b y f hc ha hb hy)) :
    X (Proc.devRef .tc y) = f (X (Proc.devRef .tc c)) (X (Proc.devRef .tc a)) (X (Proc.devRef .tc b)) := by rw [← h.at i e y, ternary_result]

theorem Solves.quaternary (h : Solves ops X) (i : ℕ) {a b c d y : Ref sig .tc}
    {f : a.ty.Contents Val → b.ty.Contents Val → c.ty.Contents Val → d.ty.Contents Val → y.ty.Contents Val} {ha hb hc hd hy}
    (e : ops[i]? = some (StableHlo.quaternary a b c d y f ha hb hc hd hy)) :
    X (Proc.devRef .tc y) = f (X (Proc.devRef .tc a)) (X (Proc.devRef .tc b)) (X (Proc.devRef .tc c)) (X (Proc.devRef .tc d)) := by
  rw [← h.at i e y, quaternary_result]

theorem Solves.nary (h : Solves ops X) (i : ℕ) {m : ℕ} {xs : Fin m → Ref sig .tc} {y : Ref sig .tc} {f : ((j : Fin m) → (xs j).ty.Contents Val) → y.ty.Contents Val} {hxs hy}
    (e : ops[i]? = some (StableHlo.nary xs y f hxs hy)) : X (Proc.devRef .tc y) = f (fun j => X (Proc.devRef .tc (xs j))) := by
  rw [← h.at i e y, nary_result]

end Cert.Hand.Straight

end
-- ==== Proof.Value.Spec.lean ====
/- The computation's mathematics over the extended reals: what both programs compute, row by row and batch by batch. -/
module

public import Idealize.ShloMosaic.Lib.Pointwise

@[expose] public section

noncomputable section

namespace Cert.Hand.Spec

open Idealize.ShloMosaic
open scoped Classical

/-- A row of scores over the codebook. -/
abbrev Row := Fin 8192 → EReal

/-- The number a word of the programs' texts stands for. -/
abbrev lit (w : BitVec 32) : EReal := Ideal.ofBits .f32 w

/-- The first column with a property, column 0 when there is none. -/
def first (P : Fin 8192 → Prop) : Fin 8192 :=
  if h : ∃ j, P j then (Finset.univ.filter P).min' (h.imp fun j hj => by simpa using hj) else 0

theorem first_spec {P : Fin 8192 → Prop} (h : ∃ j, P j) : P (first P) := by
  have := Finset.min'_mem (Finset.univ.filter P) (h.imp fun j hj => by simpa using hj)
  unfold first
  rw [dif_pos h]
  simpa using this

theorem first_le {P : Fin 8192 → Prop} {j : Fin 8192} (hj : P j) : first P ≤ j := by
  unfold first
  rw [dif_pos ⟨j, hj⟩]
  exact Finset.min'_le _ _ (by simpa using hj)

theorem first_eq {P : Fin 8192 → Prop} {j : Fin 8192} (hj : P j) (h : ∀ i, P i → j ≤ i) : first P = j :=
  le_antisymm (first_le hj) (h _ (first_spec ⟨j, hj⟩))

/-- The squared distance of `x` to each codebook row, `e` the codebook. -/
def sqdist (e : Fin 8192 → Fin 64 → EReal) (x : Fin 64 → EReal) : Row := fun j =>
  (∑ k, e j k * e j k + ∑ k, x k * x k) - lit 0x40000000#32 * ∑ k, x k * e j k

/-- The least entry of a row. -/
def low (D : Row) : EReal := Finset.univ.fold min ⊤ D

/-- The first column at the least entry. -/
def near (D : Row) : Fin 8192 := first fun j => ∀ i, D j ≤ D i

/-- A row's weights, the greatest made one. -/
def wt (D : Row) : Row := fun j => Ideal.exp (-(Ideal.sqrt (D j)) - -(Ideal.sqrt (low D)))

/-- A row's distribution. -/
def prob (D : Row) : Row := fun j => Ideal.div (wt D j) (∑ i, wt D i)

/-- One minus the normalised entropy of a row's distribution. -/
def adj (D : Row) : EReal :=
  1 - Ideal.div (-(∑ j, prob D j * Ideal.log (prob D j + lit 0x3727C5AC#32))) (lit 0x41102CB3#32)

/-- The mean distribution of a batch's rows. -/
def mean (D : Fin 128 → Row) : Row := fun j => Ideal.div (∑ t, prob (D t) j) (lit 0x43000000#32)

/-- How far a batch's distributions are from their mean. -/
def spread (D : Fin 128 → Row) : EReal :=
  ∑ t, ∑ j, max (prob (D t) j - mean D j) (-(prob (D t) j - mean D j))

/-- The consistency loss of all the batches. -/
def cons (D : Fin 8 → Fin 128 → Row) : EReal := Ideal.div (∑ b, spread (D b)) (lit 0x41000000#32)

/-- How many of a batch's rows are nearest to each codebook row. -/
def count (D : Fin 128 → Row) (j : Fin 8192) : ℕ := (Finset.univ.filter fun t => near (D t) = j).card

/-- The first codebook row most of a batch's rows are nearest to. -/
def mode (D : Fin 128 → Row) : Fin 8192 := first fun j => ∀ i, count D i ≤ count D j

/-- The number of batches where two encodings' modes agree. -/
def agree (D D' : Fin 8 → Fin 128 → Row) : ℕ := (Finset.univ.filter fun b => mode (D b) = mode (D' b)).card

/-- The score of each pair of batches. -/
def score (p q : Fin 8 → Row) (i j : Fin 8) : EReal :=
  ∑ k, p i k * Ideal.log (q j k + lit 0x2EDBE6FF#32) + ∑ k, q i k * Ideal.log (p j k + lit 0x2EDBE6FF#32)

/-- The exponentials of the shifted scores. -/
def code (p q : Fin 8 → Row) (i j : Fin 8) : EReal :=
  Ideal.exp (score p q i j + Finset.univ.fold max ⊥ fun x : Fin 8 × Fin 8 => -(score p q x.1 x.2))

/-- The contrastive loss of the batches' mean distributions. -/
def loss (p q : Fin 8 → Row) : EReal :=
  -(Ideal.div (∑ i, Ideal.log (Ideal.div (code p q i i) (∑ j, code p q i j + lit 0x3727C5AC#32))) (lit 0x41000000#32))

end Cert.Hand.Spec

end
-- ==== Proof.Value.Order.lean ====
/- Minima, maxima and first columns: how folds over words and over pairs find the columns the mathematics names. -/
module

public import proofs.«01_k».proof.Proof.Value.Spec
public import Idealize.ShloMosaic.PureOps.Ideal.Laws
public import Idealize.ShloMosaic.Lib.SortNet.Extract

@[expose] public section

set_option maxRecDepth 16384

noncomputable section

namespace Cert.Hand.Spec

open Idealize.ShloMosaic
open scoped Classical

theorem lit_top : lit 0x7F800000#32 = ⊤ := by simp [lit, Ideal.ofBits, Ideal.ieee]
theorem lit_bot : lit 0xFF800000#32 = ⊥ := by simp [lit, Ideal.ofBits, Ideal.ieee]

/-- Some column holds the least entry. -/
theorem exists_least (D : Row) : ∃ j, ∀ i, D j ≤ D i := by
  obtain ⟨j, -, h⟩ := Finset.exists_min_image Finset.univ D ⟨0, Finset.mem_univ _⟩
  exact ⟨j, fun i => h i (Finset.mem_univ _)⟩

theorem near_le (D : Row) (i : Fin 8192) : D (near D) ≤ D i := first_spec (exists_least D) i

theorem low_le (D : Row) (i : Fin 8192) : low D ≤ D i :=
  (Finset.le_fold_min (s := Finset.univ) (f := D) (b := ⊤) (low D)).mp le_rfl |>.2 i (Finset.mem_univ _)

theorem le_low {D : Row} {x : EReal} (h : ∀ i, x ≤ D i) : x ≤ low D :=
  (Finset.le_fold_min (s := Finset.univ) (f := D) (b := ⊤) x).mpr ⟨le_top, fun i _ => h i⟩

theorem eq_low_iff (D : Row) (j : Fin 8192) : D j = low D ↔ ∀ i, D j ≤ D i :=
  ⟨fun e i => e ▸ low_le D i, fun h => le_antisymm (le_low h) (low_le D j)⟩

theorem le_fold_max {ι : Type} (s : Finset ι) (f : ι → EReal) (i : ι) (hi : i ∈ s) : f i ≤ s.fold max ⊥ f :=
  (Finset.fold_max_le (s := s) (f := f) (b := ⊥) _).mp le_rfl |>.2 i hi

theorem fold_max_le {ι : Type} (s : Finset ι) (f : ι → EReal) {x : EReal} (h : ∀ i ∈ s, f i ≤ x) : s.fold max ⊥ f ≤ x :=
  (Finset.fold_max_le (s := s) (f := f) (b := ⊥) _).mpr ⟨bot_le, h⟩

theorem ofNat_toInt {n : ℕ} (h : n < 2 ^ 31) : (BitVec.ofNat 32 n).toInt = n := by
  rw [BitVec.toInt_eq_toNat_of_lt] <;> simp [BitVec.toNat_ofNat] <;> omega

/-- The word of the first column with a property, as the least of the columns' words where it holds. -/
theorem fold_first {P : Fin 8192 → Prop} [DecidablePred P] (h : ∃ j, P j) :
    Finset.fold IntOp.minsi 2147483647#32 (fun x : Fin 8192 => if P x then BitVec.ofNat 32 x.val else 8192#32) Finset.univ
      = BitVec.ofNat 32 (first P).val := by
  have key : ∀ s : Finset (Fin 8192), (Finset.fold IntOp.minsi 2147483647#32 (fun x : Fin 8192 => if P x then BitVec.ofNat 32 x.val else 8192#32) s).toInt
      = s.fold min 2147483647 fun x => if P x then (x.val : ℤ) else 8192 := by
    intro s
    induction s using Finset.induction with
    | empty => simp
    | insert a s ha ih =>
      rw [Finset.fold_insert ha, Finset.fold_insert ha, SortNet.toInt_minsi, ih]
      congr 1
      split
      · exact ofNat_toInt (by omega)
      · rfl
  refine BitVec.toInt_inj.mp ?_
  rw [key, ofNat_toInt (by omega)]
  refine le_antisymm ?_ ?_
  · refine (Finset.fold_min_le _).mpr (Or.inr ⟨first P, Finset.mem_univ _, ?_⟩)
    rw [if_pos (first_spec h)]
  · refine (Finset.le_fold_min _).mpr ⟨by omega, fun x _ => ?_⟩
    split
    · next hx => exact_mod_cast first_le hx
    · omega

/-- A choice by the equality of two columns' words is by the columns' equality. -/
theorem select_col {α : Type} (x n : Fin 8192) (p q : α) :
    Scalar.select (IntOp.cmpi .eq (BitVec.ofNat 32 x.val) (BitVec.ofNat 32 n.val)) p q = if x = n then p else q := by
  have h : (BitVec.ofNat 32 x.val = BitVec.ofNat 32 n.val) ↔ x = n := by
    constructor
    · intro e
      have := congrArg BitVec.toNat e
      simp only [BitVec.toNat_ofNat] at this
      exact Fin.ext (by omega)
    · rintro rfl; rfl
  by_cases e : x = n
  · subst e; simp [Scalar.select, IntOp.cmpi]
  · rw [if_neg e]
    have hw := mt h.mp e
    exact if_neg (by
      show ¬BitVec.ofBool (BitVec.ofNat 32 x.val == BitVec.ofNat 32 n.val) = 1
      rw [beq_eq_false_iff_ne.mpr hw]
      decide)

/-- Multiplying by the word of 1/128 is dividing by the word of 128. -/
theorem mul_inv128 (x : EReal) : x * lit 0x3C000000#32 = Ideal.div x (lit 0x43000000#32) := by
  have h1 : lit 0x43000000#32 = ((128 : ℝ) : EReal) := by
    simp [lit, Ideal.ofBits, Ideal.ieee, -EReal.coe_mul]; norm_num
  have h2 : lit 0x3C000000#32 = ((1 / 128 : ℝ) : EReal) := by
    simp [lit, Ideal.ofBits, Ideal.ieee, -EReal.coe_mul]; norm_num
  rw [h1, h2, Ideal.div_coe (by norm_num : (128 : ℝ) ≠ 0)]

/-! A fold that keeps the better of two pairs ends at the best pair. -/

theorem foldl_best {γ : Type} (le : γ → γ → Prop) (refl : ∀ a, le a a) (trans : ∀ a b c, le a b → le b c → le a c)
    (f : γ → γ → γ) (hf : ∀ a b, (f a b = a ∨ f a b = b) ∧ le (f a b) a ∧ le (f a b) b) (l : List γ) (i : γ) :
    (l.foldl f i = i ∨ l.foldl f i ∈ l) ∧ le (l.foldl f i) i ∧ ∀ q ∈ l, le (l.foldl f i) q := by
  induction l generalizing i with
  | nil => exact ⟨Or.inl rfl, refl _, fun _ h => absurd h List.not_mem_nil⟩
  | cons a l ih =>
    rw [List.foldl_cons]
    obtain ⟨h1, h2, h3⟩ := ih (f i a)
    obtain ⟨g1, g2, g3⟩ := hf i a
    refine ⟨?_, trans _ _ _ h2 g2, fun q hq => ?_⟩
    · rcases h1 with h1 | h1
      · rcases g1 with g1 | g1
        · exact Or.inl (h1.trans g1)
        · exact Or.inr (by rw [h1, g1]; exact List.mem_cons_self)
      · exact Or.inr (List.mem_cons_of_mem _ h1)
    · rcases List.mem_cons.mp hq with rfl | hq
      · exact trans _ _ _ h2 g3
      · exact h3 q hq

/-- Along a row, a reduction that keeps the better pair ends at the best of the row's pairs and the initial one. -/
theorem reduce2_best {α β : Type} {n0 n1 : ℕ} {t u : Shape} (le : α × β → α × β → Prop) (refl : ∀ a, le a a)
    (trans : ∀ a b c, le a b → le b c → le a c) (f : α × β → α × β → α × β)
    (hf : ∀ a b, (f a b = a ∨ f a b = b) ∧ le (f a b) a ∧ le (f a b) b)
    (x : (⟨2, ![n0, n1]⟩ : Shape).Idx → α) (y : (⟨2, ![n0, n1]⟩ : Shape).Idx → β) (ix : u.Idx → α) (iy : u.Idx → β)
    (h : (⟨2, ![n0, n1]⟩ : Shape).ReducesTo [1] t) (hu : 0 < u.numel) (j : t.Idx) (r : Fin n0)
    (hr : r.val = (j ⟨0, h.lt_r2_a1_0⟩).val) :
    (Host.reduce2 f x y ix iy h hu j = (ix (Shape.Idx.first hu), iy (Shape.Idx.first hu))
      ∨ ∃ k, Host.reduce2 f x y ix iy h hu j = (x (ix2 r k), y (ix2 r k)))
    ∧ le (Host.reduce2 f x y ix iy h hu j) (ix (Shape.Idx.first hu), iy (Shape.Idx.first hu))
    ∧ ∀ k, le (Host.reduce2 f x y ix iy h hu j) (x (ix2 r k), y (ix2 r k)) := by
  have er : r = ⟨(j ⟨0, h.lt_r2_a1_0⟩).val, Shape.coordLt (j ⟨0, h.lt_r2_a1_0⟩) h.size_r2_a1_0⟩ := Fin.ext hr
  have mem : ∀ q : α × β, q ∈ Host.argReduceFiber x y h j ↔ ∃ k, (x (ix2 r k), y (ix2 r k)) = q := by
    intro q
    unfold Host.argReduceFiber
    simp only [List.mem_map, List.mem_filter, List.mem_finRange, true_and, decide_eq_true_eq]
    constructor
    · rintro ⟨n, hn, rfl⟩
      obtain ⟨k, hk⟩ := (h.fiber_r2_a1 j _).mp hn
      exact ⟨k, by rw [← hk, er]⟩
    · rintro ⟨k, rfl⟩
      exact ⟨(⟨2, ![n0, n1]⟩ : Shape).rowMajor (ix2 r k), by
        rw [Equiv.symm_apply_apply]; exact (h.fiber_r2_a1 j _).mpr ⟨k, by rw [er]⟩, by rw [Equiv.symm_apply_apply]⟩
  rw [Host.reduce2_eq_foldl_fiber]
  obtain ⟨h1, h2, h3⟩ := foldl_best le refl trans f hf (Host.argReduceFiber x y h j) (ix (Shape.Idx.first hu), iy (Shape.Idx.first hu))
  refine ⟨h1.imp_right fun hm => ?_, h2, fun k => h3 _ ((mem _).mpr ⟨k, rfl⟩)⟩
  obtain ⟨k, hk⟩ := (mem _).mp hm
  exact ⟨k, hk.symm⟩

/-- A fold of sums of words is the word of the sum. -/
theorem fold_addi {ι : Type} [DecidableEq ι] (s : Finset ι) (p : ι → Prop) [DecidablePred p] :
    s.fold IntOp.addi 0#32 (fun t => if p t then 1#32 else 0#32) = BitVec.ofNat 32 (s.filter p).card := by
  induction s using Finset.induction with
  | empty => simp
  | insert a s ha ih =>
    rw [Finset.fold_insert ha, ih, Finset.filter_insert]
    split
    · rw [Finset.card_insert_of_notMem (by simp [ha])]
      show 1#32 + BitVec.ofNat 32 _ = _
      rw [Nat.add_comm, BitVec.ofNat_add]
    · show 0#32 + BitVec.ofNat 32 _ = _
      simp

end Cert.Hand.Spec

end
-- ==== Proof.Value.Pay.lean ====
/- What a grid point computes from its blocks, in the terms of the mathematics. -/
module

public import proofs.«01_k».proof.Proof.KernelIdeal.Steps
public import proofs.«01_k».proof.Proof.Value.Order

@[expose] public section

set_option maxRecDepth 16384

noncomputable section

namespace Cert.KernelIdeal.Hand

open Cert.KernelIdeal Cert.KernelIdeal.Gen Cert.Hand Cert.Hand.Spec
open Idealize.ShloMosaic

/-- The rows a point works on: the first encoding's at the grid's first coordinate 0, else the second's. -/
def rowsV (i : grid0.Coords) (a v : Vec Ideal S1x128x64 .f32) (t : Fin 128) (k : Fin 64) : EReal :=
  if (i 0).val = 0 then a (ix3 (0 : Fin 1) t k) else v (ix3 (0 : Fin 1) t k)

/-- The point's rows' distances to the codebook, given transposed. -/
def rowD (i : grid0.Coords) (a v : Vec Ideal S1x128x64 .f32) (eT : Vec Ideal S64x8192 .f32) (t : Fin 128) : Row :=
  sqdist (fun j k => eT (ix2 k j)) (rowsV i a v t)

theorem distV_apply (i : grid0.Coords) (a v : Vec Ideal S1x128x64 .f32) (eT : Vec Ideal S64x8192 .f32) (t : Fin 128) (j : Fin 8192) :
    distV i a v eT (ix2 t j) = rowD i a v eT t j := by
  pointwise [distV, k0_pay21, k0_pay18, k0_pay19, esqV, k0_pay16]
  have h8 : (i 0).val < 2 := (i 0).isLt
  have e : ∀ x y : EReal, Scalar.select (Scalar.cmpi .eq (BitVec.ofNat 32 (i 0).val) 0#32) x y = if (i 0).val = 0 then x else y := fun x y =>
    (select_col ⟨(i 0).val, by omega⟩ 0 x y).trans (by simp only [Fin.ext_iff]; rfl)
  unfold rowD sqdist rowsV
  simp only [e]

theorem dminV_apply (i : grid0.Coords) (a v : Vec Ideal S1x128x64 .f32) (eT : Vec Ideal S64x8192 .f32) (t : Fin 128)  :
    dminV i a v eT (ix2 t 0) = low (rowD i a v eT t) := by
  have e : (fun j => distV i a v eT (ix2 t j)) = rowD i a v eT t := funext fun j => distV_apply i a v eT t j
  unfold low
  rw [← e, ← lit_top]
  pointwise [dminV, k0_pay22, distV]

/-- A row's distribution, from its distances and the least of them. -/
theorem prob_apply (d : FVec Ideal S128x8192 .f32) (m : FVec Ideal S128x1 .f32) (t : Fin 128) (D : Row) (hd : ∀ j, d (ix2 t j) = D j)
    (hm : m (ix2 t 0) = low D) (j : Fin 8192) : k0_pay25 d m (ix2 t j) = prob D j := by
  pointwise [k0_pay25]
  unfold prob wt
  simp only [hd, hm, zero_sub]

theorem adj_apply (d : FVec Ideal S128x8192 .f32) (m : FVec Ideal S128x1 .f32) (t : Fin 128) (D : Row) (hd : ∀ j, d (ix2 t j) = D j)
    (hm : m (ix2 t 0) = low D) : k0_pay26 d m (ix2 t 0) = adj D := by
  pointwise [k0_pay26]
  unfold adj
  simp only [prob_apply d m t D hd hm, zero_sub]

theorem mean_apply (d : FVec Ideal S128x8192 .f32) (m : FVec Ideal S128x1 .f32) (D : Fin 128 → Row) (hd : ∀ t j, d (ix2 t j) = D t j)
    (hm : ∀ t, m (ix2 t 0) = low (D t)) (j : Fin 8192) : k0_pay28 d m (ix2 0 j) = mean D j := by
  pointwise [k0_pay28, k0_pay27]
  unfold mean
  simp only [fun t j => prob_apply d m t (D t) (hd t) (hm t) j]
  exact mul_inv128 _

theorem mean_apply' (d : FVec Ideal S128x8192 .f32) (m : FVec Ideal S128x1 .f32) (D : Fin 128 → Row) (hd : ∀ t j, d (ix2 t j) = D t j)
    (hm : ∀ t, m (ix2 t 0) = low (D t)) (j : Fin 8192) : k0_pay29 d m (ix2 0 j) = mean D j := by
  rw [← mean_apply d m D hd hm]
  pointwise [k0_pay29, k0_pay28]

theorem spread_apply (d : FVec Ideal S128x8192 .f32) (m : FVec Ideal S128x1 .f32) (D : Fin 128 → Row) (hd : ∀ t j, d (ix2 t j) = D t j)
    (hm : ∀ t, m (ix2 t 0) = low (D t)) (x : EReal) : k0_pay31 x (k0_pay30 d m) = x + spread D := by
  pointwise [k0_pay31, k0_pay30, k0_pay27]
  unfold spread
  simp only [mean_apply d m D hd hm, fun t j => prob_apply d m t (D t) (hd t) (hm t) j, Ideal.absf_def, Finset.univ_unique, Finset.sum_singleton]
  rw [Finset.sum_comm]

theorem idxV_apply (i : grid0.Coords) (a v : Vec Ideal S1x128x64 .f32) (eT : Vec Ideal S64x8192 .f32) (t : Fin 128)  :
    idxV i a v eT (ix2 t 0) = BitVec.ofNat 32 (near (rowD i a v eT t)).val := by
  have e : ∀ j, k0_pay21 i eT (esqV eT) a v (ix2 t j) = rowD i a v eT t j := fun j => distV_apply i a v eT t j
  have e' : k0_pay22 i eT (esqV eT) a v (ix2 t 0) = low (rowD i a v eT t) := dminV_apply i a v eT t
  unfold near
  simp only [← eq_low_iff]
  rw [← fold_first ((exists_least _).imp fun j hj => (eq_low_iff _ _).mpr hj)]
  pointwise [idxV, k0_pay24, k0_pay23]
  simp only [e, e']

theorem qV_apply (i : grid0.Coords) (a v : Vec Ideal S1x128x64 .f32) (e : Vec Ideal S8192x64 .bf16) (eT : Vec Ideal S64x8192 .f32) (t : Fin 128) (k : Fin 64) :
    qV i a v e eT (ix4 0 0 t k) = e (ix2 (near (rowD i a v eT t)) k) := by
  pointwise [qV, k0_pay33, k0_pay32, k0_pay17, colV]
  simp only [idxV_apply, select_col, Finset.sum_ite_eq', Finset.mem_univ, if_true]

/-- The point's row `t` weighs its nearest codebook row by this. -/
theorem adjV_apply (i : grid0.Coords) (a v : Vec Ideal S1x128x64 .f32) (eT : Vec Ideal S64x8192 .f32) (t : Fin 128) :
    adjV i a v eT (ix2 t 0) = adj (rowD i a v eT t) :=
  adj_apply _ _ t _ (distV_apply i a v eT t) (dminV_apply i a v eT t)

theorem stats_weighted (i : grid0.Coords) (a v : Vec Ideal S1x128x64 .f32) (eT : Vec Ideal S64x8192 .f32) (k : Fin 64) (j : Fin 8192) :
    statsV i a v eT (ix2 (⟨k.val, by omega⟩ : Fin 66) j)
      = ∑ t, if j = near (rowD i a v eT t) then adj (rowD i a v eT t) * (a (ix3 (0 : Fin 1) t k) + v (ix3 (0 : Fin 1) t k)) else 0 := by
  pointwise [statsV, k0_pay34, k0_pay32, colV, k0_pay20, k0_pay18, k0_pay19]
  simp only [idxV_apply, select_col, adjV_apply, k.isLt, dite_true]

theorem stats_weight (i : grid0.Coords) (a v : Vec Ideal S1x128x64 .f32) (eT : Vec Ideal S64x8192 .f32) (j : Fin 8192) :
    statsV i a v eT (ix2 (64 : Fin 66) j) = ∑ t, if j = near (rowD i a v eT t) then adj (rowD i a v eT t) else 0 := by
  pointwise [statsV, k0_pay34, k0_pay32, colV, k0_pay20]
  simp only [idxV_apply, select_col, adjV_apply]

theorem stats_count (i : grid0.Coords) (a v : Vec Ideal S1x128x64 .f32) (eT : Vec Ideal S64x8192 .f32) (j : Fin 8192) :
    statsV i a v eT (ix2 (65 : Fin 66) j) = (count (rowD i a v eT) j : ℝ) := by
  pointwise [statsV, k0_pay34, k0_pay32, colV, k0_pay20]
  simp only [idxV_apply, select_col, adjV_apply]
  unfold Spec.count
  simp only [eq_comm (a := j)]
  rw [Finset.sum_ite, Finset.sum_const_zero, add_zero, Finset.sum_const, nsmul_one]
  rfl

end Cert.KernelIdeal.Hand

end
-- ==== Proof.Value.Mode.lean ====
/- The most frequent codebook row of a grid point's rows. -/
module

public import proofs.«01_k».proof.Proof.KernelIdeal.Steps
public import proofs.«01_k».proof.Proof.Value.Pay

@[expose] public section

set_option maxRecDepth 16384

noncomputable section

namespace Cert.KernelIdeal.Hand

open Cert.KernelIdeal Cert.KernelIdeal.Gen Cert.Hand Cert.Hand.Spec
open Idealize.ShloMosaic

/-- The greatest entry of a row, as the kernel takes it. -/
theorem greatest_apply (R : FVec Ideal S1x8192 .f32) :
    extractAt ![0, 0, 0] (shapeCast S1x1x1 (multiReduction .maximumf [1, 2] S1 (shapeCast S1x1x8192 R shapeCasts_S1x8192_S1x1x8192)
      0xFF800000#32 reduces_S1x1x8192_S1 (.inl rfl) rfl) shapeCasts_S1_S1x1x1) inpos_S1x1x1_p0_0_0
      = Finset.univ.fold max ⊥ fun x : Fin 1 × Fin 8192 => R (ix2 0 x.2) := by
  rw [← lit_bot]
  pointwise

/-- The least word of a row, as the kernel takes it. -/
theorem least_apply (W : IVec S1x8192 32) :
    extractAt ![0, 0, 0] (shapeCast S1x1x1 (multiReductionI .minsi [1, 2] S1 (shapeCast S1x1x8192 W shapeCasts_S1x8192_S1x1x8192)
      2147483647#32 reduces_S1x1x8192_S1 rfl) shapeCasts_S1_S1x1x1) inpos_S1x1x1_p0_0_0
      = Finset.univ.fold IntOp.minsi 2147483647#32 fun x : Fin 1 × Fin 8192 => W (ix2 0 x.2) := by
  pointwise

/-- The row of counts. -/
theorem row_apply (S : FVec Ideal S66x8192 .f32) (j : Fin 8192) :
    extractStridedSlice S1x8192 ![65, 0] S slices_S66x8192_o65_0_S1x8192 (ix2 0 j) = S (ix2 65 j) := by
  pointwise

/-- The column numbers where a row meets a bound, a word past the last column elsewhere. -/
theorem where_apply (R : FVec Ideal S1x8192 .f32) (g : EReal) (j : Fin 8192) :
    select (cmpf .oeq R (broadcast S1x8192 g : FVec Ideal S1x8192 .f32)) (iota .tc S1x8192 32 [1] iota_S1x8192_d1_w32)
      (broadcast S1x8192 8192#32) (ix2 0 j) = if R (ix2 0 j) = g then BitVec.ofNat 32 j.val else 8192#32 := by
  pointwise

/-- A fold over one row's columns is a fold over the columns. -/
theorem fold_row {α : Type} (op : α → α → α) [Std.Commutative op] [Std.Associative op] (b : α) (f : Fin 8192 → α) :
    (Finset.univ.fold op b fun x : Fin 1 × Fin 8192 => f x.2) = Finset.univ.fold op b f := by
  have e : (Finset.univ : Finset (Fin 1 × Fin 8192)) = Finset.univ.map ⟨fun j : Fin 8192 => ((0 : Fin 1), j), fun _ _ h => (Prod.mk.inj h).2⟩ := by
    ext ⟨x, y⟩
    simp only [Finset.mem_univ, Finset.mem_map, true_and, true_iff]
    exact ⟨y, by rw [Subsingleton.elim x 0]; rfl⟩
  rw [e, Finset.fold_map]
  rfl

theorem modeV_apply (i : grid0.Coords) (a v : Vec Ideal S1x128x64 .f32) (eT : Vec Ideal S64x8192 .f32) :
    modeV i a v eT = BitVec.ofNat 32 (mode (rowD i a v eT)).val := by
  refine (least_apply _).trans ?_
  have hrow : ∀ j, extractStridedSlice S1x8192 ![65, 0] (statsV i a v eT) slices_S66x8192_o65_0_S1x8192 (ix2 0 j)
      = ((Spec.count (rowD i a v eT) j : ℝ) : EReal) := fun j => (row_apply _ j).trans (stats_count i a v eT j)
  have hmax := greatest_apply (extractStridedSlice S1x8192 ![65, 0] (statsV i a v eT) slices_S66x8192_o65_0_S1x8192)
  rw [fold_row max ⊥ fun j => extractStridedSlice S1x8192 ![65, 0] (statsV i a v eT) slices_S66x8192_o65_0_S1x8192 (ix2 0 j)] at hmax
  simp only [hrow] at hmax
  have hiff : ∀ j, (((Spec.count (rowD i a v eT) j : ℝ) : EReal) = Finset.univ.fold max ⊥ fun j => ((Spec.count (rowD i a v eT) j : ℝ) : EReal))
      ↔ ∀ l, Spec.count (rowD i a v eT) l ≤ Spec.count (rowD i a v eT) j := fun j =>
    ⟨fun h l => by
      have := le_fold_max Finset.univ (fun j => ((Spec.count (rowD i a v eT) j : ℝ) : EReal)) l (Finset.mem_univ _)
      rw [← h] at this
      exact_mod_cast this,
    fun h => le_antisymm (le_fold_max Finset.univ (fun j => ((Spec.count (rowD i a v eT) j : ℝ) : EReal)) j (Finset.mem_univ _))
      (fold_max_le _ _ fun l _ => by exact_mod_cast h l)⟩
  have hex : ∃ j, ∀ l, Spec.count (rowD i a v eT) l ≤ Spec.count (rowD i a v eT) j := by
    obtain ⟨j, -, h⟩ := Finset.exists_max_image Finset.univ (Spec.count (rowD i a v eT)) ⟨0, Finset.mem_univ _⟩
    exact ⟨j, fun l => h l (Finset.mem_univ _)⟩
  unfold mode
  simp only [← hiff] at hex ⊢
  rw [← fold_first hex, ← fold_row]
  refine Finset.fold_congr fun x _ => ?_
  refine (where_apply _ _ x.2).trans ?_
  rw [hrow, hmax]

end Cert.KernelIdeal.Hand

end
-- ==== Proof.Value.Arrays.lean ====
/- The kernel's arrays: what each grid point's blocks hold of the arguments, and what the result buffers end as. -/
module

public import proofs.«01_k».proof.Proof.KernelIdeal.Frame
public import proofs.«01_k».proof.Proof.Reference.Straight
public import proofs.«01_k».proof.Proof.Value.Mode
public import Idealize.ShloMosaic.Lib.Pipeline.ValueKit.Geometry

@[expose] public section

set_option maxRecDepth 16384

noncomputable section

namespace Cert.KernelIdeal.Hand

open Cert.KernelIdeal Cert.KernelIdeal.Gen Cert.Hand Cert.Hand.Spec Cert.Hand.Straight
open Idealize.ShloMosaic Idealize.ShloMosaic.TcCoe Idealize.SL.Sem
open Idealize.ShloMosaic.Pipeline (Dat)

section Any

variable {F : FTy → Type} [FloatOps F]
variable (m : (ℓ : Loc nD τ sig) → Buf (Elt F) ℓ) (ρ : Dev nD → PrngReg)

/-! The operations before and after the grid write each their own buffer, in order. -/

theorem line0 : Line 6 10 (hostOps0 (F := F)) := by
  repeat' first
    | exact Line.nil (by decide)
    | refine Line.unary (by decide) (by decide) ?_
    | refine Line.reshape (by decide) (by decide) ?_

theorem line1 : Line 16 25 (hostOps1 (F := F)) := by
  repeat' first
    | exact Line.nil (by decide)
    | refine Line.unary (by decide) (by decide) ?_
    | refine Line.reshape (by decide) (by decide) ?_

theorem pre_solves (c : Dev nD) : Solves (hostOps0 (F := F)) (V0 m c) := line0.fixed _

/-- What the buffers are right after the grid, -/
def mid (c : Dev nD) : Valuation τ sig (Elt F) := Pipeline.withArrays spec0 c (V0 m c) fun w => (dats m 0 c).arrAt w cfg0.N

/-- and at the end. -/
def last (c : Dev nD) : Valuation τ sig (Elt F) := StableHlo.after hostOps1 (mid m c)

theorem last_solves (c : Dev nD) : Solves (hostOps1 (F := F)) (last m c) := line1.fixed _

/-- A window's array ends as the grid leaves it. -/
theorem last_arr (c : Dev nD) (w : Fin cfg0.W) (h : rank (Pipeline.arrRef spec0 w) < 16) :
    last m c (Proc.devRef .tc (Pipeline.arrRef spec0 w)) = (dats m 0 c).arrAt w cfg0.N :=
  (line1.before _ h).trans (Pipeline.withArrays_arr spec0 launch0.win.arr_inj c _ _ w)

/-! What a point's blocks hold. -/

theorem index_0 : ∀ t : Fin cfg0.N, win0_0.index t = ![t.val % 8, 0, 0] := by decide +kernel
theorem index_1 : ∀ t : Fin cfg0.N, win0_1.index t = ![t.val % 8, 0, 0] := by decide +kernel
theorem index_2 : ∀ t : Fin cfg0.N, win0_2.index t = ![0, 0] := by decide +kernel
theorem index_3 : ∀ t : Fin cfg0.N, win0_3.index t = ![0, 0] := by decide +kernel
theorem index_4 : ∀ t : Fin cfg0.N, win0_4.index t = ![0, 0] := by decide +kernel
theorem index_5 : ∀ t : Fin cfg0.N, win0_5.index t = ![0, 0] := by decide +kernel
theorem index_6 : ∀ t : Fin cfg0.N, win0_6.index t = ![t.val / 8, t.val % 8, 0, 0] := by decide +kernel

theorem blkA_apply (c : Dev nD) (t : Fin cfg0.N) (r : Fin 128) (k : Fin 64) :
    blkA m c t (ix3 (0 : Fin 1) r k) = m ((c : Thread nD τ).loc main_arg0) (ix3 (⟨t.val % 8, Nat.mod_lt _ (by decide)⟩ : Fin 8) r k) := by
  rw [← V_main_arg0 m c]
  blk_ext [iblk, index_0]

theorem blkV_apply (c : Dev nD) (t : Fin cfg0.N) (r : Fin 128) (k : Fin 64) :
    blkV m c t (ix3 (0 : Fin 1) r k) = m ((c : Thread nD τ).loc main_arg1) (ix3 (⟨t.val % 8, Nat.mod_lt _ (by decide)⟩ : Fin 8) r k) := by
  rw [← V_main_arg1 m c]
  blk_ext [iblk, index_1]

theorem blkE_apply (c : Dev nD) (t : Fin cfg0.N) (x : S8192x64.Idx) : blkE m c t x = V m c main_v0 x := by
  blk_ext [iblk, index_2]

theorem blkT_apply (c : Dev nD) (t : Fin cfg0.N) (x : S64x8192.Idx) : blkT m c t x = V m c main_v1 x := by
  blk_ext [iblk, index_3]

theorem blkC_apply (c : Dev nD) (t : Fin cfg0.N) (x : S1x8192.Idx) : blkC m c t x = V m c main_v2 x := by
  blk_ext [iblk, index_4]

theorem blkW_apply (c : Dev nD) (t : Fin cfg0.N) (x : S64x8192.Idx) : blkW m c t x = V m c main_v3 x := by
  blk_ext [iblk, index_5]

/-! What the grid leaves in the result arrays. -/

theorem final_6 (c : Dev nD) : (dats m 0 c).arrAt 6 cfg0.N = fun x : S2x8x128x64.Idx =>
    qV (grid0.coords (pt (8 * (x 0).val + (x 1).val))) (blkA m c (pt (8 * (x 0).val + (x 1).val))) (blkV m c (pt (8 * (x 0).val + (x 1).val)))
      (blkE m c (pt (8 * (x 0).val + (x 1).val))) (blkT m c (pt (8 * (x 0).val + (x 1).val))) (ix4 (0 : Fin 1) (0 : Fin 1) (x 2) (x 3)) := by
  refine (dats m 0 c).arrAt_eq_of_covers 6 _ (by decide +kernel) fun t hf y => ?_
  blk_simp
  rw [after_6]
  have e := index_6 t
  have e0 : win0_6.index t 0 = t.val / 8 := congrFun e 0
  have e1 : win0_6.index t 1 = t.val % 8 := congrFun e 1
  have e2 : win0_6.index t 2 = 0 := congrFun e 2
  have e3 : win0_6.index t 3 = 0 := congrFun e 3
  rw [e0, e1, show 8 * (t.val / 8) + t.val % 8 = t.val by omega, pt_val]
  congr 1
  funext a
  apply Fin.ext
  have h0 : (y 0).val < 1 := (y 0).isLt
  have h1 : (y 1).val < 1 := (y 1).isLt
  match a with
  | ⟨0, _⟩ => show (y 0).val = 0; omega
  | ⟨1, _⟩ => show (y 1).val = 0; omega
  | ⟨2, _⟩ => show (y 2).val = ((win0_6.blk t).view.emb y 2).val; blk_simp; omega
  | ⟨3, _⟩ => show (y 3).val = ((win0_6.blk t).view.emb y 3).val; blk_simp; omega

theorem final_7 (c : Dev nD) : (dats m 0 c).arrAt 7 cfg0.N = entOut (blkC m c (pt 15)) (blkW m c (pt 15)) (cntAt m c 16) (dwAt m c 16) := by
  refine (dats m 0 c).arrAt_eq_of_after_last 7 (pt 15) (by decide +kernel) _ fun j => ?_
  rw [after_7]; rfl

theorem final_8 (c : Dev nD) : (dats m 0 c).arrAt 8 cfg0.N = lcmOut (phAll m c) := by
  refine (dats m 0 c).arrAt_eq_of_after_last 8 (pt 15) (by decide +kernel) _ fun j => ?_
  rw [after_8]; rfl

theorem final_9 (c : Dev nD) : (dats m 0 c).arrAt 9 cfg0.N = acOut (consAt m c 16) := by
  refine (dats m 0 c).arrAt_eq_of_after_last 9 (pt 15) (by decide +kernel) _ fun j => ?_
  rw [after_9]; rfl

theorem final_10 (c : Dev nD) : (dats m 0 c).arrAt 10 cfg0.N = vcOut (consAt m c 16) := by
  refine (dats m 0 c).arrAt_eq_of_after_last 10 (pt 15) (by decide +kernel) _ fun j => ?_
  rw [after_10]; rfl

theorem final_11 (c : Dev nD) : (dats m 0 c).arrAt 11 cfg0.N = eqOut (modesAll m c) := by
  refine (dats m 0 c).arrAt_eq_of_after_last 11 (pt 15) (by decide +kernel) _ fun j => ?_
  rw [after_11]; rfl

/-! The results, read through the operations after the grid. -/

theorem one_idx (z : S1x1.Idx) : z = ix2 (0 : Fin 1) (0 : Fin 1) := funext fun a => Fin.ext (by
  have h0 : (z 0).val < 1 := (z 0).isLt
  have h1 : (z 1).val < 1 := (z 1).isLt
  match a with
  | ⟨0, _⟩ => show (z 0).val = 0; omega
  | ⟨1, _⟩ => show (z 1).val = 0; omega)

theorem last_v6 (c : Dev nD) (b : Fin 8) (r : Fin 128) (k : Fin 64) : (last m c (Proc.devRef .tc main_v6) : Vec F S8x128x64 .f32) (ix3 b r k)
    = ((dats m 0 c).arrAt 6 cfg0.N : Vec F S2x8x128x64 .f32) (ix4 (0 : Fin 2) b r k) := by
  have h := last_solves m c
  have e : last m c (Proc.devRef .tc main_v4_0) = (dats m 0 c).arrAt 6 cfg0.N := last_arr m c 6 (by decide)
  rw [h.reshape 1 rfl, h.unary 0 rfl, e]
  generalize (dats m 0 c).arrAt 6 cfg0.N = x
  pointwise

theorem last_v8 (c : Dev nD) (b : Fin 8) (r : Fin 128) (k : Fin 64) : (last m c (Proc.devRef .tc main_v8) : Vec F S8x128x64 .f32) (ix3 b r k)
    = ((dats m 0 c).arrAt 6 cfg0.N : Vec F S2x8x128x64 .f32) (ix4 (1 : Fin 2) b r k) := by
  have h := last_solves m c
  have e : last m c (Proc.devRef .tc main_v4_0) = (dats m 0 c).arrAt 6 cfg0.N := last_arr m c 6 (by decide)
  rw [h.reshape 3 rfl, h.unary 2 rfl, e]
  generalize (dats m 0 c).arrAt 6 cfg0.N = x
  pointwise

theorem last_v9 (c : Dev nD) (j : Fin 8192) (k : Fin 64) : (last m c (Proc.devRef .tc main_v9) : Vec F S8192x64 .f32) (ix2 j k)
    = entOut (blkC m c (pt 15)) (blkW m c (pt 15)) (cntAt m c 16) (dwAt m c 16) (ix2 k j) := by
  have h := last_solves m c
  have e : last m c (Proc.devRef .tc main_v4_1) = (dats m 0 c).arrAt 7 cfg0.N := last_arr m c 7 (by decide)
  rw [h.unary 4 rfl, e, final_7]
  generalize entOut (blkC m c (pt 15)) (blkW m c (pt 15)) (cntAt m c 16) (dwAt m c 16) = x
  pointwise

theorem last_v10 (c : Dev nD) (x : S_.Idx) : (last m c (Proc.devRef .tc main_v10) : Vec F S_ .f32) x
    = lcmOut (phAll m c) (ix2 (0 : Fin 1) (0 : Fin 1)) := by
  have h := last_solves m c
  have e : last m c (Proc.devRef .tc main_v4_2) = (dats m 0 c).arrAt 8 cfg0.N := last_arr m c 8 (by decide)
  rw [h.reshape 5 rfl, e, final_8]
  generalize lcmOut (phAll m c) = y
  show y _ = y _
  congr 1
  exact one_idx _

theorem last_v11 (c : Dev nD) (x : S_.Idx) : (last m c (Proc.devRef .tc main_v11) : Vec F S_ .f32) x
    = acOut (consAt m c 16) (ix2 (0 : Fin 1) (0 : Fin 1)) := by
  have h := last_solves m c
  have e : last m c (Proc.devRef .tc main_v4_3) = (dats m 0 c).arrAt 9 cfg0.N := last_arr m c 9 (by decide)
  rw [h.reshape 6 rfl, e, final_9]
  generalize acOut (consAt m c 16) = y
  show y _ = y _
  congr 1
  exact one_idx _

theorem last_v12 (c : Dev nD) (x : S_.Idx) : (last m c (Proc.devRef .tc main_v12) : Vec F S_ .f32) x
    = vcOut (consAt m c 16) (ix2 (0 : Fin 1) (0 : Fin 1)) := by
  have h := last_solves m c
  have e : last m c (Proc.devRef .tc main_v4_4) = (dats m 0 c).arrAt 10 cfg0.N := last_arr m c 10 (by decide)
  rw [h.reshape 7 rfl, e, final_10]
  generalize vcOut (consAt m c 16) = y
  show y _ = y _
  congr 1
  exact one_idx _

theorem last_v13 (c : Dev nD) (x : S_.Idx) : (last m c (Proc.devRef .tc main_v13) : Vec F S_ .i32) x
    = eqOut (modesAll m c) (ix2 (0 : Fin 1) (0 : Fin 1)) := by
  have h := last_solves m c
  have e : last m c (Proc.devRef .tc main_v4_5) = (dats m 0 c).arrAt 11 cfg0.N := last_arr m c 11 (by decide)
  rw [h.reshape 8 rfl, e, final_11]
  generalize eqOut (modesAll m c) = y
  show y _ = y _
  congr 1
  exact one_idx _

/-- The run, with every buffer outside the grid's own at the end's contents, the arguments unchanged. -/
theorem run_last : θ_run defs (onTc (τ := τ) (main (F := F))) ⟨m, fun _ => 0, ρ⟩ fun r => ∀ c : Dev nD,
      (∀ b ∈ Pipeline.restRefs sig spec0, r.2.mem ((c : Thread nD τ).loc b) = last m c (Proc.devRef .tc b))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).2, ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩) (run_main m ρ)

end Any

/-! The blocks prepared before the grid, over the extended reals. -/

variable (m : (ℓ : Loc nD τ sig) → Buf (Elt Ideal) ℓ)

theorem blkE_eq (c : Dev nD) (t : Fin cfg0.N) (j : Fin 8192) (k : Fin 64) :
    blkE m c t (ix2 j k) = (m ((c : Thread nD τ).loc main_arg2) : Vec Ideal S8192x64 .f32) (ix2 j k) := by
  have h := pre_solves m c
  rw [blkE_apply, ← V_main_arg2 m c]
  show (V0 m c (Proc.devRef .tc main_v0) : Vec Ideal S8192x64 .bf16) _ = _
  rw [h.unary 0 rfl]
  show _ = V0 m c (Proc.devRef .tc main_arg2) _
  generalize V0 m c (Proc.devRef .tc main_arg2) = x
  pointwise

theorem blkT_eq (c : Dev nD) (t : Fin cfg0.N) (j : Fin 8192) (k : Fin 64) :
    blkT m c t (ix2 k j) = (m ((c : Thread nD τ).loc main_arg2) : Vec Ideal S8192x64 .f32) (ix2 j k) := by
  have h := pre_solves m c
  rw [blkT_apply, ← V_main_arg2 m c]
  show (V0 m c (Proc.devRef .tc main_v1) : Vec Ideal S64x8192 .f32) _ = _
  rw [h.unary 1 rfl]
  show _ = V0 m c (Proc.devRef .tc main_arg2) _
  generalize V0 m c (Proc.devRef .tc main_arg2) = x
  pointwise

theorem blkC_eq (c : Dev nD) (t : Fin cfg0.N) (j : Fin 8192) :
    blkC m c t (ix2 (0 : Fin 1) j) = (m ((c : Thread nD τ).loc main_arg3) : Vec Ideal S8192 .f32) (ix1 j) := by
  have h := pre_solves m c
  rw [blkC_apply, ← V_main_arg3 m c]
  show (V0 m c (Proc.devRef .tc main_v2) : Vec Ideal S1x8192 .f32) _ = _
  rw [h.reshape 2 rfl]
  show _ = V0 m c (Proc.devRef .tc main_arg3) _
  generalize V0 m c (Proc.devRef .tc main_arg3) = x
  pointwise

theorem blkW_eq (c : Dev nD) (t : Fin cfg0.N) (j : Fin 8192) (k : Fin 64) :
    blkW m c t (ix2 k j) = (m ((c : Thread nD τ).loc main_arg4) : Vec Ideal S8192x64 .f32) (ix2 j k) := by
  have h := pre_solves m c
  rw [blkW_apply, ← V_main_arg4 m c]
  show (V0 m c (Proc.devRef .tc main_v3) : Vec Ideal S64x8192 .f32) _ = _
  rw [h.unary 3 rfl]
  show _ = V0 m c (Proc.devRef .tc main_arg4) _
  generalize V0 m c (Proc.devRef .tc main_arg4) = x
  pointwise

end Cert.KernelIdeal.Hand

end
-- ==== Proof.Value.Kernel.lean ====
/- The kernel's quantized rows, consistency losses and agreement count, in the terms of the mathematics of its arguments. -/
module

public import proofs.«01_k».proof.Proof.Value.Arrays

@[expose] public section

set_option maxRecDepth 16384

noncomputable section

namespace Cert.KernelIdeal.Hand

open Cert.KernelIdeal Cert.KernelIdeal.Gen Cert.Hand Cert.Hand.Spec
open Idealize.ShloMosaic Idealize.ShloMosaic.TcCoe Idealize.SL.Sem
open Idealize.ShloMosaic.Pipeline (Dat)

variable (m : (ℓ : Loc nD τ sig) → Buf (Elt Ideal) ℓ) (c : Dev nD)

/-- The codebook, -/
def book (j : Fin 8192) (k : Fin 64) : EReal := (m ((c : Thread nD τ).loc main_arg2) : Vec Ideal S8192x64 .f32) (ix2 j k)
/-- the first encoding's rows, -/
def sound (b : Fin 8) (t : Fin 128) (k : Fin 64) : EReal := (m ((c : Thread nD τ).loc main_arg0) : Vec Ideal S8x128x64 .f32) (ix3 b t k)
/-- the second's. -/
def sight (b : Fin 8) (t : Fin 128) (k : Fin 64) : EReal := (m ((c : Thread nD τ).loc main_arg1) : Vec Ideal S8x128x64 .f32) (ix3 b t k)

/-- The distances of an encoding's rows, 0 the first encoding and 1 the second. -/
def far (s : Fin 2) (b : Fin 8) (t : Fin 128) : Row := sqdist (book m c) (if s = 0 then sound m c b t else sight m c b t)

/-- The distances of a grid point's rows. -/
def ptD (n : ℕ) (t : Fin 128) : Row := rowD (grid0.coords (pt n)) (blkA m c (pt n)) (blkV m c (pt n)) (blkT m c (pt n)) t

/-- Point `8 s + b` handles batch `b` of encoding `s`. -/
theorem ptD_eq (s : Fin 2) (b : Fin 8) : ptD m c (8 * s.val + b.val) = far m c s b := by
  funext t
  have hn : 8 * s.val + b.val < 16 := by omega
  have hv := pt_of_lt hn
  have hb : (⟨(pt (8 * s.val + b.val)).val % 8, Nat.mod_lt _ (by decide)⟩ : Fin 8) = b := Fin.ext (by rw [hv]; show (8 * s.val + b.val) % 8 = b.val; omega)
  unfold ptD rowD far
  have e : (fun (j : Fin 8192) (k : Fin 64) => blkT m c (pt (8 * s.val + b.val)) (ix2 k j)) = book m c := by
    funext j k
    exact blkT_eq m c _ j k
  rw [e]
  refine congrArg _ (funext fun k => ?_)
  unfold rowsV
  rw [(coords_eq _).1, hv, blkA_apply, blkV_apply, hb]
  have hs : (8 * s.val + b.val) / 8 % 2 = s.val := by omega
  rw [hs]
  by_cases h : s = 0
  · subst h; rfl
  · rw [if_neg h, if_neg fun e : s.val = 0 => h (Fin.ext e)]; rfl

/-! The first two results: each row's nearest codebook row. -/

theorem quantized (s : Fin 2) (b : Fin 8) (r : Fin 128) (k : Fin 64) :
    ((dats m 0 c).arrAt 6 cfg0.N : Vec Ideal S2x8x128x64 .f32) (ix4 s b r k) = book m c (near (far m c s b r)) k := by
  rw [final_6]
  show qV (grid0.coords (pt (8 * s.val + b.val))) (blkA m c (pt (8 * s.val + b.val))) (blkV m c (pt (8 * s.val + b.val)))
      (blkE m c (pt (8 * s.val + b.val))) (blkT m c (pt (8 * s.val + b.val))) (ix4 (0 : Fin 1) (0 : Fin 1) r k) = _
  rw [qV_apply, blkE_eq, ← ptD_eq]
  rfl

/-! Sums over the points of one encoding. -/

theorem sum_points (f : ℕ → EReal) (s : Fin 2) :
    (∑ n ∈ Finset.range 16, if n / 8 = s.val then f n else 0) = ∑ b : Fin 8, f (8 * s.val + b.val) := by
  fin_cases s <;> simp [Finset.sum_range_succ, Fin.sum_univ_eight]

/-- A row added to at its own encoding's points is the sum of what was added. -/
theorem sum_steps {a : ℕ → EReal} {f : ℕ → EReal} {s : Fin 2} (h0 : a 0 = 0)
    (h : ∀ n < 16, a (n + 1) = if n / 8 = s.val then a n + f n else a n) : a 16 = ∑ b : Fin 8, f (8 * s.val + b.val) := by
  rw [← sum_points]
  have H : ∀ n ≤ 16, a n = ∑ n ∈ Finset.range n, if n / 8 = s.val then f n else 0 := by
    intro n
    induction n with
    | zero => intro _; simpa using h0
    | succ n ih =>
      intro hn
      rw [Finset.sum_range_succ, ← ih (by omega), h n (by omega)]
      split <;> simp
  exact H 16 le_rfl

theorem cons_step (n : ℕ) (hn : n < 16) (s : Fin 2) : consAt m c (n + 1) (ix2 s (0 : Fin 1))
    = if n / 8 = s.val then consAt m c n (ix2 s (0 : Fin 1)) + spread (ptD m c n) else consAt m c n (ix2 s (0 : Fin 1)) := by
  show consPut _ _ _ _ _ _ = _
  unfold consPut VecWindow.put
  rw [spread_apply _ _ (ptD m c n) (fun t j => distV_apply _ _ _ _ t j) (fun t => dminV_apply _ _ _ _ t)]
  have hv := pt_of_lt hn
  have e : k0_off2 (grid0.coords (pt n)) = ![n / 8, 0] := by
    rw [k0_off2_eq, (coords_eq _).1, hv]
    have : n / 8 % 2 = n / 8 := by omega
    rw [this]
  by_cases h : n / 8 = s.val
  · rw [if_pos h, dif_pos]
    · refine congrArg (· + _) ?_
      unfold View.ld
      refine congrArg _ (funext fun a => Fin.ext ?_)
      fin_cases a
      · show k0_off2 (grid0.coords (pt n)) 0 + 0 * 1 = s.val; rw [e]; simpa using h
      · show k0_off2 (grid0.coords (pt n)) 1 + 0 * 1 = 0; rw [e]; rfl
    · rw [e]
      intro a
      fin_cases a
      · exact ⟨le_of_eq h, by show s.val < n / 8 + 1; omega⟩
      · exact ⟨le_refl _, (by decide : 0 < 0 + 1)⟩
  · rw [if_neg h, dif_neg]
    rw [e]
    intro hin
    have := hin 0
    have h1 : n / 8 ≤ s.val := this.1
    have h2 : s.val < n / 8 + 1 := this.2
    omega

theorem cons_all (s : Fin 2) : consAt m c 16 (ix2 s (0 : Fin 1)) = ∑ b, spread (far m c s b) := by
  rw [sum_steps (a := fun n => consAt m c n (ix2 s (0 : Fin 1))) (f := fun n => spread (ptD m c n)) (s := s) ?_ fun n hn => cons_step m c n hn s]
  · simp only [ptD_eq]
  · show Ideal.ofBits .f32 0x00000000#32 = 0
    simp [Ideal.ofBits, Ideal.ieee]

theorem acOut_apply (x : Vec Ideal S2x1 .f32) (z : S1x1.Idx) : acOut x z = Ideal.div (x (ix2 (0 : Fin 2) (0 : Fin 1))) (lit 0x41000000#32) := by
  show Ideal.div (View.ld x _ _) _ = _
  refine congrArg (fun y => Ideal.div y _) ?_
  unfold View.ld
  refine congrArg x (funext fun a => Fin.ext ?_)
  fin_cases a <;> rfl

theorem vcOut_apply (x : Vec Ideal S2x1 .f32) (z : S1x1.Idx) : vcOut x z = Ideal.div (x (ix2 (1 : Fin 2) (0 : Fin 1))) (lit 0x41000000#32) := by
  show Ideal.div (View.ld x _ _) _ = _
  refine congrArg (fun y => Ideal.div y _) ?_
  unfold View.ld
  refine congrArg x (funext fun a => Fin.ext ?_)
  fin_cases a <;> rfl

/-! The agreement count. -/

theorem modeAt_apply (s : Fin 2) (b : Fin 8) (h) : modeAt (modesAll m c) s.val b.val h = BitVec.ofNat 32 (mode (far m c s b)).val := by
  have e : modeAt (modesAll m c) s.val b.val h = modesAll m c (ix2 s b) := by
    unfold modeAt View.ld
    refine congrArg _ (funext fun a => Fin.ext ?_)
    fin_cases a <;> rfl
  rw [e]
  show modeV (grid0.coords (pt (8 * s.val + b.val))) _ _ _ = _
  rw [modeV_apply, ← ptD_eq]
  rfl

theorem modeEq_apply (x y : Fin 8192) : modeEq (BitVec.ofNat 32 x.val) (BitVec.ofNat 32 y.val) = if x = y then 1#32 else 0#32 :=
  select_col x y _ _

theorem eqOut_apply (z : S1x1.Idx) : eqOut (modesAll m c) z = BitVec.ofNat 32 (agree (far m c 0) (far m c 1)) := by
  have h := fun (s : Fin 2) (b : Fin 8) h => modeAt_apply m c s b h
  unfold agree
  rw [Finset.card_filter, Fin.sum_univ_eight]
  unfold eqOut
  show Scalar.addi _ _ = _
  rw [show modeAt (modesAll m c) 0 0 inb_S2x8_S1x1_0_0 = _ from h 0 0 _, show modeAt (modesAll m c) 0 1 inb_S2x8_S1x1_0_1 = _ from h 0 1 _,
    show modeAt (modesAll m c) 0 2 inb_S2x8_S1x1_0_2 = _ from h 0 2 _, show modeAt (modesAll m c) 0 3 inb_S2x8_S1x1_0_3 = _ from h 0 3 _,
    show modeAt (modesAll m c) 0 4 inb_S2x8_S1x1_0_4 = _ from h 0 4 _, show modeAt (modesAll m c) 0 5 inb_S2x8_S1x1_0_5 = _ from h 0 5 _,
    show modeAt (modesAll m c) 0 6 inb_S2x8_S1x1_0_6 = _ from h 0 6 _, show modeAt (modesAll m c) 0 7 inb_S2x8_S1x1_0_7 = _ from h 0 7 _,
    show modeAt (modesAll m c) 1 0 inb_S2x8_S1x1_1_0 = _ from h 1 0 _, show modeAt (modesAll m c) 1 1 inb_S2x8_S1x1_1_1 = _ from h 1 1 _,
    show modeAt (modesAll m c) 1 2 inb_S2x8_S1x1_1_2 = _ from h 1 2 _, show modeAt (modesAll m c) 1 3 inb_S2x8_S1x1_1_3 = _ from h 1 3 _,
    show modeAt (modesAll m c) 1 4 inb_S2x8_S1x1_1_4 = _ from h 1 4 _, show modeAt (modesAll m c) 1 5 inb_S2x8_S1x1_1_5 = _ from h 1 5 _,
    show modeAt (modesAll m c) 1 6 inb_S2x8_S1x1_1_6 = _ from h 1 6 _, show modeAt (modesAll m c) 1 7 inb_S2x8_S1x1_1_7 = _ from h 1 7 _]
  simp only [modeEq_apply]
  simp only [BitVec.ofNat_add, apply_ite (BitVec.ofNat 32)]
  show (0#32 + _) + _ + _ + _ + _ + _ + _ + _ = _
  rw [BitVec.zero_add]

end Cert.KernelIdeal.Hand

end
-- ==== Proof.Value.Loss.lean ====
/- The kernel's contrastive loss, in the terms of the mathematics of its arguments. -/
module

public import proofs.«01_k».proof.Proof.Value.Kernel

@[expose] public section

set_option maxRecDepth 16384

noncomputable section

namespace Cert.KernelIdeal.Hand

open Cert.KernelIdeal Cert.KernelIdeal.Gen Cert.Hand Cert.Hand.Spec
open Idealize.ShloMosaic Idealize.ShloMosaic.TcCoe Idealize.SL.Sem

theorem code_apply (p q : Vec Ideal S8x8192 .f32) (i j : Fin 8) :
    k0_pay9 p q (ix2 i j) = code (fun i k => p (ix2 i k)) (fun i k => q (ix2 i k)) i j := by
  pointwise [k0_pay9]
  have e : Ideal.ofBits FTy.f32 4286578688#32 = ⊥ := lit_bot
  simp only [zero_sub, e]
  rfl

theorem diag_apply (p q : Vec Ideal S8x8192 .f32) (i : Fin 8) :
    k0_pay10 p q (ix1 i) = code (fun i k => p (ix2 i k)) (fun i k => q (ix2 i k)) i i := by
  rw [← code_apply]
  pointwise [k0_pay10]
  have e : ∀ (x : Fin 8) (y : EReal), Scalar.select (IntOp.cmpi .eq (BitVec.ofNat 32 i.val) (BitVec.ofNat 32 x.val)) y 0 = if i = x then y else 0 :=
    fun x y => (select_col ⟨i.val, by omega⟩ ⟨x.val, by omega⟩ y 0).trans (by simp only [Fin.ext_iff])
  simp only [e, Finset.sum_ite_eq, Finset.mem_univ, if_true]

theorem loss_apply (s : FVec Ideal S8x8 .f32) (d : FVec Ideal S8 .f32) (p q : Fin 8 → Row)
    (hs : ∀ i j, s (ix2 i j) = code p q i j) (hd : ∀ i, d (ix1 i) = code p q i i) : k0_pay11 s d = loss p q := by
  pointwise [k0_pay11]
  simp only [hs, hd]
  simp only [Finset.univ_unique, Finset.sum_singleton, zero_sub]
  rfl

variable (m : (ℓ : Loc nD τ sig) → Buf (Elt Ideal) ℓ) (c : Dev nD)

theorem ph_row (s : Fin 2) (h) (b : Fin 8) (j : Fin 8192) :
    View.ld (phAll m c) (Rect.unit (s := S16x8192) ![8 * s.val, 0] S8x8192.size h) (ix2 b j) = mean (far m c s b) j := by
  have e : View.ld (phAll m c) (Rect.unit (s := S16x8192) ![8 * s.val, 0] S8x8192.size h) (ix2 b j)
      = phAll m c (ix2 (⟨8 * s.val + b.val, by omega⟩ : Fin 16) j) := by
    unfold View.ld
    refine congrArg _ (funext fun a => Fin.ext ?_)
    fin_cases a
    · show 8 * s.val + 1 * b.val = 8 * s.val + b.val; omega
    · show 0 + 1 * j.val = j.val; omega
  rw [e, ← ptD_eq]
  exact mean_apply' _ _ (ptD m c (8 * s.val + b.val)) (fun t j => distV_apply _ _ _ _ t j) (fun t => dminV_apply _ _ _ _ t) j

theorem lcmOut_apply (z : S1x1.Idx) : lcmOut (phAll m c) z = loss (fun b => mean (far m c 0 b)) (fun b => mean (far m c 1 b)) := by
  have h0 : ∀ (b : Fin 8) (j : Fin 8192), View.ld (phAll m c) (Rect.unit (s := S16x8192) ![0, 0] S8x8192.size inb_S16x8192_S8x8192_0_0) (ix2 b j)
      = mean (far m c 0 b) j := fun b j => ph_row m c 0 _ b j
  have h1 : ∀ (b : Fin 8) (j : Fin 8192), View.ld (phAll m c) (Rect.unit (s := S16x8192) ![8, 0] S8x8192.size inb_S16x8192_S8x8192_8_0) (ix2 b j)
      = mean (far m c 1 b) j := fun b j => ph_row m c 1 _ b j
  unfold lcmOut
  refine loss_apply _ _ _ _ (fun i j => ?_) (fun i => ?_)
  · rw [code_apply]; simp only [h0, h1]
  · rw [diag_apply]; simp only [h0, h1]

end Cert.KernelIdeal.Hand

end
-- ==== Proof.Reference.Ops.lean ====
/- The reference's main function as one straight line of host operations, called functions written out at their calls, with
   its equations and its frame. -/
module

public import proofs.«01_k».proof.Proof.Gen.ReferenceIdeal
public import proofs.«01_k».proof.Proof.Reference.Straight
public import Idealize.ShloMosaic.Lib.StableHlo.Run
public import Idealize.ShloMosaic.Lib.Pipeline.Frame

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo Cert.Hand.Straight

variable {F : FTy → Type} [FloatOps F]

/-- Contents of a buffer of that shape and element type. -/
abbrev C (F : FTy → Type) (S : Shape) (e : EltTy) : Type := (⟨S, e⟩ : BufTy).Contents (Elt F)

/-- Operations of the program's part 0. -/
abbrev ops0 : List (HloOp τ sig (Elt F)) := [
  reshape main_arg0 main_v0 (rfl : (.f32 : EltTy) = .f32) shapeCasts_S8x128x64_S1024x64,
  reshape main_arg1 main_v1 (rfl : (.f32 : EltTy) = .f32) shapeCasts_S8x128x64_S1024x64,
  binary main_arg2 main_arg2 main_v2 (mulf : C F S8192x64 .f32 → C F S8192x64 .f32 → C F S8192x64 .f32),
  nullary main_cst (constant S_ .f32 0x00000000#32),
  binary main_v2 main_cst main_v3 ((fun x v => Host.reduceAdd x v reducesTo_S8192x64_S8192_d1 h_S_) : C F S8192x64 .f32 → C F S_ .f32 → C F S8192 .f32),
  unary main_v3 main_v4 (broadcastInDim S1x8192 ![1] bcast_S8192_S1x8192_1 : C F S8192 .f32 → C F S1x8192 .f32),
  binary main_v0 main_v0 main_v5 (mulf : C F S1024x64 .f32 → C F S1024x64 .f32 → C F S1024x64 .f32),
  nullary main_cst_0 (constant S_ .f32 0x00000000#32),
  binary main_v5 main_cst_0 main_v6 ((fun x v => Host.reduceAdd x v reducesTo_S1024x64_S1024_d1 h_S_) : C F S1024x64 .f32 → C F S_ .f32 → C F S1024 .f32),
  unary main_v6 main_v7 (broadcastInDim S1024x1 ![0] bcast_S1024_S1024x1_0 : C F S1024 .f32 → C F S1024x1 .f32),
  unary main_v4 main_v8 (broadcastInDim S1024x8192 ![0, 1] bcast_S1x8192_S1024x8192_0_1 : C F S1x8192 .f32 → C F S1024x8192 .f32),
  unary main_v7 main_v9 (broadcastInDim S1024x8192 ![0, 1] bcast_S1024x1_S1024x8192_0_1 : C F S1024x1 .f32 → C F S1024x8192 .f32),
  binary main_v8 main_v9 main_v10 (addf : C F S1024x8192 .f32 → C F S1024x8192 .f32 → C F S1024x8192 .f32),
  unary main_arg2 main_v11 ((transpose S64x8192 [1, 0] · transposes_S8192x64_S64x8192_1_0) : C F S8192x64 .f32 → C F S64x8192 .f32),
  binary main_v0 main_v11 main_v12 ((fun l r => Host.dotGeneral dot_S1024x64_S64x8192_S1024x8192_1_0_0_1_n_n none l r) : C F S1024x64 .f32 → C F S64x8192 .f32 → C F S1024x8192 .f32),
  nullary main_cst_1 (constant S_ .f32 0x40000000#32),
  unary main_cst_1 main_v13 (broadcastInDim S1024x8192 ![] bcast_S_S1024x8192 : C F S_ .f32 → C F S1024x8192 .f32),
  binary main_v13 main_v12 main_v14 (mulf : C F S1024x8192 .f32 → C F S1024x8192 .f32 → C F S1024x8192 .f32),
  binary main_v10 main_v14 main_v15 (subf : C F S1024x8192 .f32 → C F S1024x8192 .f32 → C F S1024x8192 .f32),
  binary main_arg2 main_arg2 main_v16 (mulf : C F S8192x64 .f32 → C F S8192x64 .f32 → C F S8192x64 .f32),
  nullary main_cst_2 (constant S_ .f32 0x00000000#32),
  binary main_v16 main_cst_2 main_v17 ((fun x v => Host.reduceAdd x v reducesTo_S8192x64_S8192_d1 h_S_) : C F S8192x64 .f32 → C F S_ .f32 → C F S8192 .f32),
  unary main_v17 main_v18 (broadcastInDim S1x8192 ![1] bcast_S8192_S1x8192_1 : C F S8192 .f32 → C F S1x8192 .f32),
  binary main_v1 main_v1 main_v19 (mulf : C F S1024x64 .f32 → C F S1024x64 .f32 → C F S1024x64 .f32),
  nullary main_cst_3 (constant S_ .f32 0x00000000#32),
  binary main_v19 main_cst_3 main_v20 ((fun x v => Host.reduceAdd x v reducesTo_S1024x64_S1024_d1 h_S_) : C F S1024x64 .f32 → C F S_ .f32 → C F S1024 .f32),
  unary main_v20 main_v21 (broadcastInDim S1024x1 ![0] bcast_S1024_S1024x1_0 : C F S1024 .f32 → C F S1024x1 .f32),
  unary main_v18 main_v22 (broadcastInDim S1024x8192 ![0, 1] bcast_S1x8192_S1024x8192_0_1 : C F S1x8192 .f32 → C F S1024x8192 .f32),
  unary main_v21 main_v23 (broadcastInDim S1024x8192 ![0, 1] bcast_S1024x1_S1024x8192_0_1 : C F S1024x1 .f32 → C F S1024x8192 .f32),
  binary main_v22 main_v23 main_v24 (addf : C F S1024x8192 .f32 → C F S1024x8192 .f32 → C F S1024x8192 .f32),
  unary main_arg2 main_v25 ((transpose S64x8192 [1, 0] · transposes_S8192x64_S64x8192_1_0) : C F S8192x64 .f32 → C F S64x8192 .f32),
  binary main_v1 main_v25 main_v26 ((fun l r => Host.dotGeneral dot_S1024x64_S64x8192_S1024x8192_1_0_0_1_n_n none l r) : C F S1024x64 .f32 → C F S64x8192 .f32 → C F S1024x8192 .f32),
  nullary main_cst_4 (constant S_ .f32 0x40000000#32),
  unary main_cst_4 main_v27 (broadcastInDim S1024x8192 ![] bcast_S_S1024x8192 : C F S_ .f32 → C F S1024x8192 .f32),
  binary main_v27 main_v26 main_v28 (mulf : C F S1024x8192 .f32 → C F S1024x8192 .f32 → C F S1024x8192 .f32),
  binary main_v24 main_v28 main_v29 (subf : C F S1024x8192 .f32 → C F S1024x8192 .f32 → C F S1024x8192 .f32),
  unary main_v15 main_v30 (Host.sqrt : C F S1024x8192 .f32 → C F S1024x8192 .f32),
  unary main_v30 main_v31 (Host.negf : C F S1024x8192 .f32 → C F S1024x8192 .f32),
  nullary main_cst_5 (constant S_ .f32 0xFF800000#32),
  binary main_v31 main_cst_5 main_v32 ((fun x v => Host.reduce FloatOps.maximumf x v reducesTo_S1024x8192_S1024_d1 h_S_) : C F S1024x8192 .f32 → C F S_ .f32 → C F S1024 .f32),
  nullary main_cst_6 (constant S_ .f32 0xFF800000#32),
  unary main_cst_6 main_v33 (broadcastInDim S1024 ![] bcast_S_S1024 : C F S_ .f32 → C F S1024 .f32),
  binary main_v33 main_v32 main_v34 (maximumf : C F S1024 .f32 → C F S1024 .f32 → C F S1024 .f32),
  unary main_v34 main_v35 (broadcastInDim S1024x1 ![0] bcast_S1024_S1024x1_0 : C F S1024 .f32 → C F S1024x1 .f32),
  unary main_v35 main_v36 (broadcastInDim S1024x8192 ![0, 1] bcast_S1024x1_S1024x8192_0_1 : C F S1024x1 .f32 → C F S1024x8192 .f32),
  binary main_v31 main_v36 main_v37 (subf : C F S1024x8192 .f32 → C F S1024x8192 .f32 → C F S1024x8192 .f32),
  unary main_v37 main_v38 (Host.exp : C F S1024x8192 .f32 → C F S1024x8192 .f32),
  nullary main_cst_7 (constant S_ .f32 0x00000000#32),
  binary main_v38 main_cst_7 main_v39 ((fun x v => Host.reduceAdd x v reducesTo_S1024x8192_S1024_d1 h_S_) : C F S1024x8192 .f32 → C F S_ .f32 → C F S1024 .f32),
  unary main_v39 main_v40 (broadcastInDim S1024x1 ![0] bcast_S1024_S1024x1_0 : C F S1024 .f32 → C F S1024x1 .f32),
  unary main_v40 main_v41 (broadcastInDim S1024x8192 ![0, 1] bcast_S1024x1_S1024x8192_0_1 : C F S1024x1 .f32 → C F S1024x8192 .f32),
  binary main_v38 main_v41 main_v42 (Host.divf : C F S1024x8192 .f32 → C F S1024x8192 .f32 → C F S1024x8192 .f32),
  unary main_v29 main_v43 (Host.sqrt : C F S1024x8192 .f32 → C F S1024x8192 .f32),
  unary main_v43 main_v44 (Host.negf : C F S1024x8192 .f32 → C F S1024x8192 .f32),
  nullary main_cst_8 (constant S_ .f32 0xFF800000#32),
  binary main_v44 main_cst_8 main_v45 ((fun x v => Host.reduce FloatOps.maximumf x v reducesTo_S1024x8192_S1024_d1 h_S_) : C F S1024x8192 .f32 → C F S_ .f32 → C F S1024 .f32),
  nullary main_cst_9 (constant S_ .f32 0xFF800000#32),
  unary main_cst_9 main_v46 (broadcastInDim S1024 ![] bcast_S_S1024 : C F S_ .f32 → C F S1024 .f32),
  binary main_v46 main_v45 main_v47 (maximumf : C F S1024 .f32 → C F S1024 .f32 → C F S1024 .f32),
  unary main_v47 main_v48 (broadcastInDim S1024x1 ![0] bcast_S1024_S1024x1_0 : C F S1024 .f32 → C F S1024x1 .f32)]

/-- Operations of the program's part 1. -/
abbrev ops1 : List (HloOp τ sig (Elt F)) := [
  unary main_v48 main_v49 (broadcastInDim S1024x8192 ![0, 1] bcast_S1024x1_S1024x8192_0_1 : C F S1024x1 .f32 → C F S1024x8192 .f32),
  binary main_v44 main_v49 main_v50 (subf : C F S1024x8192 .f32 → C F S1024x8192 .f32 → C F S1024x8192 .f32),
  unary main_v50 main_v51 (Host.exp : C F S1024x8192 .f32 → C F S1024x8192 .f32),
  nullary main_cst_10 (constant S_ .f32 0x00000000#32),
  binary main_v51 main_cst_10 main_v52 ((fun x v => Host.reduceAdd x v reducesTo_S1024x8192_S1024_d1 h_S_) : C F S1024x8192 .f32 → C F S_ .f32 → C F S1024 .f32),
  unary main_v52 main_v53 (broadcastInDim S1024x1 ![0] bcast_S1024_S1024x1_0 : C F S1024 .f32 → C F S1024x1 .f32),
  unary main_v53 main_v54 (broadcastInDim S1024x8192 ![0, 1] bcast_S1024x1_S1024x8192_0_1 : C F S1024x1 .f32 → C F S1024x8192 .f32),
  binary main_v51 main_v54 main_v55 (Host.divf : C F S1024x8192 .f32 → C F S1024x8192 .f32 → C F S1024x8192 .f32),
  nullary main_cst_11 (constant S_ .f32 0x3727C5AC#32),
  unary main_cst_11 main_v56 (broadcastInDim S1024x8192 ![] bcast_S_S1024x8192 : C F S_ .f32 → C F S1024x8192 .f32),
  binary main_v42 main_v56 main_v57 (addf : C F S1024x8192 .f32 → C F S1024x8192 .f32 → C F S1024x8192 .f32),
  unary main_v57 main_v58 (Host.log : C F S1024x8192 .f32 → C F S1024x8192 .f32),
  binary main_v42 main_v58 main_v59 (mulf : C F S1024x8192 .f32 → C F S1024x8192 .f32 → C F S1024x8192 .f32),
  nullary main_cst_12 (constant S_ .f32 0x00000000#32),
  binary main_v59 main_cst_12 main_v60 ((fun x v => Host.reduceAdd x v reducesTo_S1024x8192_S1024_d1 h_S_) : C F S1024x8192 .f32 → C F S_ .f32 → C F S1024 .f32),
  unary main_v60 main_v61 (Host.negf : C F S1024 .f32 → C F S1024 .f32),
  nullary main_cst_13 (constant S_ .f32 0x3727C5AC#32),
  unary main_cst_13 main_v62 (broadcastInDim S1024x8192 ![] bcast_S_S1024x8192 : C F S_ .f32 → C F S1024x8192 .f32),
  binary main_v55 main_v62 main_v63 (addf : C F S1024x8192 .f32 → C F S1024x8192 .f32 → C F S1024x8192 .f32),
  unary main_v63 main_v64 (Host.log : C F S1024x8192 .f32 → C F S1024x8192 .f32),
  binary main_v55 main_v64 main_v65 (mulf : C F S1024x8192 .f32 → C F S1024x8192 .f32 → C F S1024x8192 .f32),
  nullary main_cst_14 (constant S_ .f32 0x00000000#32),
  binary main_v65 main_cst_14 main_v66 ((fun x v => Host.reduceAdd x v reducesTo_S1024x8192_S1024_d1 h_S_) : C F S1024x8192 .f32 → C F S_ .f32 → C F S1024 .f32),
  unary main_v66 main_v67 (Host.negf : C F S1024 .f32 → C F S1024 .f32),
  reshape main_v42 main_v68 (rfl : (.f32 : EltTy) = .f32) shapeCasts_S1024x8192_S8x128x8192,
  nullary main_cst_15 (constant S_ .f32 0x00000000#32),
  binary main_v68 main_cst_15 main_v69 ((fun x v => Host.reduceAdd x v reducesTo_S8x128x8192_S8x8192_d1 h_S_) : C F S8x128x8192 .f32 → C F S_ .f32 → C F S8x8192 .f32),
  unary main_v69 main_v70 (broadcastInDim S8x1x8192 ![0, 2] bcast_S8x8192_S8x1x8192_0_2 : C F S8x8192 .f32 → C F S8x1x8192 .f32),
  nullary main_cst_16 (constant S_ .f32 0x43000000#32),
  unary main_cst_16 main_v71 (broadcastInDim S8x1x8192 ![] bcast_S_S8x1x8192 : C F S_ .f32 → C F S8x1x8192 .f32),
  binary main_v70 main_v71 main_v72 (Host.divf : C F S8x1x8192 .f32 → C F S8x1x8192 .f32 → C F S8x1x8192 .f32),
  unary main_v72 main_v73 (broadcastInDim S8x128x8192 ![0, 1, 2] bcast_S8x1x8192_S8x128x8192_0_1_2 : C F S8x1x8192 .f32 → C F S8x128x8192 .f32),
  binary main_v68 main_v73 main_v74 (subf : C F S8x128x8192 .f32 → C F S8x128x8192 .f32 → C F S8x128x8192 .f32),
  unary main_v74 main_v75 (Host.absf : C F S8x128x8192 .f32 → C F S8x128x8192 .f32),
  nullary main_cst_17 (constant S_ .f32 0x00000000#32),
  binary main_v75 main_cst_17 main_v76 ((fun x v => Host.reduceAdd x v reducesTo_S8x128x8192_S_d0_1_2 h_S_) : C F S8x128x8192 .f32 → C F S_ .f32 → C F S_ .f32),
  nullary main_cst_18 (constant S_ .f32 0x00000000#32),
  binary main_v68 main_cst_18 main_v77 ((fun x v => Host.reduceAdd x v reducesTo_S8x128x8192_S8x8192_d1 h_S_) : C F S8x128x8192 .f32 → C F S_ .f32 → C F S8x8192 .f32),
  nullary main_cst_19 (constant S_ .f32 0x43000000#32),
  unary main_cst_19 main_v78 (broadcastInDim S8x8192 ![] bcast_S_S8x8192 : C F S_ .f32 → C F S8x8192 .f32),
  binary main_v77 main_v78 main_v79 (Host.divf : C F S8x8192 .f32 → C F S8x8192 .f32 → C F S8x8192 .f32),
  reshape main_v55 main_v80 (rfl : (.f32 : EltTy) = .f32) shapeCasts_S1024x8192_S8x128x8192,
  nullary main_cst_20 (constant S_ .f32 0x00000000#32),
  binary main_v80 main_cst_20 main_v81 ((fun x v => Host.reduceAdd x v reducesTo_S8x128x8192_S8x8192_d1 h_S_) : C F S8x128x8192 .f32 → C F S_ .f32 → C F S8x8192 .f32),
  unary main_v81 main_v82 (broadcastInDim S8x1x8192 ![0, 2] bcast_S8x8192_S8x1x8192_0_2 : C F S8x8192 .f32 → C F S8x1x8192 .f32),
  nullary main_cst_21 (constant S_ .f32 0x43000000#32),
  unary main_cst_21 main_v83 (broadcastInDim S8x1x8192 ![] bcast_S_S8x1x8192 : C F S_ .f32 → C F S8x1x8192 .f32),
  binary main_v82 main_v83 main_v84 (Host.divf : C F S8x1x8192 .f32 → C F S8x1x8192 .f32 → C F S8x1x8192 .f32),
  unary main_v84 main_v85 (broadcastInDim S8x128x8192 ![0, 1, 2] bcast_S8x1x8192_S8x128x8192_0_1_2 : C F S8x1x8192 .f32 → C F S8x128x8192 .f32),
  binary main_v80 main_v85 main_v86 (subf : C F S8x128x8192 .f32 → C F S8x128x8192 .f32 → C F S8x128x8192 .f32),
  unary main_v86 main_v87 (Host.absf : C F S8x128x8192 .f32 → C F S8x128x8192 .f32),
  nullary main_cst_22 (constant S_ .f32 0x00000000#32),
  binary main_v87 main_cst_22 main_v88 ((fun x v => Host.reduceAdd x v reducesTo_S8x128x8192_S_d0_1_2 h_S_) : C F S8x128x8192 .f32 → C F S_ .f32 → C F S_ .f32),
  nullary main_cst_23 (constant S_ .f32 0x00000000#32),
  binary main_v80 main_cst_23 main_v89 ((fun x v => Host.reduceAdd x v reducesTo_S8x128x8192_S8x8192_d1 h_S_) : C F S8x128x8192 .f32 → C F S_ .f32 → C F S8x8192 .f32),
  nullary main_cst_24 (constant S_ .f32 0x43000000#32),
  unary main_cst_24 main_v90 (broadcastInDim S8x8192 ![] bcast_S_S8x8192 : C F S_ .f32 → C F S8x8192 .f32),
  binary main_v89 main_v90 main_v91 (Host.divf : C F S8x8192 .f32 → C F S8x8192 .f32 → C F S8x8192 .f32),
  unary main_v91 main_v92 ((transpose S8192x8 [1, 0] · transposes_S8x8192_S8192x8_1_0) : C F S8x8192 .f32 → C F S8192x8 .f32),
  nullary main_cst_25 (constant S_ .f32 0x2EDBE6FF#32)]

/-- Operations of the program's part 2. -/
abbrev ops2 : List (HloOp τ sig (Elt F)) := [
  unary main_cst_25 main_v93 (broadcastInDim S8192x8 ![] bcast_S_S8192x8 : C F S_ .f32 → C F S8192x8 .f32),
  binary main_v92 main_v93 main_v94 (addf : C F S8192x8 .f32 → C F S8192x8 .f32 → C F S8192x8 .f32),
  unary main_v94 main_v95 (Host.log : C F S8192x8 .f32 → C F S8192x8 .f32),
  binary main_v79 main_v95 main_v96 ((fun l r => Host.dotGeneral dot_S8x8192_S8192x8_S8x8_1_0_0_1_n_n none l r) : C F S8x8192 .f32 → C F S8192x8 .f32 → C F S8x8 .f32),
  unary main_v79 main_v97 ((transpose S8192x8 [1, 0] · transposes_S8x8192_S8192x8_1_0) : C F S8x8192 .f32 → C F S8192x8 .f32),
  nullary main_cst_26 (constant S_ .f32 0x2EDBE6FF#32),
  unary main_cst_26 main_v98 (broadcastInDim S8192x8 ![] bcast_S_S8192x8 : C F S_ .f32 → C F S8192x8 .f32),
  binary main_v97 main_v98 main_v99 (addf : C F S8192x8 .f32 → C F S8192x8 .f32 → C F S8192x8 .f32),
  unary main_v99 main_v100 (Host.log : C F S8192x8 .f32 → C F S8192x8 .f32),
  binary main_v91 main_v100 main_v101 ((fun l r => Host.dotGeneral dot_S8x8192_S8192x8_S8x8_1_0_0_1_n_n none l r) : C F S8x8192 .f32 → C F S8192x8 .f32 → C F S8x8 .f32),
  binary main_v96 main_v101 main_v102 (addf : C F S8x8 .f32 → C F S8x8 .f32 → C F S8x8 .f32),
  unary main_v102 main_v103 (Host.negf : C F S8x8 .f32 → C F S8x8 .f32),
  nullary main_cst_27 (constant S_ .f32 0xFF800000#32),
  binary main_v103 main_cst_27 main_v104 ((fun x v => Host.reduce FloatOps.maximumf x v reducesTo_S8x8_S_d0_1 h_S_) : C F S8x8 .f32 → C F S_ .f32 → C F S_ .f32),
  unary main_v104 main_v105 (broadcastInDim S8x8 ![] bcast_S_S8x8 : C F S_ .f32 → C F S8x8 .f32),
  binary main_v102 main_v105 main_v106 (addf : C F S8x8 .f32 → C F S8x8 .f32 → C F S8x8 .f32),
  unary main_v106 main_v107 (Host.exp : C F S8x8 .f32 → C F S8x8 .f32),
  nullary main_cst_28 (constant S_ .f32 0x00000000#32),
  binary main_v107 main_cst_28 main_v108 ((fun x v => Host.reduceAdd x v reducesTo_S8x8_S8_d1 h_S_) : C F S8x8 .f32 → C F S_ .f32 → C F S8 .f32),
  unary main_v107 main_v109 ((extractStridedSlice S1x1 ![0, 0] · slices_S8x8_S1x1_0_0) : C F S8x8 .f32 → C F S1x1 .f32),
  reshape main_v109 main_v110 (rfl : (.f32 : EltTy) = .f32) shapeCasts_S1x1_S_,
  unary main_v107 main_v111 ((extractStridedSlice S1x1 ![1, 1] · slices_S8x8_S1x1_1_1) : C F S8x8 .f32 → C F S1x1 .f32),
  reshape main_v111 main_v112 (rfl : (.f32 : EltTy) = .f32) shapeCasts_S1x1_S_,
  unary main_v107 main_v113 ((extractStridedSlice S1x1 ![2, 2] · slices_S8x8_S1x1_2_2) : C F S8x8 .f32 → C F S1x1 .f32),
  reshape main_v113 main_v114 (rfl : (.f32 : EltTy) = .f32) shapeCasts_S1x1_S_,
  unary main_v107 main_v115 ((extractStridedSlice S1x1 ![3, 3] · slices_S8x8_S1x1_3_3) : C F S8x8 .f32 → C F S1x1 .f32),
  reshape main_v115 main_v116 (rfl : (.f32 : EltTy) = .f32) shapeCasts_S1x1_S_,
  unary main_v107 main_v117 ((extractStridedSlice S1x1 ![4, 4] · slices_S8x8_S1x1_4_4) : C F S8x8 .f32 → C F S1x1 .f32),
  reshape main_v117 main_v118 (rfl : (.f32 : EltTy) = .f32) shapeCasts_S1x1_S_,
  unary main_v107 main_v119 ((extractStridedSlice S1x1 ![5, 5] · slices_S8x8_S1x1_5_5) : C F S8x8 .f32 → C F S1x1 .f32),
  reshape main_v119 main_v120 (rfl : (.f32 : EltTy) = .f32) shapeCasts_S1x1_S_,
  unary main_v107 main_v121 ((extractStridedSlice S1x1 ![6, 6] · slices_S8x8_S1x1_6_6) : C F S8x8 .f32 → C F S1x1 .f32),
  reshape main_v121 main_v122 (rfl : (.f32 : EltTy) = .f32) shapeCasts_S1x1_S_,
  unary main_v107 main_v123 ((extractStridedSlice S1x1 ![7, 7] · slices_S8x8_S1x1_7_7) : C F S8x8 .f32 → C F S1x1 .f32),
  reshape main_v123 main_v124 (rfl : (.f32 : EltTy) = .f32) shapeCasts_S1x1_S_,
  unary main_v110 main_v125 (broadcastInDim S1 ![] bcast_S_S1 : C F S_ .f32 → C F S1 .f32),
  unary main_v112 main_v126 (broadcastInDim S1 ![] bcast_S_S1 : C F S_ .f32 → C F S1 .f32),
  unary main_v114 main_v127 (broadcastInDim S1 ![] bcast_S_S1 : C F S_ .f32 → C F S1 .f32),
  unary main_v116 main_v128 (broadcastInDim S1 ![] bcast_S_S1 : C F S_ .f32 → C F S1 .f32),
  unary main_v118 main_v129 (broadcastInDim S1 ![] bcast_S_S1 : C F S_ .f32 → C F S1 .f32),
  unary main_v120 main_v130 (broadcastInDim S1 ![] bcast_S_S1 : C F S_ .f32 → C F S1 .f32),
  unary main_v122 main_v131 (broadcastInDim S1 ![] bcast_S_S1 : C F S_ .f32 → C F S1 .f32),
  unary main_v124 main_v132 (broadcastInDim S1 ![] bcast_S_S1 : C F S_ .f32 → C F S1 .f32),
  nary ![main_v125, main_v126, main_v127, main_v128, main_v129, main_v130, main_v131, main_v132] main_v133 (fun u => (concatenate S8 0 [⟨S1, (u 0 : C F S1 .f32)⟩, ⟨S1, (u 1 : C F S1 .f32)⟩, ⟨S1, (u 2 : C F S1 .f32)⟩, ⟨S1, (u 3 : C F S1 .f32)⟩, ⟨S1, (u 4 : C F S1 .f32)⟩, ⟨S1, (u 5 : C F S1 .f32)⟩, ⟨S1, (u 6 : C F S1 .f32)⟩, ⟨S1, (u 7 : C F S1 .f32)⟩] concatenates_S1_S1_S1_S1_S1_S1_S1_S1_S8_d0 : C F S8 .f32)),
  nullary main_cst_29 (constant S_ .f32 0x3727C5AC#32),
  unary main_cst_29 main_v134 (broadcastInDim S8 ![] bcast_S_S8 : C F S_ .f32 → C F S8 .f32),
  binary main_v108 main_v134 main_v135 (addf : C F S8 .f32 → C F S8 .f32 → C F S8 .f32),
  binary main_v133 main_v135 main_v136 (Host.divf : C F S8 .f32 → C F S8 .f32 → C F S8 .f32),
  unary main_v136 main_v137 (Host.log : C F S8 .f32 → C F S8 .f32),
  nullary main_cst_30 (constant S_ .f32 0x00000000#32),
  binary main_v137 main_cst_30 main_v138 ((fun x v => Host.reduceAdd x v reducesTo_S8_S_d0 h_S_) : C F S8 .f32 → C F S_ .f32 → C F S_ .f32),
  nullary main_cst_31 (constant S_ .f32 0x41000000#32),
  binary main_v138 main_cst_31 main_v139 (Host.divf : C F S_ .f32 → C F S_ .f32 → C F S_ .f32),
  unary main_v139 main_v140 (Host.negf : C F S_ .f32 → C F S_ .f32),
  nullary main_cst_32 (constant S_ .f32 0x41000000#32),
  binary main_v76 main_cst_32 main_v141 (Host.divf : C F S_ .f32 → C F S_ .f32 → C F S_ .f32),
  nullary main_cst_33 (constant S_ .f32 0x41000000#32),
  binary main_v88 main_cst_33 main_v142 (Host.divf : C F S_ .f32 → C F S_ .f32 → C F S_ .f32),
  nullary main_cst_34 (constant S_ .f32 0x41102CB3#32),
  unary main_cst_34 main_v143 (broadcastInDim S1024 ![] bcast_S_S1024 : C F S_ .f32 → C F S1024 .f32)]

/-- Operations of the program's part 3. -/
abbrev ops3 : List (HloOp τ sig (Elt F)) := [
  binary main_v61 main_v143 main_v144 (Host.divf : C F S1024 .f32 → C F S1024 .f32 → C F S1024 .f32),
  nullary main_cst_35 (constant S_ .f32 0x3F800000#32),
  unary main_cst_35 main_v145 (broadcastInDim S1024 ![] bcast_S_S1024 : C F S_ .f32 → C F S1024 .f32),
  binary main_v145 main_v144 main_v146 (subf : C F S1024 .f32 → C F S1024 .f32 → C F S1024 .f32),
  unary main_v146 main_v147 (broadcastInDim S1024x1 ![0] bcast_S1024_S1024x1_0 : C F S1024 .f32 → C F S1024x1 .f32),
  nullary main_cst_36 (constant S_ .f32 0x41102CB3#32),
  unary main_cst_36 main_v148 (broadcastInDim S1024 ![] bcast_S_S1024 : C F S_ .f32 → C F S1024 .f32),
  binary main_v67 main_v148 main_v149 (Host.divf : C F S1024 .f32 → C F S1024 .f32 → C F S1024 .f32),
  nullary main_cst_37 (constant S_ .f32 0x3F800000#32),
  unary main_cst_37 main_v150 (broadcastInDim S1024 ![] bcast_S_S1024 : C F S_ .f32 → C F S1024 .f32),
  binary main_v150 main_v149 main_v151 (subf : C F S1024 .f32 → C F S1024 .f32 → C F S1024 .f32),
  unary main_v151 main_v152 (broadcastInDim S1024x1 ![0] bcast_S1024_S1024x1_0 : C F S1024 .f32 → C F S1024x1 .f32),
  nullary main_call0_v0 (iotaInDim S1024x8192 32 1),
  nullary main_call0_cst (constant S_ .f32 0x7F800000#32),
  nullary main_call0_c (constantI S_ 32 0#32),
  quaternary main_v15 main_call0_v0 main_call0_cst main_call0_c main_call0_v1_0 ((fun x y u v j => (Host.argReduce reducer_argmin_f32_i32 x y u v reducesTo_S1024x8192_S1024_d1 h_S_ j).1) : C F S1024x8192 .f32 → C F S1024x8192 .i32 → C F S_ .f32 → C F S_ .i32 → C F S1024 .f32),
  quaternary main_v15 main_call0_v0 main_call0_cst main_call0_c main_v153 ((fun x y u v j => (Host.argReduce reducer_argmin_f32_i32 x y u v reducesTo_S1024x8192_S1024_d1 h_S_ j).2) : C F S1024x8192 .f32 → C F S1024x8192 .i32 → C F S_ .f32 → C F S_ .i32 → C F S1024 .i32),
  unary main_v153 main_call1_v0 ((broadcastInDim S1024x1 ![0] bcast_S1024_S1024x1_0) : C F S1024 .i32 → C F S1024x1 .i32),
  nullary main_call1_v1 (iotaInDim S1x8192 32 1),
  unary main_call1_v0 main_call1_v2 ((broadcastInDim S1024x8192 ![0, 1] bcast_S1024x1_S1024x8192_0_1) : C F S1024x1 .i32 → C F S1024x8192 .i32),
  unary main_call1_v1 main_call1_v3 ((broadcastInDim S1024x8192 ![0, 1] bcast_S1x8192_S1024x8192_0_1) : C F S1x8192 .i32 → C F S1024x8192 .i32),
  binary main_call1_v2 main_call1_v3 main_call1_v4 ((cmpi .eq) : C F S1024x8192 .i32 → C F S1024x8192 .i32 → C F S1024x8192 .i1),
  unary main_call1_v4 main_v154 ((uitofp .f32) : C F S1024x8192 .i1 → C F S1024x8192 .f32),
  nullary main_c (constantI S_ 32 0#32),
  unary main_c main_v155 (broadcastInDim S1024 ![] bcast_S_S1024 : C F S_ .i32 → C F S1024 .i32),
  binary main_v153 main_v155 main_v156 (cmpi .slt : C F S1024 .i32 → C F S1024 .i32 → C F S1024 .i1),
  nullary main_c_38 (constantI S_ 32 8192#32),
  unary main_c_38 main_v157 (broadcastInDim S1024 ![] bcast_S_S1024 : C F S_ .i32 → C F S1024 .i32),
  binary main_v153 main_v157 main_v158 (addi : C F S1024 .i32 → C F S1024 .i32 → C F S1024 .i32),
  ternary main_v156 main_v158 main_v153 main_v159 (select : C F S1024 .i1 → C F S1024 .i32 → C F S1024 .i32 → C F S1024 .i32),
  unary main_v159 main_v160 (broadcastInDim S1024x1 ![0] bcast_S1024_S1024x1_0 : C F S1024 .i32 → C F S1024x1 .i32),
  binary main_arg2 main_v160 main_v161 ((fun x i => Host.gather gather_S8192x64_S1024x1_S1024x64_1_0_n_n_0_1_164 x i) : C F S8192x64 .f32 → C F S1024x1 .i32 → C F S1024x64 .f32),
  reshape main_v161 main_v162 (rfl : (.f32 : EltTy) = .f32) shapeCasts_S1024x64_S8x128x64,
  nullary main_call2_v0 (iotaInDim S1024x8192 32 1),
  nullary main_call2_cst (constant S_ .f32 0x7F800000#32),
  nullary main_call2_c (constantI S_ 32 0#32),
  quaternary main_v29 main_call2_v0 main_call2_cst main_call2_c main_call2_v1_0 ((fun x y u v j => (Host.argReduce reducer_argmin_f32_i32 x y u v reducesTo_S1024x8192_S1024_d1 h_S_ j).1) : C F S1024x8192 .f32 → C F S1024x8192 .i32 → C F S_ .f32 → C F S_ .i32 → C F S1024 .f32),
  quaternary main_v29 main_call2_v0 main_call2_cst main_call2_c main_v163 ((fun x y u v j => (Host.argReduce reducer_argmin_f32_i32 x y u v reducesTo_S1024x8192_S1024_d1 h_S_ j).2) : C F S1024x8192 .f32 → C F S1024x8192 .i32 → C F S_ .f32 → C F S_ .i32 → C F S1024 .i32),
  unary main_v163 main_call3_v0 ((broadcastInDim S1024x1 ![0] bcast_S1024_S1024x1_0) : C F S1024 .i32 → C F S1024x1 .i32),
  nullary main_call3_v1 (iotaInDim S1x8192 32 1),
  unary main_call3_v0 main_call3_v2 ((broadcastInDim S1024x8192 ![0, 1] bcast_S1024x1_S1024x8192_0_1) : C F S1024x1 .i32 → C F S1024x8192 .i32),
  unary main_call3_v1 main_call3_v3 ((broadcastInDim S1024x8192 ![0, 1] bcast_S1x8192_S1024x8192_0_1) : C F S1x8192 .i32 → C F S1024x8192 .i32),
  binary main_call3_v2 main_call3_v3 main_call3_v4 ((cmpi .eq) : C F S1024x8192 .i32 → C F S1024x8192 .i32 → C F S1024x8192 .i1),
  unary main_call3_v4 main_v164 ((uitofp .f32) : C F S1024x8192 .i1 → C F S1024x8192 .f32),
  nullary main_c_39 (constantI S_ 32 0#32),
  unary main_c_39 main_v165 (broadcastInDim S1024 ![] bcast_S_S1024 : C F S_ .i32 → C F S1024 .i32),
  binary main_v163 main_v165 main_v166 (cmpi .slt : C F S1024 .i32 → C F S1024 .i32 → C F S1024 .i1),
  nullary main_c_40 (constantI S_ 32 8192#32),
  unary main_c_40 main_v167 (broadcastInDim S1024 ![] bcast_S_S1024 : C F S_ .i32 → C F S1024 .i32),
  binary main_v163 main_v167 main_v168 (addi : C F S1024 .i32 → C F S1024 .i32 → C F S1024 .i32),
  ternary main_v166 main_v168 main_v163 main_v169 (select : C F S1024 .i1 → C F S1024 .i32 → C F S1024 .i32 → C F S1024 .i32),
  unary main_v169 main_v170 (broadcastInDim S1024x1 ![0] bcast_S1024_S1024x1_0 : C F S1024 .i32 → C F S1024x1 .i32),
  binary main_arg2 main_v170 main_v171 ((fun x i => Host.gather gather_S8192x64_S1024x1_S1024x64_1_0_n_n_0_1_164 x i) : C F S8192x64 .f32 → C F S1024x1 .i32 → C F S1024x64 .f32),
  reshape main_v171 main_v172 (rfl : (.f32 : EltTy) = .f32) shapeCasts_S1024x64_S8x128x64,
  reshape main_v153 main_v173 (rfl : (.i32 : EltTy) = .i32) shapeCasts_S1024_S8x128,
  unary main_v173 main_call4_v0 ((broadcastInDim S8x128x1 ![0, 1] bcast_S8x128_S8x128x1_0_1) : C F S8x128 .i32 → C F S8x128x1 .i32),
  nullary main_call4_v1 (iotaInDim S1x1x8192 32 2),
  unary main_call4_v0 main_call4_v2 ((broadcastInDim S8x128x8192 ![0, 1, 2] bcast_S8x128x1_S8x128x8192_0_1_2) : C F S8x128x1 .i32 → C F S8x128x8192 .i32),
  unary main_call4_v1 main_call4_v3 ((broadcastInDim S8x128x8192 ![0, 1, 2] bcast_S1x1x8192_S8x128x8192_0_1_2) : C F S1x1x8192 .i32 → C F S8x128x8192 .i32),
  binary main_call4_v2 main_call4_v3 main_call4_v4 ((cmpi .eq) : C F S8x128x8192 .i32 → C F S8x128x8192 .i32 → C F S8x128x8192 .i1),
  unary main_call4_v4 main_v174 ((extui 32 · natLt_1_32) : C F S8x128x8192 .i1 → C F S8x128x8192 .i32),
  nullary main_c_41 (constantI S_ 32 0#32),
  binary main_v174 main_c_41 main_v175 ((fun x v => Host.reduce IntOp.addi x v reducesTo_S8x128x8192_S8x8192_d1 h_S_) : C F S8x128x8192 .i32 → C F S_ .i32 → C F S8x8192 .i32),
  nullary main_call5_v0 (iotaInDim S8x8192 32 1),
  nullary main_call5_c (constantI S_ 32 2147483648#32),
  nullary main_call5_c_0 (constantI S_ 32 0#32),
  quaternary main_v175 main_call5_v0 main_call5_c main_call5_c_0 main_call5_v1_0 ((fun x y u v j => (Host.reduce2 reducer_argmax_i32_i32 x y u v reducesTo_S8x8192_S8_d1 h_S_ j).1) : C F S8x8192 .i32 → C F S8x8192 .i32 → C F S_ .i32 → C F S_ .i32 → C F S8 .i32),
  quaternary main_v175 main_call5_v0 main_call5_c main_call5_c_0 main_v176 ((fun x y u v j => (Host.reduce2 reducer_argmax_i32_i32 x y u v reducesTo_S8x8192_S8_d1 h_S_ j).2) : C F S8x8192 .i32 → C F S8x8192 .i32 → C F S_ .i32 → C F S_ .i32 → C F S8 .i32),
  reshape main_v163 main_v177 (rfl : (.i32 : EltTy) = .i32) shapeCasts_S1024_S8x128,
  unary main_v177 main_call6_v0 ((broadcastInDim S8x128x1 ![0, 1] bcast_S8x128_S8x128x1_0_1) : C F S8x128 .i32 → C F S8x128x1 .i32),
  nullary main_call6_v1 (iotaInDim S1x1x8192 32 2),
  unary main_call6_v0 main_call6_v2 ((broadcastInDim S8x128x8192 ![0, 1, 2] bcast_S8x128x1_S8x128x8192_0_1_2) : C F S8x128x1 .i32 → C F S8x128x8192 .i32),
  unary main_call6_v1 main_call6_v3 ((broadcastInDim S8x128x8192 ![0, 1, 2] bcast_S1x1x8192_S8x128x8192_0_1_2) : C F S1x1x8192 .i32 → C F S8x128x8192 .i32),
  binary main_call6_v2 main_call6_v3 main_call6_v4 ((cmpi .eq) : C F S8x128x8192 .i32 → C F S8x128x8192 .i32 → C F S8x128x8192 .i1),
  unary main_call6_v4 main_v178 ((extui 32 · natLt_1_32) : C F S8x128x8192 .i1 → C F S8x128x8192 .i32),
  nullary main_c_42 (constantI S_ 32 0#32),
  binary main_v178 main_c_42 main_v179 ((fun x v => Host.reduce IntOp.addi x v reducesTo_S8x128x8192_S8x8192_d1 h_S_) : C F S8x128x8192 .i32 → C F S_ .i32 → C F S8x8192 .i32),
  nullary main_call7_v0 (iotaInDim S8x8192 32 1),
  nullary main_call7_c (constantI S_ 32 2147483648#32),
  nullary main_call7_c_0 (constantI S_ 32 0#32),
  quaternary main_v179 main_call7_v0 main_call7_c main_call7_c_0 main_call7_v1_0 ((fun x y u v j => (Host.reduce2 reducer_argmax_i32_i32 x y u v reducesTo_S8x8192_S8_d1 h_S_ j).1) : C F S8x8192 .i32 → C F S8x8192 .i32 → C F S_ .i32 → C F S_ .i32 → C F S8 .i32),
  quaternary main_v179 main_call7_v0 main_call7_c main_call7_c_0 main_v180 ((fun x y u v j => (Host.reduce2 reducer_argmax_i32_i32 x y u v reducesTo_S8x8192_S8_d1 h_S_ j).2) : C F S8x8192 .i32 → C F S8x8192 .i32 → C F S_ .i32 → C F S_ .i32 → C F S8 .i32),
  binary main_v176 main_v180 main_v181 (cmpi .eq : C F S8 .i32 → C F S8 .i32 → C F S8 .i1),
  unary main_v181 main_v182 ((extui 32 · natLt_1_32) : C F S8 .i1 → C F S8 .i32),
  nullary main_c_43 (constantI S_ 32 0#32),
  binary main_v182 main_c_43 main_v183 ((fun x v => Host.reduce IntOp.addi x v reducesTo_S8_S_d0 h_S_) : C F S8 .i32 → C F S_ .i32 → C F S_ .i32),
  unary main_v147 main_v184 (broadcastInDim S1024x8192 ![0, 1] bcast_S1024x1_S1024x8192_0_1 : C F S1024x1 .f32 → C F S1024x8192 .f32),
  binary main_v184 main_v154 main_v185 (mulf : C F S1024x8192 .f32 → C F S1024x8192 .f32 → C F S1024x8192 .f32),
  unary main_v152 main_v186 (broadcastInDim S1024x8192 ![0, 1] bcast_S1024x1_S1024x8192_0_1 : C F S1024x1 .f32 → C F S1024x8192 .f32),
  binary main_v186 main_v164 main_v187 (mulf : C F S1024x8192 .f32 → C F S1024x8192 .f32 → C F S1024x8192 .f32),
  nullary main_cst_44 (constant S_ .f32 0x3F7D70A4#32),
  unary main_cst_44 main_v188 (broadcastInDim S8192 ![] bcast_S_S8192 : C F S_ .f32 → C F S8192 .f32),
  binary main_v188 main_arg3 main_v189 (mulf : C F S8192 .f32 → C F S8192 .f32 → C F S8192 .f32),
  nullary main_cst_45 (constant S_ .f32 0x00000000#32),
  binary main_v187 main_cst_45 main_v190 ((fun x v => Host.reduceAdd x v reducesTo_S1024x8192_S8192_d0 h_S_) : C F S1024x8192 .f32 → C F S_ .f32 → C F S8192 .f32),
  nullary main_cst_46 (constant S_ .f32 0x3C23D70A#32)]

/-- Operations of the program's part 4. -/
abbrev ops4 : List (HloOp τ sig (Elt F)) := [
  unary main_cst_46 main_v191 (broadcastInDim S8192 ![] bcast_S_S8192 : C F S_ .f32 → C F S8192 .f32),
  binary main_v191 main_v190 main_v192 (mulf : C F S8192 .f32 → C F S8192 .f32 → C F S8192 .f32),
  binary main_v189 main_v192 main_v193 (addf : C F S8192 .f32 → C F S8192 .f32 → C F S8192 .f32),
  nullary main_cst_47 (constant S_ .f32 0x00000000#32),
  binary main_v193 main_cst_47 main_v194 ((fun x v => Host.reduceAdd x v reducesTo_S8192_S_d0 h_S_) : C F S8192 .f32 → C F S_ .f32 → C F S_ .f32),
  nullary main_cst_48 (constant S_ .f32 0x3727C5AC#32),
  unary main_cst_48 main_v195 (broadcastInDim S8192 ![] bcast_S_S8192 : C F S_ .f32 → C F S8192 .f32),
  binary main_v193 main_v195 main_v196 (addf : C F S8192 .f32 → C F S8192 .f32 → C F S8192 .f32),
  nullary main_cst_49 (constant S_ .f32 0x3DA7C5AC#32),
  binary main_v194 main_cst_49 main_v197 (addf : C F S_ .f32 → C F S_ .f32 → C F S_ .f32),
  unary main_v197 main_v198 (broadcastInDim S8192 ![] bcast_S_S8192 : C F S_ .f32 → C F S8192 .f32),
  binary main_v196 main_v198 main_v199 (Host.divf : C F S8192 .f32 → C F S8192 .f32 → C F S8192 .f32),
  unary main_v194 main_v200 (broadcastInDim S8192 ![] bcast_S_S8192 : C F S_ .f32 → C F S8192 .f32),
  binary main_v199 main_v200 main_v201 (mulf : C F S8192 .f32 → C F S8192 .f32 → C F S8192 .f32),
  unary main_v187 main_v202 ((transpose S8192x1024 [1, 0] · transposes_S1024x8192_S8192x1024_1_0) : C F S1024x8192 .f32 → C F S8192x1024 .f32),
  binary main_v202 main_v1 main_v203 ((fun l r => Host.dotGeneral dot_S8192x1024_S1024x64_S8192x64_1_0_0_1_n_n none l r) : C F S8192x1024 .f32 → C F S1024x64 .f32 → C F S8192x64 .f32),
  unary main_v187 main_v204 ((transpose S8192x1024 [1, 0] · transposes_S1024x8192_S8192x1024_1_0) : C F S1024x8192 .f32 → C F S8192x1024 .f32),
  binary main_v204 main_v0 main_v205 ((fun l r => Host.dotGeneral dot_S8192x1024_S1024x64_S8192x64_1_0_0_1_n_n none l r) : C F S8192x1024 .f32 → C F S1024x64 .f32 → C F S8192x64 .f32),
  nullary main_cst_50 (constant S_ .f32 0x3F7D70A4#32),
  unary main_cst_50 main_v206 (broadcastInDim S8192x64 ![] bcast_S_S8192x64 : C F S_ .f32 → C F S8192x64 .f32),
  binary main_v206 main_arg4 main_v207 (mulf : C F S8192x64 .f32 → C F S8192x64 .f32 → C F S8192x64 .f32),
  nullary main_cst_51 (constant S_ .f32 0x3BA3D70A#32),
  unary main_cst_51 main_v208 (broadcastInDim S8192x64 ![] bcast_S_S8192x64 : C F S_ .f32 → C F S8192x64 .f32),
  binary main_v208 main_v203 main_v209 (mulf : C F S8192x64 .f32 → C F S8192x64 .f32 → C F S8192x64 .f32),
  binary main_v207 main_v209 main_v210 (addf : C F S8192x64 .f32 → C F S8192x64 .f32 → C F S8192x64 .f32),
  nullary main_cst_52 (constant S_ .f32 0x3BA3D70A#32),
  unary main_cst_52 main_v211 (broadcastInDim S8192x64 ![] bcast_S_S8192x64 : C F S_ .f32 → C F S8192x64 .f32),
  binary main_v211 main_v205 main_v212 (mulf : C F S8192x64 .f32 → C F S8192x64 .f32 → C F S8192x64 .f32),
  binary main_v210 main_v212 main_v213 (addf : C F S8192x64 .f32 → C F S8192x64 .f32 → C F S8192x64 .f32),
  nullary main_cst_53 (constant S_ .f32 0x3F7D70A4#32),
  unary main_cst_53 main_v214 (broadcastInDim S8192 ![] bcast_S_S8192 : C F S_ .f32 → C F S8192 .f32),
  binary main_v214 main_v201 main_v215 (mulf : C F S8192 .f32 → C F S8192 .f32 → C F S8192 .f32),
  nullary main_cst_54 (constant S_ .f32 0x00000000#32),
  binary main_v185 main_cst_54 main_v216 ((fun x v => Host.reduceAdd x v reducesTo_S1024x8192_S8192_d0 h_S_) : C F S1024x8192 .f32 → C F S_ .f32 → C F S8192 .f32),
  nullary main_cst_55 (constant S_ .f32 0x3C23D70A#32),
  unary main_cst_55 main_v217 (broadcastInDim S8192 ![] bcast_S_S8192 : C F S_ .f32 → C F S8192 .f32),
  binary main_v217 main_v216 main_v218 (mulf : C F S8192 .f32 → C F S8192 .f32 → C F S8192 .f32),
  binary main_v215 main_v218 main_v219 (addf : C F S8192 .f32 → C F S8192 .f32 → C F S8192 .f32),
  nullary main_cst_56 (constant S_ .f32 0x00000000#32),
  binary main_v219 main_cst_56 main_v220 ((fun x v => Host.reduceAdd x v reducesTo_S8192_S_d0 h_S_) : C F S8192 .f32 → C F S_ .f32 → C F S_ .f32),
  nullary main_cst_57 (constant S_ .f32 0x3727C5AC#32),
  unary main_cst_57 main_v221 (broadcastInDim S8192 ![] bcast_S_S8192 : C F S_ .f32 → C F S8192 .f32),
  binary main_v219 main_v221 main_v222 (addf : C F S8192 .f32 → C F S8192 .f32 → C F S8192 .f32),
  nullary main_cst_58 (constant S_ .f32 0x3DA7C5AC#32),
  binary main_v220 main_cst_58 main_v223 (addf : C F S_ .f32 → C F S_ .f32 → C F S_ .f32),
  unary main_v223 main_v224 (broadcastInDim S8192 ![] bcast_S_S8192 : C F S_ .f32 → C F S8192 .f32),
  binary main_v222 main_v224 main_v225 (Host.divf : C F S8192 .f32 → C F S8192 .f32 → C F S8192 .f32),
  unary main_v220 main_v226 (broadcastInDim S8192 ![] bcast_S_S8192 : C F S_ .f32 → C F S8192 .f32),
  binary main_v225 main_v226 main_v227 (mulf : C F S8192 .f32 → C F S8192 .f32 → C F S8192 .f32),
  unary main_v185 main_v228 ((transpose S8192x1024 [1, 0] · transposes_S1024x8192_S8192x1024_1_0) : C F S1024x8192 .f32 → C F S8192x1024 .f32),
  binary main_v228 main_v0 main_v229 ((fun l r => Host.dotGeneral dot_S8192x1024_S1024x64_S8192x64_1_0_0_1_n_n none l r) : C F S8192x1024 .f32 → C F S1024x64 .f32 → C F S8192x64 .f32),
  unary main_v185 main_v230 ((transpose S8192x1024 [1, 0] · transposes_S1024x8192_S8192x1024_1_0) : C F S1024x8192 .f32 → C F S8192x1024 .f32),
  binary main_v230 main_v1 main_v231 ((fun l r => Host.dotGeneral dot_S8192x1024_S1024x64_S8192x64_1_0_0_1_n_n none l r) : C F S8192x1024 .f32 → C F S1024x64 .f32 → C F S8192x64 .f32),
  nullary main_cst_59 (constant S_ .f32 0x3F7D70A4#32),
  unary main_cst_59 main_v232 (broadcastInDim S8192x64 ![] bcast_S_S8192x64 : C F S_ .f32 → C F S8192x64 .f32),
  binary main_v232 main_v213 main_v233 (mulf : C F S8192x64 .f32 → C F S8192x64 .f32 → C F S8192x64 .f32),
  nullary main_cst_60 (constant S_ .f32 0x3BA3D70A#32),
  unary main_cst_60 main_v234 (broadcastInDim S8192x64 ![] bcast_S_S8192x64 : C F S_ .f32 → C F S8192x64 .f32),
  binary main_v234 main_v229 main_v235 (mulf : C F S8192x64 .f32 → C F S8192x64 .f32 → C F S8192x64 .f32),
  binary main_v233 main_v235 main_v236 (addf : C F S8192x64 .f32 → C F S8192x64 .f32 → C F S8192x64 .f32)]

/-- Operations of the program's part 5. -/
abbrev ops5 : List (HloOp τ sig (Elt F)) := [
  nullary main_cst_61 (constant S_ .f32 0x3BA3D70A#32),
  unary main_cst_61 main_v237 (broadcastInDim S8192x64 ![] bcast_S_S8192x64 : C F S_ .f32 → C F S8192x64 .f32),
  binary main_v237 main_v231 main_v238 (mulf : C F S8192x64 .f32 → C F S8192x64 .f32 → C F S8192x64 .f32),
  binary main_v236 main_v238 main_v239 (addf : C F S8192x64 .f32 → C F S8192x64 .f32 → C F S8192x64 .f32),
  unary main_v227 main_v240 (broadcastInDim S8192x1 ![0] bcast_S8192_S8192x1_0 : C F S8192 .f32 → C F S8192x1 .f32),
  unary main_v240 main_v241 (broadcastInDim S8192x64 ![0, 1] bcast_S8192x1_S8192x64_0_1 : C F S8192x1 .f32 → C F S8192x64 .f32),
  binary main_v239 main_v241 main_v242 (Host.divf : C F S8192x64 .f32 → C F S8192x64 .f32 → C F S8192x64 .f32)]

set_option maxRecDepth 16384
set_option maxHeartbeats 4000000

/-- The program's operations, in order. -/
def ops : List (HloOp τ sig (Elt F)) := ops0 ++ (ops1 ++ (ops2 ++ (ops3 ++ (ops4 ++ ops5))))

theorem part0_eq (c : Dev nD) : main_part0 (F := F) c = seq ops0 := rfl
theorem part1_eq (c : Dev nD) : main_part1 (F := F) c = seq ops1 := rfl
theorem part2_eq (c : Dev nD) : main_part2 (F := F) c = seq ops2 := rfl
theorem part3_eq (c : Dev nD) : main_part3 (F := F) c = seq ops3 := rfl
theorem part4_eq (c : Dev nD) : main_part4 (F := F) c = seq ops4 := rfl
theorem part5_eq (c : Dev nD) : main_part5 (F := F) c = seq ops5 := rfl

theorem main_eq (c : Dev nD) : main (F := F) c = seq ops := by
  simp only [ops, seq_append, ← part0_eq c, ← part1_eq c, ← part2_eq c, ← part3_eq c, ← part4_eq c, ← part5_eq c]
  rfl

theorem line0 : Line 6 66 (ops0 (F := F)) := by
  repeat' first
    | exact Line.nil (by decide)
    | refine Line.binary (by decide) (by decide) (by decide) ?_
    | refine Line.unary (by decide) (by decide) ?_
    | refine Line.nullary (by decide) ?_
    | refine Line.reshape (by decide) (by decide) ?_
    | refine Line.ternary (by decide) (by decide) (by decide) (by decide) ?_
    | refine Line.quaternary (by decide) (by decide) (by decide) (by decide) (by decide) ?_
    | refine Line.nary (by decide) (by decide) ?_

theorem line1 : Line 66 126 (ops1 (F := F)) := by
  repeat' first
    | exact Line.nil (by decide)
    | refine Line.binary (by decide) (by decide) (by decide) ?_
    | refine Line.unary (by decide) (by decide) ?_
    | refine Line.nullary (by decide) ?_
    | refine Line.reshape (by decide) (by decide) ?_
    | refine Line.ternary (by decide) (by decide) (by decide) (by decide) ?_
    | refine Line.quaternary (by decide) (by decide) (by decide) (by decide) (by decide) ?_
    | refine Line.nary (by decide) (by decide) ?_

theorem line2 : Line 126 186 (ops2 (F := F)) := by
  repeat' first
    | exact Line.nil (by decide)
    | refine Line.binary (by decide) (by decide) (by decide) ?_
    | refine Line.unary (by decide) (by decide) ?_
    | refine Line.nullary (by decide) ?_
    | refine Line.reshape (by decide) (by decide) ?_
    | refine Line.ternary (by decide) (by decide) (by decide) (by decide) ?_
    | refine Line.quaternary (by decide) (by decide) (by decide) (by decide) (by decide) ?_
    | refine Line.nary (by decide) (by decide) ?_

theorem line3 : Line 186 282 (ops3 (F := F)) := by
  repeat' first
    | exact Line.nil (by decide)
    | refine Line.binary (by decide) (by decide) (by decide) ?_
    | refine Line.unary (by decide) (by decide) ?_
    | refine Line.nullary (by decide) ?_
    | refine Line.reshape (by decide) (by decide) ?_
    | refine Line.ternary (by decide) (by decide) (by decide) (by decide) ?_
    | refine Line.quaternary (by decide) (by decide) (by decide) (by decide) (by decide) ?_
    | refine Line.nary (by decide) (by decide) ?_

theorem line4 : Line 282 342 (ops4 (F := F)) := by
  repeat' first
    | exact Line.nil (by decide)
    | refine Line.binary (by decide) (by decide) (by decide) ?_
    | refine Line.unary (by decide) (by decide) ?_
    | refine Line.nullary (by decide) ?_
    | refine Line.reshape (by decide) (by decide) ?_
    | refine Line.ternary (by decide) (by decide) (by decide) (by decide) ?_
    | refine Line.quaternary (by decide) (by decide) (by decide) (by decide) (by decide) ?_
    | refine Line.nary (by decide) (by decide) ?_

theorem line5 : Line 342 349 (ops5 (F := F)) := by
  repeat' first
    | exact Line.nil (by decide)
    | refine Line.binary (by decide) (by decide) (by decide) ?_
    | refine Line.unary (by decide) (by decide) ?_
    | refine Line.nullary (by decide) ?_
    | refine Line.reshape (by decide) (by decide) ?_
    | refine Line.ternary (by decide) (by decide) (by decide) (by decide) ?_
    | refine Line.quaternary (by decide) (by decide) (by decide) (by decide) (by decide) ?_
    | refine Line.nary (by decide) (by decide) ?_

end Cert.ReferenceIdeal.Hand

end
-- ==== Proof.Reference.Run.lean ====
/- The reference runs: every buffer ends at the contents the line of operations gives it, which satisfy every operation's
   equation, and the arguments are left. -/
module

public import proofs.«01_k».proof.Proof.Reference.Ops
public import Idealize.ShloMosaic.Lib.Quiescent
public import Idealize.ShloMosaic.Lib.StableHlo.RunHlo

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo Cert.Hand.Straight

variable {F : FTy → Type} [FloatOps F]

theorem line : Line 6 349 (ops (F := F)) :=
  line0.append (line1.append (line2.append (line3.append (line4.append line5))))

theorem scopedRefs_eq : (Finset.univ.filter fun b : Ref sig .tc => b.isScoped) = ∅ := by decide
theorem scopedSems_eq : (Finset.univ.filter fun sm : SemLoc sig => sm.isScoped .tc) = ∅ := by decide

/-- What the program's buffers end as. -/
def fin (m : (ℓ : Loc nD τ sig) → Buf (Elt F) ℓ) (c : Dev nD) : Valuation τ sig (Elt F) := after ops (launchContents m c)

theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = fin m c (Proc.devRef .tc b) :=
  run_seq scopedRefs_eq scopedSems_eq defs main (fun _ => ops) main_eq
    (fun _ => List.forall_iff_forall_mem.mpr fun op h => (line.mem op h).1) m ρ fun _ op h => (line.mem op h).2

theorem solves (m : (ℓ : Loc nD τ sig) → Buf (Elt F) ℓ) (c : Dev nD) : Solves ops (fin m c) := line.fixed _

theorem fin_arg (m : (ℓ : Loc nD τ sig) → Buf (Elt F) ℓ) (c : Dev nD) (b : Ref sig .tc) (h : rank b < 6) :
    fin m c (Proc.devRef .tc b) = m ((c.tc : Thread nD τ).loc b) := line.before _ h

theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_mono (run m ρ) fun r h =>
    have a (c : Dev nD) (b : Ref sig .tc) (hb : rank b < 6) := (h c b).trans (fin_arg m c b hb)
    ⟨fun c => ⟨a c _ (by decide), a c _ (by decide), a c _ (by decide), a c _ (by decide), a c _ (by decide), a c _ (by decide)⟩,
      sem_eq_zero_of_no_sems (by decide) _⟩

end Cert.ReferenceIdeal.Hand

end
-- ==== Proof.Reference.Stages.lean ====
/- The reference's stages as functions: what each computes from the buffers of the stages before it. -/
module

public import proofs.«01_k».proof.Proof.Reference.Run
public import Idealize.ShloMosaic.PureOps.Ideal

@[expose] public section

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo Cert.Hand.Straight

variable {X : Valuation τ sig (Elt Ideal)}

/-- An array of rows, one row after another. -/
def flatR (x : FVec Ideal S8x128x64 .f32) : FVec Ideal S1024x64 .f32 :=
  (shapeCast S1024x64 x shapeCasts_S8x128x64_S1024x64)

theorem flatR_v0 (h : Solves ops X) : (X (Proc.devRef .tc main_v0)) = flatR (X (Proc.devRef .tc main_arg0)) := by
  rw [h.reshape 0 rfl]
  rfl

theorem flatR_v1 (h : Solves ops X) : (X (Proc.devRef .tc main_v1)) = flatR (X (Proc.devRef .tc main_arg1)) := by
  rw [h.reshape 1 rfl]
  rfl

/-- The squared distances of the rows `x` to the rows `e`. -/
def distR (x : FVec Ideal S1024x64 .f32) (e : FVec Ideal S8192x64 .f32) : FVec Ideal S1024x8192 .f32 :=
  (subf (addf (broadcastInDim S1024x8192 ![0, 1] bcast_S1x8192_S1024x8192_0_1 (broadcastInDim S1x8192 ![1] bcast_S8192_S1x8192_1
    (Host.reduceAdd (mulf e e) (constant S_ .f32 0x00000000#32) reducesTo_S8192x64_S8192_d1 h_S_))) (broadcastInDim S1024x8192 ![0, 1]
    bcast_S1024x1_S1024x8192_0_1 (broadcastInDim S1024x1 ![0] bcast_S1024_S1024x1_0 (Host.reduceAdd (mulf x x) (constant S_ .f32
    0x00000000#32) reducesTo_S1024x64_S1024_d1 h_S_)))) (mulf (broadcastInDim S1024x8192 ![] bcast_S_S1024x8192 (constant S_ .f32
    0x40000000#32)) (Host.dotGeneral dot_S1024x64_S64x8192_S1024x8192_1_0_0_1_n_n none x (transpose S64x8192 [1, 0] e
    transposes_S8192x64_S64x8192_1_0))))

theorem distR_v15 (h : Solves ops X) : (X (Proc.devRef .tc main_v15)) = distR (X (Proc.devRef .tc main_v0)) (X (Proc.devRef .tc main_arg2)) := by
  rw [h.binary 18 rfl, h.binary 17 rfl, h.unary 16 rfl, h.nullary 15 rfl, h.binary 14 rfl, h.unary 13 rfl, h.binary 12 rfl, h.unary 11
    rfl, h.unary 10 rfl, h.unary 9 rfl, h.binary 8 rfl, h.nullary 7 rfl, h.binary 6 rfl, h.unary 5 rfl, h.binary 4 rfl, h.nullary 3
    rfl, h.binary 2 rfl]
  rfl

theorem distR_v29 (h : Solves ops X) : (X (Proc.devRef .tc main_v29)) = distR (X (Proc.devRef .tc main_v1)) (X (Proc.devRef .tc main_arg2)) := by
  rw [h.binary 35 rfl, h.binary 34 rfl, h.unary 33 rfl, h.nullary 32 rfl, h.binary 31 rfl, h.unary 30 rfl, h.binary 29 rfl, h.unary 28
    rfl, h.unary 27 rfl, h.unary 26 rfl, h.binary 25 rfl, h.nullary 24 rfl, h.binary 23 rfl, h.unary 22 rfl, h.binary 21 rfl,
    h.nullary 20 rfl, h.binary 19 rfl]
  rfl

/-- Each row's distribution: the softmax of minus the distance. -/
def probR (d : FVec Ideal S1024x8192 .f32) : FVec Ideal S1024x8192 .f32 :=
  (Host.divf (Host.exp (subf (Host.negf (Host.sqrt d)) (broadcastInDim S1024x8192 ![0, 1] bcast_S1024x1_S1024x8192_0_1 (broadcastInDim
    S1024x1 ![0] bcast_S1024_S1024x1_0 (maximumf (broadcastInDim S1024 ![] bcast_S_S1024 (constant S_ .f32 0xFF800000#32)) (Host.reduce
    FloatOps.maximumf (Host.negf (Host.sqrt d)) (constant S_ .f32 0xFF800000#32) reducesTo_S1024x8192_S1024_d1 h_S_)))))) (broadcastInDim
    S1024x8192 ![0, 1] bcast_S1024x1_S1024x8192_0_1 (broadcastInDim S1024x1 ![0] bcast_S1024_S1024x1_0 (Host.reduceAdd (Host.exp (subf
    (Host.negf (Host.sqrt d)) (broadcastInDim S1024x8192 ![0, 1] bcast_S1024x1_S1024x8192_0_1 (broadcastInDim S1024x1 ![0]
    bcast_S1024_S1024x1_0 (maximumf (broadcastInDim S1024 ![] bcast_S_S1024 (constant S_ .f32 0xFF800000#32)) (Host.reduce FloatOps.maximumf
    (Host.negf (Host.sqrt d)) (constant S_ .f32 0xFF800000#32) reducesTo_S1024x8192_S1024_d1 h_S_)))))) (constant S_ .f32 0x00000000#32)
    reducesTo_S1024x8192_S1024_d1 h_S_))))

theorem probR_v42 (h : Solves ops X) : (X (Proc.devRef .tc main_v42)) = probR (X (Proc.devRef .tc main_v15)) := by
  rw [h.binary 51 rfl, h.unary 50 rfl, h.unary 49 rfl, h.binary 48 rfl, h.nullary 47 rfl, h.unary 46 rfl, h.binary 45 rfl, h.unary 44
    rfl, h.unary 43 rfl, h.binary 42 rfl, h.unary 41 rfl, h.nullary 40 rfl, h.binary 39 rfl, h.nullary 38 rfl, h.unary 37 rfl, h.unary
    36 rfl]
  rfl

theorem probR_v55 (h : Solves ops X) : (X (Proc.devRef .tc main_v55)) = probR (X (Proc.devRef .tc main_v29)) := by
  rw [h.binary 67 rfl, h.unary 66 rfl, h.unary 65 rfl, h.binary 64 rfl, h.nullary 63 rfl, h.unary 62 rfl, h.binary 61 rfl, h.unary 60
    rfl, h.unary 59 rfl, h.binary 58 rfl, h.unary 57 rfl, h.nullary 56 rfl, h.binary 55 rfl, h.nullary 54 rfl, h.unary 53 rfl, h.unary
    52 rfl]
  rfl

/-- One minus each row's normalised entropy. -/
def adjR (p : FVec Ideal S1024x8192 .f32) : FVec Ideal S1024x1 .f32 :=
  (broadcastInDim S1024x1 ![0] bcast_S1024_S1024x1_0 (subf (broadcastInDim S1024 ![] bcast_S_S1024 (constant S_ .f32 0x3F800000#32))
    (Host.divf (Host.negf (Host.reduceAdd (mulf p (Host.log (addf p (broadcastInDim S1024x8192 ![] bcast_S_S1024x8192 (constant S_ .f32
    0x3727C5AC#32))))) (constant S_ .f32 0x00000000#32) reducesTo_S1024x8192_S1024_d1 h_S_)) (broadcastInDim S1024 ![] bcast_S_S1024
    (constant S_ .f32 0x41102CB3#32)))))

theorem adjR_v147 (h : Solves ops X) : (X (Proc.devRef .tc main_v147)) = adjR (X (Proc.devRef .tc main_v42)) := by
  rw [h.unary 184 rfl, h.binary 183 rfl, h.unary 182 rfl, h.nullary 181 rfl, h.binary 180 rfl, h.unary 179 rfl, h.nullary 178 rfl,
    h.unary 75 rfl, h.binary 74 rfl, h.nullary 73 rfl, h.binary 72 rfl, h.unary 71 rfl, h.binary 70 rfl, h.unary 69 rfl, h.nullary 68
    rfl]
  rfl

theorem adjR_v152 (h : Solves ops X) : (X (Proc.devRef .tc main_v152)) = adjR (X (Proc.devRef .tc main_v55)) := by
  rw [h.unary 191 rfl, h.binary 190 rfl, h.unary 189 rfl, h.nullary 188 rfl, h.binary 187 rfl, h.unary 186 rfl, h.nullary 185 rfl,
    h.unary 83 rfl, h.binary 82 rfl, h.nullary 81 rfl, h.binary 80 rfl, h.unary 79 rfl, h.binary 78 rfl, h.unary 77 rfl, h.nullary 76
    rfl]
  rfl

/-- The consistency loss: the distance of each row's distribution to its batch's mean. -/
def consR (p : FVec Ideal S1024x8192 .f32) : FVec Ideal S_ .f32 :=
  (Host.divf (Host.reduceAdd (Host.absf (subf (shapeCast S8x128x8192 p shapeCasts_S1024x8192_S8x128x8192) (broadcastInDim S8x128x8192 ![0,
    1, 2] bcast_S8x1x8192_S8x128x8192_0_1_2 (Host.divf (broadcastInDim S8x1x8192 ![0, 2] bcast_S8x8192_S8x1x8192_0_2 (Host.reduceAdd
    (shapeCast S8x128x8192 p shapeCasts_S1024x8192_S8x128x8192) (constant S_ .f32 0x00000000#32) reducesTo_S8x128x8192_S8x8192_d1 h_S_))
    (broadcastInDim S8x1x8192 ![] bcast_S_S8x1x8192 (constant S_ .f32 0x43000000#32)))))) (constant S_ .f32 0x00000000#32)
    reducesTo_S8x128x8192_S_d0_1_2 h_S_) (constant S_ .f32 0x41000000#32))

theorem consR_v141 (h : Solves ops X) : (X (Proc.devRef .tc main_v141)) = consR (X (Proc.devRef .tc main_v42)) := by
  rw [h.binary 175 rfl, h.nullary 174 rfl, h.binary 95 rfl, h.nullary 94 rfl, h.unary 93 rfl, h.binary 92 rfl, h.unary 91 rfl, h.binary
    90 rfl, h.unary 89 rfl, h.nullary 88 rfl, h.unary 87 rfl, h.binary 86 rfl, h.nullary 85 rfl, h.reshape 84 rfl]
  rfl

theorem consR_v142 (h : Solves ops X) : (X (Proc.devRef .tc main_v142)) = consR (X (Proc.devRef .tc main_v55)) := by
  rw [h.binary 177 rfl, h.nullary 176 rfl, h.binary 112 rfl, h.nullary 111 rfl, h.unary 110 rfl, h.binary 109 rfl, h.unary 108 rfl,
    h.binary 107 rfl, h.unary 106 rfl, h.nullary 105 rfl, h.unary 104 rfl, h.binary 103 rfl, h.nullary 102 rfl, h.reshape 101 rfl]
  rfl

/-- Each batch's mean distribution. -/
def meanR (p : FVec Ideal S1024x8192 .f32) : FVec Ideal S8x8192 .f32 :=
  (Host.divf (Host.reduceAdd (shapeCast S8x128x8192 p shapeCasts_S1024x8192_S8x128x8192) (constant S_ .f32 0x00000000#32)
    reducesTo_S8x128x8192_S8x8192_d1 h_S_) (broadcastInDim S8x8192 ![] bcast_S_S8x8192 (constant S_ .f32 0x43000000#32)))

theorem meanR_v79 (h : Solves ops X) : (X (Proc.devRef .tc main_v79)) = meanR (X (Proc.devRef .tc main_v42)) := by
  rw [h.binary 100 rfl, h.unary 99 rfl, h.nullary 98 rfl, h.binary 97 rfl, h.nullary 96 rfl, h.reshape 84 rfl]
  rfl

theorem meanR_v91 (h : Solves ops X) : (X (Proc.devRef .tc main_v91)) = meanR (X (Proc.devRef .tc main_v55)) := by
  rw [h.binary 117 rfl, h.unary 116 rfl, h.nullary 115 rfl, h.binary 114 rfl, h.nullary 113 rfl, h.reshape 101 rfl]
  rfl

/-- The exponentials of the shifted scores of each pair of batches. -/
def codeR (p : FVec Ideal S8x8192 .f32) (q : FVec Ideal S8x8192 .f32) : FVec Ideal S8x8 .f32 :=
  (Host.exp (addf (addf (Host.dotGeneral dot_S8x8192_S8192x8_S8x8_1_0_0_1_n_n none p (Host.log (addf (transpose S8192x8 [1, 0] q
    transposes_S8x8192_S8192x8_1_0) (broadcastInDim S8192x8 ![] bcast_S_S8192x8 (constant S_ .f32 0x2EDBE6FF#32))))) (Host.dotGeneral
    dot_S8x8192_S8192x8_S8x8_1_0_0_1_n_n none q (Host.log (addf (transpose S8192x8 [1, 0] p transposes_S8x8192_S8192x8_1_0) (broadcastInDim
    S8192x8 ![] bcast_S_S8192x8 (constant S_ .f32 0x2EDBE6FF#32)))))) (broadcastInDim S8x8 ![] bcast_S_S8x8 (Host.reduce FloatOps.maximumf
    (Host.negf (addf (Host.dotGeneral dot_S8x8192_S8192x8_S8x8_1_0_0_1_n_n none p (Host.log (addf (transpose S8192x8 [1, 0] q
    transposes_S8x8192_S8192x8_1_0) (broadcastInDim S8192x8 ![] bcast_S_S8192x8 (constant S_ .f32 0x2EDBE6FF#32))))) (Host.dotGeneral
    dot_S8x8192_S8192x8_S8x8_1_0_0_1_n_n none q (Host.log (addf (transpose S8192x8 [1, 0] p transposes_S8x8192_S8192x8_1_0) (broadcastInDim
    S8192x8 ![] bcast_S_S8192x8 (constant S_ .f32 0x2EDBE6FF#32))))))) (constant S_ .f32 0xFF800000#32) reducesTo_S8x8_S_d0_1 h_S_))))

theorem codeR_v107 (h : Solves ops X) : (X (Proc.devRef .tc main_v107)) = codeR (X (Proc.devRef .tc main_v79)) (X (Proc.devRef .tc main_v91)) := by
  rw [h.unary 136 rfl, h.binary 135 rfl, h.unary 134 rfl, h.binary 133 rfl, h.nullary 132 rfl, h.unary 131 rfl, h.binary 130 rfl,
    h.binary 129 rfl, h.unary 128 rfl, h.binary 127 rfl, h.unary 126 rfl, h.nullary 125 rfl, h.unary 124 rfl, h.binary 123 rfl,
    h.unary 122 rfl, h.binary 121 rfl, h.unary 120 rfl, h.nullary 119 rfl, h.unary 118 rfl]
  rfl

/-- The diagonal of the matrix. -/
def diagR (s : FVec Ideal S8x8 .f32) : FVec Ideal S8 .f32 :=
  (concatenate S8 0 [⟨S1, (broadcastInDim S1 ![] bcast_S_S1 (shapeCast S_ (extractStridedSlice S1x1 ![0, 0] s slices_S8x8_S1x1_0_0)
    shapeCasts_S1x1_S_))⟩, ⟨S1, (broadcastInDim S1 ![] bcast_S_S1 (shapeCast S_ (extractStridedSlice S1x1 ![1, 1] s slices_S8x8_S1x1_1_1)
    shapeCasts_S1x1_S_))⟩, ⟨S1, (broadcastInDim S1 ![] bcast_S_S1 (shapeCast S_ (extractStridedSlice S1x1 ![2, 2] s slices_S8x8_S1x1_2_2)
    shapeCasts_S1x1_S_))⟩, ⟨S1, (broadcastInDim S1 ![] bcast_S_S1 (shapeCast S_ (extractStridedSlice S1x1 ![3, 3] s slices_S8x8_S1x1_3_3)
    shapeCasts_S1x1_S_))⟩, ⟨S1, (broadcastInDim S1 ![] bcast_S_S1 (shapeCast S_ (extractStridedSlice S1x1 ![4, 4] s slices_S8x8_S1x1_4_4)
    shapeCasts_S1x1_S_))⟩, ⟨S1, (broadcastInDim S1 ![] bcast_S_S1 (shapeCast S_ (extractStridedSlice S1x1 ![5, 5] s slices_S8x8_S1x1_5_5)
    shapeCasts_S1x1_S_))⟩, ⟨S1, (broadcastInDim S1 ![] bcast_S_S1 (shapeCast S_ (extractStridedSlice S1x1 ![6, 6] s slices_S8x8_S1x1_6_6)
    shapeCasts_S1x1_S_))⟩, ⟨S1, (broadcastInDim S1 ![] bcast_S_S1 (shapeCast S_ (extractStridedSlice S1x1 ![7, 7] s slices_S8x8_S1x1_7_7)
    shapeCasts_S1x1_S_))⟩] concatenates_S1_S1_S1_S1_S1_S1_S1_S1_S8_d0)

theorem diagR_v133 (h : Solves ops X) : (X (Proc.devRef .tc main_v133)) = diagR (X (Proc.devRef .tc main_v107)) := by
  rw [h.nary 163 rfl]
  show (concatenate S8 0 [⟨S1, (X (Proc.devRef .tc main_v125) : FVec Ideal S1 .f32)⟩, ⟨S1, (X (Proc.devRef .tc main_v126) : FVec Ideal S1
    .f32)⟩, ⟨S1, (X (Proc.devRef .tc main_v127) : FVec Ideal S1 .f32)⟩, ⟨S1, (X (Proc.devRef .tc main_v128) : FVec Ideal S1 .f32)⟩,
    ⟨S1, (X (Proc.devRef .tc main_v129) : FVec Ideal S1 .f32)⟩, ⟨S1, (X (Proc.devRef .tc main_v130) : FVec Ideal S1 .f32)⟩, ⟨S1, (X
    (Proc.devRef .tc main_v131) : FVec Ideal S1 .f32)⟩, ⟨S1, (X (Proc.devRef .tc main_v132) : FVec Ideal S1 .f32)⟩]
    concatenates_S1_S1_S1_S1_S1_S1_S1_S1_S8_d0 : FVec Ideal S8 .f32) = _
  rw [h.unary 162 rfl, h.unary 161 rfl, h.unary 160 rfl, h.unary 159 rfl, h.unary 158 rfl, h.unary 157 rfl, h.unary 156 rfl, h.unary 155
    rfl, h.reshape 154 rfl, h.unary 153 rfl, h.reshape 152 rfl, h.unary 151 rfl, h.reshape 150 rfl, h.unary 149 rfl, h.reshape 148
    rfl, h.unary 147 rfl, h.reshape 146 rfl, h.unary 145 rfl, h.reshape 144 rfl, h.unary 143 rfl, h.reshape 142 rfl, h.unary 141 rfl,
    h.reshape 140 rfl, h.unary 139 rfl]
  rfl

/-- The contrastive loss of those exponentials and their diagonal. -/
def lossR (s : FVec Ideal S8x8 .f32) (d : FVec Ideal S8 .f32) : FVec Ideal S_ .f32 :=
  (Host.negf (Host.divf (Host.reduceAdd (Host.log (Host.divf d (addf (Host.reduceAdd s (constant S_ .f32 0x00000000#32) reducesTo_S8x8_S8_d1
    h_S_) (broadcastInDim S8 ![] bcast_S_S8 (constant S_ .f32 0x3727C5AC#32))))) (constant S_ .f32 0x00000000#32) reducesTo_S8_S_d0 h_S_)
    (constant S_ .f32 0x41000000#32)))

theorem lossR_v140 (h : Solves ops X) : (X (Proc.devRef .tc main_v140)) = lossR (X (Proc.devRef .tc main_v107)) (X (Proc.devRef .tc main_v133)) := by
  rw [h.unary 173 rfl, h.binary 172 rfl, h.nullary 171 rfl, h.binary 170 rfl, h.nullary 169 rfl, h.unary 168 rfl, h.binary 167 rfl,
    h.binary 166 rfl, h.unary 165 rfl, h.nullary 164 rfl, h.binary 138 rfl, h.nullary 137 rfl]
  rfl

/-- Each row's nearest codebook row. -/
def nearR (d : FVec Ideal S1024x8192 .f32) : IVec S1024 32 :=
  (fun j => (Host.argReduce reducer_argmin_f32_i32 d (iotaInDim S1024x8192 32 1) (constant S_ .f32 0x7F800000#32) (constantI S_ 32 0#32)
    reducesTo_S1024x8192_S1024_d1 h_S_ j).2)

theorem nearR_v153 (h : Solves ops X) : (X (Proc.devRef .tc main_v153)) = nearR (X (Proc.devRef .tc main_v15)) := by
  rw [h.quaternary 196 rfl, h.nullary 194 rfl, h.nullary 193 rfl, h.nullary 192 rfl]
  rfl

theorem nearR_v163 (h : Solves ops X) : (X (Proc.devRef .tc main_v163)) = nearR (X (Proc.devRef .tc main_v29)) := by
  rw [h.quaternary 217 rfl, h.nullary 215 rfl, h.nullary 214 rfl, h.nullary 213 rfl]
  rfl

/-- The codebook rows at the indices. -/
def takeR (n : IVec S1024 32) (e : FVec Ideal S8192x64 .f32) : FVec Ideal S8x128x64 .f32 :=
  (shapeCast S8x128x64 (Host.gather gather_S8192x64_S1024x1_S1024x64_1_0_n_n_0_1_164 e (broadcastInDim S1024x1 ![0] bcast_S1024_S1024x1_0
    (select (cmpi .slt n (broadcastInDim S1024 ![] bcast_S_S1024 (constantI S_ 32 0#32))) (addi n (broadcastInDim S1024 ![] bcast_S_S1024
    (constantI S_ 32 8192#32))) n))) shapeCasts_S1024x64_S8x128x64)

theorem takeR_v162 (h : Solves ops X) : (X (Proc.devRef .tc main_v162)) = takeR (X (Proc.devRef .tc main_v153)) (X (Proc.devRef .tc main_arg2)) := by
  rw [h.reshape 212 rfl, h.binary 211 rfl, h.unary 210 rfl, h.ternary 209 rfl, h.binary 208 rfl, h.unary 207 rfl, h.nullary 206 rfl,
    h.binary 205 rfl, h.unary 204 rfl, h.nullary 203 rfl]
  rfl

theorem takeR_v172 (h : Solves ops X) : (X (Proc.devRef .tc main_v172)) = takeR (X (Proc.devRef .tc main_v163)) (X (Proc.devRef .tc main_arg2)) := by
  rw [h.reshape 233 rfl, h.binary 232 rfl, h.unary 231 rfl, h.ternary 230 rfl, h.binary 229 rfl, h.unary 228 rfl, h.nullary 227 rfl,
    h.binary 226 rfl, h.unary 225 rfl, h.nullary 224 rfl]
  rfl

/-- How often each batch names each codebook row. -/
def countR (n : IVec S1024 32) : IVec S8x8192 32 :=
  (Host.reduce IntOp.addi (extui 32 (cmpi .eq (broadcastInDim S8x128x8192 ![0, 1, 2] bcast_S8x128x1_S8x128x8192_0_1_2 (broadcastInDim
    S8x128x1 ![0, 1] bcast_S8x128_S8x128x1_0_1 (shapeCast S8x128 n shapeCasts_S1024_S8x128))) (broadcastInDim S8x128x8192 ![0, 1, 2]
    bcast_S1x1x8192_S8x128x8192_0_1_2 (iotaInDim S1x1x8192 32 2))) natLt_1_32) (constantI S_ 32 0#32) reducesTo_S8x128x8192_S8x8192_d1 h_S_)

theorem countR_v175 (h : Solves ops X) : (X (Proc.devRef .tc main_v175)) = countR (X (Proc.devRef .tc main_v153)) := by
  rw [h.binary 242 rfl, h.nullary 241 rfl, h.unary 240 rfl, h.binary 239 rfl, h.unary 238 rfl, h.unary 237 rfl, h.nullary 236 rfl,
    h.unary 235 rfl, h.reshape 234 rfl]
  rfl

theorem countR_v179 (h : Solves ops X) : (X (Proc.devRef .tc main_v179)) = countR (X (Proc.devRef .tc main_v163)) := by
  rw [h.binary 256 rfl, h.nullary 255 rfl, h.unary 254 rfl, h.binary 253 rfl, h.unary 252 rfl, h.unary 251 rfl, h.nullary 250 rfl,
    h.unary 249 rfl, h.reshape 248 rfl]
  rfl

/-- The first most frequent codebook row of each batch. -/
def modeR (c : IVec S8x8192 32) : IVec S8 32 :=
  (fun j => (Host.reduce2 reducer_argmax_i32_i32 c (iotaInDim S8x8192 32 1) (constantI S_ 32 2147483648#32) (constantI S_ 32 0#32)
    reducesTo_S8x8192_S8_d1 h_S_ j).2)

theorem modeR_v176 (h : Solves ops X) : (X (Proc.devRef .tc main_v176)) = modeR (X (Proc.devRef .tc main_v175)) := by
  rw [h.quaternary 247 rfl, h.nullary 245 rfl, h.nullary 244 rfl, h.nullary 243 rfl]
  rfl

theorem modeR_v180 (h : Solves ops X) : (X (Proc.devRef .tc main_v180)) = modeR (X (Proc.devRef .tc main_v179)) := by
  rw [h.quaternary 261 rfl, h.nullary 259 rfl, h.nullary 258 rfl, h.nullary 257 rfl]
  rfl

/-- The number of batches whose modes agree. -/
def equalR (x : IVec S8 32) (y : IVec S8 32) : IVec S_ 32 :=
  (Host.reduce IntOp.addi (extui 32 (cmpi .eq x y) natLt_1_32) (constantI S_ 32 0#32) reducesTo_S8_S_d0 h_S_)

theorem equalR_v183 (h : Solves ops X) : (X (Proc.devRef .tc main_v183)) = equalR (X (Proc.devRef .tc main_v176)) (X (Proc.devRef .tc main_v180)) := by
  rw [h.binary 265 rfl, h.nullary 264 rfl, h.unary 263 rfl, h.binary 262 rfl]
  rfl

/-- The indices' indicator matrix, each row scaled. -/
def hotR (w : FVec Ideal S1024x1 .f32) (n : IVec S1024 32) : FVec Ideal S1024x8192 .f32 :=
  (mulf (broadcastInDim S1024x8192 ![0, 1] bcast_S1024x1_S1024x8192_0_1 w) (uitofp .f32 (cmpi .eq (broadcastInDim S1024x8192 ![0, 1]
    bcast_S1024x1_S1024x8192_0_1 (broadcastInDim S1024x1 ![0] bcast_S1024_S1024x1_0 n)) (broadcastInDim S1024x8192 ![0, 1]
    bcast_S1x8192_S1024x8192_0_1 (iotaInDim S1x8192 32 1)))))

theorem hotR_v185 (h : Solves ops X) : (X (Proc.devRef .tc main_v185)) = hotR (X (Proc.devRef .tc main_v147)) (X (Proc.devRef .tc main_v153)) := by
  rw [h.binary 267 rfl, h.unary 266 rfl, h.unary 202 rfl, h.binary 201 rfl, h.unary 200 rfl, h.unary 199 rfl, h.nullary 198 rfl, h.unary
    197 rfl]
  rfl

theorem hotR_v187 (h : Solves ops X) : (X (Proc.devRef .tc main_v187)) = hotR (X (Proc.devRef .tc main_v152)) (X (Proc.devRef .tc main_v163)) := by
  rw [h.binary 269 rfl, h.unary 268 rfl, h.unary 223 rfl, h.binary 222 rfl, h.unary 221 rfl, h.unary 220 rfl, h.nullary 219 rfl, h.unary
    218 rfl]
  rfl

/-- The moving average of the counts. -/
def blendR (c : FVec Ideal S8192 .f32) (h : FVec Ideal S1024x8192 .f32) : FVec Ideal S8192 .f32 :=
  (addf (mulf (broadcastInDim S8192 ![] bcast_S_S8192 (constant S_ .f32 0x3F7D70A4#32)) c) (mulf (broadcastInDim S8192 ![] bcast_S_S8192
    (constant S_ .f32 0x3C23D70A#32)) (Host.reduceAdd h (constant S_ .f32 0x00000000#32) reducesTo_S1024x8192_S8192_d0 h_S_)))

theorem blendR_v193 (h : Solves ops X) : (X (Proc.devRef .tc main_v193)) = blendR (X (Proc.devRef .tc main_arg3)) (X (Proc.devRef .tc main_v187)) := by
  rw [h.binary 278 rfl, h.binary 277 rfl, h.unary 276 rfl, h.nullary 275 rfl, h.binary 274 rfl, h.nullary 273 rfl, h.binary 272 rfl,
    h.unary 271 rfl, h.nullary 270 rfl]
  rfl

theorem blendR_v219 (h : Solves ops X) : (X (Proc.devRef .tc main_v219)) = blendR (X (Proc.devRef .tc main_v201)) (X (Proc.devRef .tc main_v185)) := by
  rw [h.binary 313 rfl, h.binary 312 rfl, h.unary 311 rfl, h.nullary 310 rfl, h.binary 309 rfl, h.nullary 308 rfl, h.binary 307 rfl,
    h.unary 306 rfl, h.nullary 305 rfl]
  rfl

/-- The smoothed counts. -/
def normR (c : FVec Ideal S8192 .f32) : FVec Ideal S8192 .f32 :=
  (mulf (Host.divf (addf c (broadcastInDim S8192 ![] bcast_S_S8192 (constant S_ .f32 0x3727C5AC#32))) (broadcastInDim S8192 ![]
    bcast_S_S8192 (addf (Host.reduceAdd c (constant S_ .f32 0x00000000#32) reducesTo_S8192_S_d0 h_S_) (constant S_ .f32 0x3DA7C5AC#32))))
    (broadcastInDim S8192 ![] bcast_S_S8192 (Host.reduceAdd c (constant S_ .f32 0x00000000#32) reducesTo_S8192_S_d0 h_S_)))

theorem normR_v201 (h : Solves ops X) : (X (Proc.devRef .tc main_v201)) = normR (X (Proc.devRef .tc main_v193)) := by
  rw [h.binary 289 rfl, h.unary 288 rfl, h.binary 287 rfl, h.unary 286 rfl, h.binary 285 rfl, h.nullary 284 rfl, h.binary 283 rfl,
    h.unary 282 rfl, h.nullary 281 rfl, h.binary 280 rfl, h.nullary 279 rfl]
  rfl

theorem normR_v227 (h : Solves ops X) : (X (Proc.devRef .tc main_v227)) = normR (X (Proc.devRef .tc main_v219)) := by
  rw [h.binary 324 rfl, h.unary 323 rfl, h.binary 322 rfl, h.unary 321 rfl, h.binary 320 rfl, h.nullary 319 rfl, h.binary 318 rfl,
    h.unary 317 rfl, h.nullary 316 rfl, h.binary 315 rfl, h.nullary 314 rfl]
  rfl

/-- The moving average of the weighted sums of rows. -/
def sumR (w : FVec Ideal S8192x64 .f32) (h : FVec Ideal S1024x8192 .f32) (x : FVec Ideal S1024x64 .f32) (y : FVec Ideal S1024x64 .f32) : FVec Ideal S8192x64 .f32 :=
  (addf (addf (mulf (broadcastInDim S8192x64 ![] bcast_S_S8192x64 (constant S_ .f32 0x3F7D70A4#32)) w) (mulf (broadcastInDim S8192x64 ![]
    bcast_S_S8192x64 (constant S_ .f32 0x3BA3D70A#32)) (Host.dotGeneral dot_S8192x1024_S1024x64_S8192x64_1_0_0_1_n_n none (transpose
    S8192x1024 [1, 0] h transposes_S1024x8192_S8192x1024_1_0) x))) (mulf (broadcastInDim S8192x64 ![] bcast_S_S8192x64 (constant S_ .f32
    0x3BA3D70A#32)) (Host.dotGeneral dot_S8192x1024_S1024x64_S8192x64_1_0_0_1_n_n none (transpose S8192x1024 [1, 0] h
    transposes_S1024x8192_S8192x1024_1_0) y)))

theorem sumR_v213 (h : Solves ops X) : (X (Proc.devRef .tc main_v213)) = sumR (X (Proc.devRef .tc main_arg4)) (X (Proc.devRef .tc main_v187)) (X (Proc.devRef .tc main_v1)) (X (Proc.devRef .tc main_v0)) := by
  rw [h.binary 304 rfl, h.binary 303 rfl, h.unary 302 rfl, h.nullary 301 rfl, h.binary 300 rfl, h.binary 299 rfl, h.unary 298 rfl,
    h.nullary 297 rfl, h.binary 296 rfl, h.unary 295 rfl, h.nullary 294 rfl, h.binary 293 rfl, h.unary 292 rfl, h.binary 291 rfl,
    h.unary 290 rfl]
  rfl

theorem sumR_v239 (h : Solves ops X) : (X (Proc.devRef .tc main_v239)) = sumR (X (Proc.devRef .tc main_v213)) (X (Proc.devRef .tc main_v185)) (X (Proc.devRef .tc main_v0)) (X (Proc.devRef .tc main_v1)) := by
  rw [h.binary 339 rfl, h.binary 338 rfl, h.unary 337 rfl, h.nullary 336 rfl, h.binary 335 rfl, h.binary 334 rfl, h.unary 333 rfl,
    h.nullary 332 rfl, h.binary 331 rfl, h.unary 330 rfl, h.nullary 329 rfl, h.binary 328 rfl, h.unary 327 rfl, h.binary 326 rfl,
    h.unary 325 rfl]
  rfl

/-- The new codebook. -/
def newR (w : FVec Ideal S8192x64 .f32) (c : FVec Ideal S8192 .f32) : FVec Ideal S8192x64 .f32 :=
  (Host.divf w (broadcastInDim S8192x64 ![0, 1] bcast_S8192x1_S8192x64_0_1 (broadcastInDim S8192x1 ![0] bcast_S8192_S8192x1_0 c)))

theorem newR_v242 (h : Solves ops X) : (X (Proc.devRef .tc main_v242)) = newR (X (Proc.devRef .tc main_v239)) (X (Proc.devRef .tc main_v227)) := by
  rw [h.binary 342 rfl, h.unary 341 rfl, h.unary 340 rfl]
  rfl

end Cert.ReferenceIdeal.Hand

end
-- ==== Proof.Value.Stage.lean ====
/- The reference's stages over the reals, entry by entry, in the terms of the mathematics. -/
module

public import proofs.«01_k».proof.Proof.Reference.Stages
public import proofs.«01_k».proof.Proof.Value.Order

@[expose] public section

set_option maxRecDepth 16384

noncomputable section

namespace Cert.ReferenceIdeal.Hand

open Cert.ReferenceIdeal Cert.ReferenceIdeal.Gen Cert.Hand Cert.Hand.Spec
open Idealize.ShloMosaic

/-- Row `t` of batch `b` among all the rows. -/
def row (b : Fin 8) (t : Fin 128) : Fin 1024 := ⟨b.val * 128 + t.val, by omega⟩

theorem flatR_apply (x : FVec Ideal S8x128x64 .f32) (b : Fin 8) (t : Fin 128) (k : Fin 64) :
    flatR x (ix2 (row b t) k) = x (ix3 b t k) := by
  pointwise [flatR, row]

theorem distR_apply (x : FVec Ideal S1024x64 .f32) (e : FVec Ideal S8192x64 .f32) (r : Fin 1024) (j : Fin 8192) :
    distR x e (ix2 r j) = sqdist (fun j k => e (ix2 j k)) (fun k => x (ix2 r k)) j := by
  pointwise [distR]
  rfl

theorem sqrt_le {x y : EReal} (h : x ≤ y) : Ideal.sqrt x ≤ Ideal.sqrt y := by
  induction x with
  | bot => exact bot_le
  | top => rw [top_le_iff.mp h]
  | coe x =>
    induction y with
    | bot => exact absurd (le_bot_iff.mp h) (EReal.coe_ne_bot x)
    | top => exact le_top
    | coe y =>
      have h' : x ≤ y := EReal.coe_le_coe_iff.mp h
      rw [Ideal.sqrt_coe, Ideal.sqrt_coe]
      split
      · exact bot_le
      · rw [if_neg (by linarith)]
        exact EReal.coe_le_coe_iff.mpr (Real.sqrt_le_sqrt h')

/-- The greatest of the negated distances is the least distance's. -/
theorem greatest_neg (D : Row) : max ⊥ (Finset.univ.fold max ⊥ fun x => -Ideal.sqrt (D x)) = -Ideal.sqrt (low D) := by
  rw [max_eq_right bot_le]
  refine le_antisymm (fold_max_le _ _ fun i _ => EReal.neg_le_neg_iff.mpr (sqrt_le (low_le D i))) ?_
  obtain ⟨j, hj⟩ := exists_least D
  rw [← (eq_low_iff D j).mpr hj]
  exact le_fold_max Finset.univ (fun x => -Ideal.sqrt (D x)) j (Finset.mem_univ _)

/-- Each row's greatest negated distance. -/
def topR (d : FVec Ideal S1024x8192 .f32) : FVec Ideal S1024 .f32 :=
  maximumf (broadcastInDim S1024 ![] bcast_S_S1024 (constant S_ .f32 0xFF800000#32))
    (Host.reduce FloatOps.maximumf (Host.negf (Host.sqrt d)) (constant S_ .f32 0xFF800000#32) reducesTo_S1024x8192_S1024_d1 h_S_)

theorem over_low (x : FVec Ideal S1024 .f32) (r : Fin 1024) :
    maximumf (broadcastInDim S1024 ![] bcast_S_S1024 (constant S_ .f32 0xFF800000#32)) x (ix1 r) = max ⊥ (x (ix1 r)) := by
  pointwise
  have e : Ideal.ofBits FTy.f32 4286578688#32 = ⊥ := lit_bot
  rw [e]

theorem row_top (d : FVec Ideal S1024x8192 .f32) (r : Fin 1024) :
    Host.reduce FloatOps.maximumf (Host.negf (Host.sqrt d)) (constant S_ .f32 0xFF800000#32) reducesTo_S1024x8192_S1024_d1 h_S_ (ix1 r)
      = Finset.univ.fold max ⊥ fun k : Fin 8192 => -Ideal.sqrt (d (ix2 r k)) := by
  pointwise
  have e : Ideal.ofBits FTy.f32 4286578688#32 = ⊥ := lit_bot
  rw [e]

theorem topR_apply (d : FVec Ideal S1024x8192 .f32) (r : Fin 1024) : topR d (ix1 r) = -Ideal.sqrt (low fun j => d (ix2 r j)) := by
  unfold topR
  rw [over_low, row_top, greatest_neg]

/-- Each entry's weight, the row's greatest made one. -/
def wtR (d : FVec Ideal S1024x8192 .f32) (m : FVec Ideal S1024 .f32) : FVec Ideal S1024x8192 .f32 :=
  Host.exp (subf (Host.negf (Host.sqrt d)) (broadcastInDim S1024x8192 ![0, 1] bcast_S1024x1_S1024x8192_0_1
    (broadcastInDim S1024x1 ![0] bcast_S1024_S1024x1_0 m)))

theorem wtR_apply (d : FVec Ideal S1024x8192 .f32) (m : FVec Ideal S1024 .f32) (r : Fin 1024) (j : Fin 8192) :
    wtR d m (ix2 r j) = Ideal.exp (-Ideal.sqrt (d (ix2 r j)) - m (ix1 r)) := by
  pointwise [wtR]

/-- Each row divided by its sum. -/
def shareR (w : FVec Ideal S1024x8192 .f32) : FVec Ideal S1024x8192 .f32 :=
  Host.divf w (broadcastInDim S1024x8192 ![0, 1] bcast_S1024x1_S1024x8192_0_1 (broadcastInDim S1024x1 ![0] bcast_S1024_S1024x1_0
    (Host.reduceAdd w (constant S_ .f32 0x00000000#32) reducesTo_S1024x8192_S1024_d1 h_S_)))

theorem shareR_apply (w : FVec Ideal S1024x8192 .f32) (r : Fin 1024) (j : Fin 8192) :
    shareR w (ix2 r j) = Ideal.div (w (ix2 r j)) (∑ i, w (ix2 r i)) := by
  pointwise [shareR]

theorem probR_eq (d : FVec Ideal S1024x8192 .f32) : probR d = shareR (wtR d (topR d)) := by
  unfold probR shareR wtR topR
  with_reducible rfl

theorem probR_apply (d : FVec Ideal S1024x8192 .f32) (r : Fin 1024) (j : Fin 8192) :
    probR d (ix2 r j) = prob (fun j => d (ix2 r j)) j := by
  rw [probR_eq, shareR_apply]
  simp only [wtR_apply, topR_apply]
  rfl

theorem adjR_apply (p : FVec Ideal S1024x8192 .f32) (r : Fin 1024) (D : Row) (h : ∀ j, p (ix2 r j) = prob D j) :
    adjR p (ix2 r (0 : Fin 1)) = adj D := by
  pointwise [adjR]
  simp only [h]
  rfl

theorem consR_apply (p : FVec Ideal S1024x8192 .f32) (D : Fin 8 → Fin 128 → Row) (h : ∀ b t j, p (ix2 (row b t) j) = prob (D b t) j) (x : S_.Idx) :
    consR p x = cons D := by
  pointwise [consR]
  unfold row at h
  simp only [h, Ideal.absf_def]
  rfl

theorem meanR_apply (p : FVec Ideal S1024x8192 .f32) (D : Fin 8 → Fin 128 → Row) (h : ∀ b t j, p (ix2 (row b t) j) = prob (D b t) j)
    (b : Fin 8) (j : Fin 8192) : meanR p (ix2 b j) = mean (D b) j := by
  pointwise [meanR]
  unfold row at h
  simp only [h]
  rfl

theorem codeR_apply (p q : FVec Ideal S8x8192 .f32) (i j : Fin 8) :
    codeR p q (ix2 i j) = code (fun i k => p (ix2 i k)) (fun i k => q (ix2 i k)) i j := by
  pointwise [codeR]
  show Ideal.exp (_ + Finset.fold max (lit 0xFF800000#32) _ _) = _
  rw [lit_bot]
  rfl

theorem diagR_apply (s : FVec Ideal S8x8 .f32) (i : Fin 8) : diagR s (ix1 i) = s (ix2 i i) := by
  fin_cases i <;> pointwise [diagR]

theorem lossR_apply (s : FVec Ideal S8x8 .f32) (d : FVec Ideal S8 .f32) (x : S_.Idx) (p q : Fin 8 → Row)
    (hs : ∀ i j, s (ix2 i j) = code p q i j) (hd : ∀ i, d (ix1 i) = code p q i i) : lossR s d x = loss p q := by
  pointwise [lossR]
  simp only [hs, hd]
  rfl

end Cert.ReferenceIdeal.Hand

end
-- ==== Proof.Value.Words.lean ====
/- The reference's stages over the words (indices, counts and modes), in the terms of the mathematics. -/
module

public import proofs.«01_k».proof.Proof.Reference.Stages
public import proofs.«01_k».proof.Proof.Value.Order
public import Idealize.ShloMosaic.Lib.Routing.Ops

@[expose] public section

set_option maxRecDepth 16384

noncomputable section

namespace Cert.ReferenceIdeal.Hand

open Cert.ReferenceIdeal Cert.ReferenceIdeal.Gen Cert.Hand Cert.Hand.Spec
open Idealize.ShloMosaic

/-- A test of two columns' words is a test of the columns. -/
theorem eq_word (x n : Fin 8192) :
    IntOp.cmpi .eq (BitVec.ofNat 32 x.val) (BitVec.ofNat 32 n.val) = if x = n then 1#1 else 0#1 := by
  have h := select_col x n (1#1) (0#1)
  rw [← h]
  rcases BitVec.eq_zero_or_eq_one (IntOp.cmpi .eq (BitVec.ofNat 32 x.val) (BitVec.ofNat 32 n.val)) with e | e <;> rw [e] <;> rfl

theorem takeR_apply (n : IVec S1024 32) (e : FVec Ideal S8192x64 .f32) (b : Fin 8) (t : Fin 128) (k : Fin 64) (i : Fin 8192)
    (h : n (ix1 (⟨b.val * 128 + t.val, by omega⟩ : Fin 1024)) = BitVec.ofNat 32 i.val) :
    takeR n e (ix3 b t k) = e (ix2 i k) := by
  pointwise [takeR]
  refine Routing.gather_row _ rfl rfl rfl rfl rfl e _ _ k i ?_ (by decide)
  pointwise
  rw [h]
  have e0 : (BitVec.ofNat 32 i.val).slt 0#32 = false := by
    rw [BitVec.slt, decide_eq_false_iff_not, ofNat_toInt (by omega)]
    simp
  show Scalar.select (BitVec.ofBool ((BitVec.ofNat 32 i.val).slt 0#32)) _ _ = _
  rw [e0]
  rfl

theorem countR_apply (n : IVec S1024 32) (N : Fin 128 → Fin 8192) (b : Fin 8) (j : Fin 8192)
    (h : ∀ t : Fin 128, n (ix1 (⟨b.val * 128 + t.val, by omega⟩ : Fin 1024)) = BitVec.ofNat 32 (N t).val) :
    countR n (ix2 b j) = BitVec.ofNat 32 (Finset.univ.filter fun t => N t = j).card := by
  pointwise [countR]
  simp only [h, eq_word, apply_ite (BitVec.setWidth 32)]
  exact fold_addi _ _

theorem equalR_apply (x y : IVec S8 32) (M N : Fin 8 → Fin 8192) (z : S_.Idx)
    (hx : ∀ b, x (ix1 b) = BitVec.ofNat 32 (M b).val) (hy : ∀ b, y (ix1 b) = BitVec.ofNat 32 (N b).val) :
    equalR x y z = BitVec.ofNat 32 (Finset.univ.filter fun b => M b = N b).card := by
  pointwise [equalR]
  simp only [hx, hy, eq_word, apply_ite (BitVec.setWidth 32)]
  exact fold_addi _ _

theorem hotR_apply (w : FVec Ideal S1024x1 .f32) (n : IVec S1024 32) (r : Fin 1024) (i j : Fin 8192)
    (h : n (ix1 r) = BitVec.ofNat 32 i.val) :
    hotR w n (ix2 r j) = w (ix2 r (0 : Fin 1)) * if i = j then 1 else 0 := by
  pointwise [hotR]
  rw [h, eq_word]
  congr 1
  split
  · show ((((1#1).toNat : ℝ)) : EReal) = 1
    simp
  · show ((((0#1).toNat : ℝ)) : EReal) = 0
    simp

end Cert.ReferenceIdeal.Hand

end
-- ==== Proof.Value.Least.lean ====
/- The reference's least of a row and greatest of a row, the earlier column first. -/
module

public import proofs.«01_k».proof.Proof.Reference.Stages
public import proofs.«01_k».proof.Proof.Value.Order

@[expose] public section

set_option maxRecDepth 16384

noncomputable section

namespace Cert.ReferenceIdeal.Hand

open Cert.ReferenceIdeal Cert.ReferenceIdeal.Gen Cert.Hand Cert.Hand.Spec
open Idealize.ShloMosaic

/-! Tests of words, as truth values. -/

theorem select_bool {α : Type} (c : Bool) (x y : α) : Scalar.select (BitVec.ofBool c) x y = if c then x else y := by cases c <;> rfl
theorem ori_bool (c d : Bool) : IntOp.ori (BitVec.ofBool c) (BitVec.ofBool d) = BitVec.ofBool (c || d) := by cases c <;> cases d <;> rfl
theorem andi_bool (c d : Bool) : IntOp.andi (BitVec.ofBool c) (BitVec.ofBool d) = BitVec.ofBool (c && d) := by cases c <;> cases d <;> rfl

/-! The least of a row, the earlier first. -/

/-- A pair of a value and a column's word is no worse than another. -/
def Below (p q : EReal × BitVec 32) : Prop := p.1 < q.1 ∨ p.1 = q.1 ∧ p.2.toInt ≤ q.2.toInt

theorem Below.refl (p : EReal × BitVec 32) : Below p p := Or.inr ⟨rfl, le_refl _⟩

theorem Below.trans (p q r : EReal × BitVec 32) : Below p q → Below q r → Below p r := by
  rintro (h | ⟨h, h'⟩) (g | ⟨g, g'⟩)
  · exact Or.inl (h.trans g)
  · exact Or.inl (g ▸ h)
  · exact Or.inl (h ▸ g)
  · exact Or.inr ⟨h.trans g, h'.trans g'⟩

theorem below_pick (p q : EReal × BitVec 32) :
    (reducer_argmin_f32_i32 (F := Ideal) p q = p ∨ reducer_argmin_f32_i32 (F := Ideal) p q = q)
      ∧ Below (reducer_argmin_f32_i32 (F := Ideal) p q) p ∧ Below (reducer_argmin_f32_i32 (F := Ideal) p q) q := by
  obtain ⟨a, i⟩ := p
  obtain ⟨b, j⟩ := q
  have e : reducer_argmin_f32_i32 (F := Ideal) (a, i) (b, j)
      = (if a < b then a else b, if a < b ∨ a = b ∧ i.slt j then i else j) := by
    unfold reducer_argmin_f32_i32
    simp only [Ideal.cmpf_def, Ideal.cmp, IntOp.cmpi, ori_bool, andi_bool, select_bool, ne_eq, not_true_eq_false, decide_false,
      Bool.or_false, Bool.or_eq_true, Bool.and_eq_true, decide_eq_true_eq]
  rw [e]
  by_cases h1 : a < b
  · rw [if_pos h1, if_pos (Or.inl h1)]
    exact ⟨Or.inl rfl, Below.refl _, Or.inl h1⟩
  · by_cases h2 : a = b
    · subst h2
      by_cases h3 : i.slt j
      · rw [if_neg h1, if_pos (Or.inr ⟨rfl, h3⟩)]
        exact ⟨Or.inl rfl, Below.refl _, Or.inr ⟨rfl, le_of_lt (by simpa [BitVec.slt] using h3)⟩⟩
      · rw [if_neg h1, if_neg (by rintro (h | ⟨-, h⟩); exacts [h1 h, h3 h])]
        exact ⟨Or.inr rfl, Or.inr ⟨rfl, by simpa [BitVec.slt] using h3⟩, Below.refl _⟩
    · rw [if_neg h1, if_neg (by rintro (h | ⟨h, -⟩); exacts [h1 h, h2 h])]
      exact ⟨Or.inr rfl, Or.inl (lt_of_le_of_ne (not_lt.mp h1) (Ne.symm h2)), Below.refl _⟩

/-- A pair that is one of a row's, or the worst of all, and no worse than any of the row's, holds the row's nearest column. -/
theorem least_pair (D : Row) (p : EReal × BitVec 32) (h1 : p = ((⊤ : EReal), 0#32) ∨ ∃ k : Fin 8192, p = (D k, BitVec.ofNat 32 k.val))
    (h3 : ∀ k : Fin 8192, Below p (D k, BitVec.ofNat 32 k.val)) : p.2 = BitVec.ofNat 32 (near D).val := by
  have key : ∃ k : Fin 8192, p = (D k, BitVec.ofNat 32 k.val) := by
    rcases h1 with h1 | h1
    · refine ⟨0, ?_⟩
      have h0 := h3 0
      rw [h1] at h0 ⊢
      rcases h0 with h0 | ⟨h0, -⟩
      · exact absurd h0 not_top_lt
      · exact Prod.ext h0 rfl
    · exact h1
  obtain ⟨k, hk⟩ := key
  rw [hk] at h3 ⊢
  have : near D = k := by
    refine first_eq (fun i => ?_) fun i hi => ?_
    · rcases h3 i with h | ⟨h, -⟩
      · exact le_of_lt h
      · exact le_of_eq h
    · rcases h3 i with h | ⟨-, h⟩
      · exact absurd (hi k) (not_le.mpr h)
      · rw [ofNat_toInt (by omega), ofNat_toInt (by omega)] at h
        exact_mod_cast h
  rw [this]

theorem top_word : (constant (F := Ideal) S_ .f32 0x7F800000#32 (Shape.Idx.first h_S_), constantI S_ 32 0#32 (Shape.Idx.first h_S_))
    = ((⊤ : EReal), 0#32) := Prod.ext lit_top rfl

theorem col_word (r : Fin 1024) (k : Fin 8192) : iotaInDim S1024x8192 32 1 (ix2 r k) = BitVec.ofNat 32 k.val := by pointwise

theorem nearR_eq (d : FVec Ideal S1024x8192 .f32) : nearR d = fun j => (Host.argReduce reducer_argmin_f32_i32 d (iotaInDim S1024x8192 32 1)
    (constant S_ .f32 0x7F800000#32) (constantI S_ 32 0#32) reducesTo_S1024x8192_S1024_d1 h_S_ j).2 := rfl

theorem nearR_apply (d : FVec Ideal S1024x8192 .f32) (r : Fin 1024) :
    nearR d (ix1 r) = BitVec.ofNat 32 (near fun j => d (ix2 r j)).val := by
  have e := congrArg Prod.snd (congrFun (Ideal.argReduce_eq_reduce2 (reducer_argmin_f32_i32 (F := Ideal)) d
    (iotaInDim S1024x8192 32 1) (constant (F := Ideal) S_ .f32 0x7F800000#32) (constantI S_ 32 0#32) reducesTo_S1024x8192_S1024_d1 h_S_) (ix1 r))
  refine (congrFun (nearR_eq d) (ix1 r)).trans (e.trans ?_)
  obtain ⟨h1, -, h3⟩ := reduce2_best Below Below.refl Below.trans (reducer_argmin_f32_i32 (F := Ideal)) below_pick d
    (iotaInDim S1024x8192 32 1) (constant (F := Ideal) S_ .f32 0x7F800000#32) (constantI S_ 32 0#32) reducesTo_S1024x8192_S1024_d1 h_S_ (ix1 r) r rfl
  clear e
  have w : ∀ p : EReal × BitVec 32,
      (p = (constant (F := Ideal) S_ .f32 0x7F800000#32 (Shape.Idx.first h_S_), constantI S_ 32 0#32 (Shape.Idx.first h_S_))
        ∨ ∃ k, p = (d (ix2 r k), iotaInDim S1024x8192 32 1 (ix2 r k))) →
      (∀ k, Below p (d (ix2 r k), iotaInDim S1024x8192 32 1 (ix2 r k))) → p.2 = BitVec.ofNat 32 (near fun j => d (ix2 r j)).val := by
    intro p h1 h3
    simp only [col_word] at h1 h3
    rw [top_word] at h1
    exact least_pair _ p h1 h3
  exact w _ h1 h3

/-! The greatest of a row of words, the earlier first. -/

/-- A pair of a count's word and a column's word is no worse than another. -/
def Above (p q : BitVec 32 × BitVec 32) : Prop := q.1.toInt < p.1.toInt ∨ p.1.toInt = q.1.toInt ∧ p.2.toInt ≤ q.2.toInt

theorem Above.refl (p : BitVec 32 × BitVec 32) : Above p p := Or.inr ⟨rfl, le_refl _⟩

theorem Above.trans (p q r : BitVec 32 × BitVec 32) : Above p q → Above q r → Above p r := by
  unfold Above
  omega

theorem above_pick (p q : BitVec 32 × BitVec 32) :
    (reducer_argmax_i32_i32 p q = p ∨ reducer_argmax_i32_i32 p q = q)
      ∧ Above (reducer_argmax_i32_i32 p q) p ∧ Above (reducer_argmax_i32_i32 p q) q := by
  obtain ⟨a, i⟩ := p
  obtain ⟨b, j⟩ := q
  have e : reducer_argmax_i32_i32 (a, i) (b, j)
      = (if b.slt a then a else b, if b.slt a ∨ a = b ∧ i.slt j then i else j) := by
    unfold reducer_argmax_i32_i32
    simp only [IntOp.cmpi, ori_bool, andi_bool, select_bool, bne_self_eq_false, Bool.or_false, Bool.or_eq_true, Bool.and_eq_true,
      beq_iff_eq]
  rw [e]
  by_cases h1 : b.slt a
  · rw [if_pos h1, if_pos (Or.inl h1)]
    exact ⟨Or.inl rfl, Above.refl _, Or.inl (by simpa [BitVec.slt] using h1)⟩
  · have h1' : a.toInt ≤ b.toInt := by simpa [BitVec.slt] using h1
    by_cases h2 : a = b
    · subst h2
      by_cases h3 : i.slt j
      · rw [if_neg h1, if_pos (Or.inr ⟨rfl, h3⟩)]
        exact ⟨Or.inl rfl, Above.refl _, Or.inr ⟨rfl, le_of_lt (by simpa [BitVec.slt] using h3)⟩⟩
      · rw [if_neg h1, if_neg (by rintro (h | ⟨-, h⟩); exacts [h1 h, h3 h])]
        exact ⟨Or.inr rfl, Or.inr ⟨rfl, by simpa [BitVec.slt] using h3⟩, Above.refl _⟩
    · rw [if_neg h1, if_neg (by rintro (h | ⟨h, -⟩); exacts [h1 h, h2 h])]
      exact ⟨Or.inr rfl, Or.inl (lt_of_le_of_ne h1' fun e => h2 (BitVec.toInt_inj.mp e)), Above.refl _⟩

theorem modeR_apply (c : IVec S8x8192 32) (b : Fin 8) (n : Fin 8192 → ℕ) (hn : ∀ j, n j < 2 ^ 31)
    (h : ∀ j, c (ix2 b j) = BitVec.ofNat 32 (n j)) :
    modeR c (ix1 b) = BitVec.ofNat 32 (first fun j => ∀ i, n i ≤ n j).val := by
  unfold modeR
  obtain ⟨h1, h2, h3⟩ := reduce2_best Above Above.refl Above.trans reducer_argmax_i32_i32 above_pick c
    (iotaInDim S8x8192 32 1) (constantI S_ 32 2147483648#32) (constantI S_ 32 0#32) reducesTo_S8x8192_S8_d1 h_S_ (ix1 b) b rfl
  have ei : ∀ k : Fin 8192, iotaInDim S8x8192 32 1 (ix2 b k) = BitVec.ofNat 32 k.val := fun k => by pointwise
  simp only [ei, h] at h1 h3
  rcases h1 with h1 | ⟨k, hk⟩
  · have h0 := h3 0
    rw [h1] at h0
    have e : (constantI S_ 32 2147483648#32 (Shape.Idx.first h_S_)).toInt = -2147483648 := by decide
    have e' := ofNat_toInt (hn 0)
    unfold Above at h0
    rw [e, e'] at h0
    omega
  · rw [hk] at h3 ⊢
    have : (first fun j => ∀ i, n i ≤ n j) = k := by
      have w : ∀ i, n i < n k ∨ n k = n i ∧ k.val ≤ i.val := fun i => by
        have := h3 i
        unfold Above at this
        rw [ofNat_toInt (hn i), ofNat_toInt (hn k), ofNat_toInt (by omega), ofNat_toInt (by omega)] at this
        omega
      refine first_eq (fun i => ?_) fun i hi => ?_
      · rcases w i with h | ⟨h, -⟩ <;> omega
      · have := hi k
        rcases w i with h | ⟨-, h⟩
        · omega
        · exact h
    rw [this]

end Cert.ReferenceIdeal.Hand

end
-- ==== Proof.Value.Reference.lean ====
/- The reference's results other than the new codebook, in the terms of the mathematics of its arguments. -/
module

public import proofs.«01_k».proof.Proof.Reference.Run
public import proofs.«01_k».proof.Proof.Value.Stage
public import proofs.«01_k».proof.Proof.Value.Words
public import proofs.«01_k».proof.Proof.Value.Least

@[expose] public section

set_option maxRecDepth 16384

noncomputable section

namespace Cert.ReferenceIdeal.Hand

open Cert.ReferenceIdeal Cert.ReferenceIdeal.Gen Cert.Hand Cert.Hand.Spec Cert.Hand.Straight
open Idealize.ShloMosaic Idealize.ShloMosaic.TcCoe Idealize.SL.Sem

variable (X : Valuation τ sig (Elt Ideal))

/-- The codebook, -/
def book (j : Fin 8192) (k : Fin 64) : EReal := (X (Proc.devRef .tc main_arg2) : FVec Ideal S8192x64 .f32) (ix2 j k)
/-- the first encoding's rows, -/
def sound (b : Fin 8) (t : Fin 128) (k : Fin 64) : EReal := (X (Proc.devRef .tc main_arg0) : FVec Ideal S8x128x64 .f32) (ix3 b t k)
/-- the second's. -/
def sight (b : Fin 8) (t : Fin 128) (k : Fin 64) : EReal := (X (Proc.devRef .tc main_arg1) : FVec Ideal S8x128x64 .f32) (ix3 b t k)

/-- The distances of an encoding's rows, 0 the first encoding and 1 the second. -/
def far (s : Fin 2) (b : Fin 8) (t : Fin 128) : Row := sqdist (book X) (if s = 0 then sound X b t else sight X b t)

variable {X} (h : Solves ops X)
include h

theorem dist_0 (b : Fin 8) (t : Fin 128) (j : Fin 8192) : (X (Proc.devRef .tc main_v15) : FVec Ideal S1024x8192 .f32) (ix2 (row b t) j) = far X 0 b t j := by
  rw [distR_v15 h, distR_apply, flatR_v0 h]
  simp only [flatR_apply]
  rfl

theorem dist_1 (b : Fin 8) (t : Fin 128) (j : Fin 8192) : (X (Proc.devRef .tc main_v29) : FVec Ideal S1024x8192 .f32) (ix2 (row b t) j) = far X 1 b t j := by
  rw [distR_v29 h, distR_apply, flatR_v1 h]
  simp only [flatR_apply]
  rfl

theorem prob_0 (b : Fin 8) (t : Fin 128) (j : Fin 8192) : (X (Proc.devRef .tc main_v42) : FVec Ideal S1024x8192 .f32) (ix2 (row b t) j) = prob (far X 0 b t) j := by
  rw [probR_v42 h, probR_apply]
  simp only [dist_0 h]

theorem prob_1 (b : Fin 8) (t : Fin 128) (j : Fin 8192) : (X (Proc.devRef .tc main_v55) : FVec Ideal S1024x8192 .f32) (ix2 (row b t) j) = prob (far X 1 b t) j := by
  rw [probR_v55 h, probR_apply]
  simp only [dist_1 h]

theorem near_0 (b : Fin 8) (t : Fin 128) : (X (Proc.devRef .tc main_v153) : IVec S1024 32) (ix1 (row b t)) = BitVec.ofNat 32 (near (far X 0 b t)).val := by
  rw [nearR_v153 h, nearR_apply]
  simp only [dist_0 h]

theorem near_1 (b : Fin 8) (t : Fin 128) : (X (Proc.devRef .tc main_v163) : IVec S1024 32) (ix1 (row b t)) = BitVec.ofNat 32 (near (far X 1 b t)).val := by
  rw [nearR_v163 h, nearR_apply]
  simp only [dist_1 h]

/-! The quantized rows. -/

theorem quantized_0 (b : Fin 8) (t : Fin 128) (k : Fin 64) :
    (X (Proc.devRef .tc main_v162) : FVec Ideal S8x128x64 .f32) (ix3 b t k) = book X (near (far X 0 b t)) k := by
  rw [takeR_v162 h]
  exact takeR_apply _ _ b t k _ (near_0 h b t)

theorem quantized_1 (b : Fin 8) (t : Fin 128) (k : Fin 64) :
    (X (Proc.devRef .tc main_v172) : FVec Ideal S8x128x64 .f32) (ix3 b t k) = book X (near (far X 1 b t)) k := by
  rw [takeR_v172 h]
  exact takeR_apply _ _ b t k _ (near_1 h b t)

/-! The three losses. -/

theorem cons_0 (z : S_.Idx) : (X (Proc.devRef .tc main_v141) : FVec Ideal S_ .f32) z = cons (far X 0) := by
  rw [consR_v141 h]
  exact consR_apply _ _ (prob_0 h) z

theorem cons_1 (z : S_.Idx) : (X (Proc.devRef .tc main_v142) : FVec Ideal S_ .f32) z = cons (far X 1) := by
  rw [consR_v142 h]
  exact consR_apply _ _ (prob_1 h) z

theorem code_all (i j : Fin 8) : (X (Proc.devRef .tc main_v107) : FVec Ideal S8x8 .f32) (ix2 i j)
    = code (fun b => mean (far X 0 b)) (fun b => mean (far X 1 b)) i j := by
  rw [codeR_v107 h, codeR_apply, meanR_v79 h, meanR_v91 h]
  simp only [meanR_apply _ _ (prob_0 h), meanR_apply _ _ (prob_1 h)]

theorem loss_all (z : S_.Idx) : (X (Proc.devRef .tc main_v140) : FVec Ideal S_ .f32) z
    = loss (fun b => mean (far X 0 b)) (fun b => mean (far X 1 b)) := by
  rw [lossR_v140 h]
  refine lossR_apply _ _ z _ _ (code_all h) fun i => ?_
  rw [diagR_v133 h, diagR_apply]
  exact code_all h i i

/-! The agreement count. -/

omit h in
theorem count_lt (D : Fin 128 → Row) (j : Fin 8192) : Spec.count D j < 2 ^ 31 :=
  lt_of_le_of_lt (Finset.card_le_univ _) (by rw [Fintype.card_fin]; norm_num)

theorem mode_0 (b : Fin 8) : (X (Proc.devRef .tc main_v176) : IVec S8 32) (ix1 b) = BitVec.ofNat 32 (mode (far X 0 b)).val := by
  rw [modeR_v176 h]
  refine modeR_apply _ b _ (count_lt (far X 0 b)) fun j => ?_
  rw [countR_v175 h]
  refine (countR_apply _ _ b j fun t => near_0 h b t).trans ?_
  unfold Spec.count
  congr

theorem mode_1 (b : Fin 8) : (X (Proc.devRef .tc main_v180) : IVec S8 32) (ix1 b) = BitVec.ofNat 32 (mode (far X 1 b)).val := by
  rw [modeR_v180 h]
  refine modeR_apply _ b _ (count_lt (far X 1 b)) fun j => ?_
  rw [countR_v179 h]
  refine (countR_apply _ _ b j fun t => near_1 h b t).trans ?_
  unfold Spec.count
  congr

theorem agree_all (z : S_.Idx) : (X (Proc.devRef .tc main_v183) : IVec S_ 32) z = BitVec.ofNat 32 (agree (far X 0) (far X 1)) := by
  rw [equalR_v183 h]
  refine (equalR_apply _ _ _ _ z (mode_0 h) (mode_1 h)).trans ?_
  unfold agree
  congr

end Cert.ReferenceIdeal.Hand

end
-- ==== Proof.Value.Equal.lean ====
/- The two programs' results compared, given one initial state's arguments. -/
module

public import proofs.«01_k».proof.Proof.Value.Kernel
public import proofs.«01_k».proof.Proof.Value.Loss
public import proofs.«01_k».proof.Proof.Value.Reference

@[expose] public section

set_option maxRecDepth 16384

noncomputable section

namespace Cert.Hand.Equal

open Cert.Hand Cert.Hand.Spec
open Idealize.ShloMosaic Idealize.ShloMosaic.TcCoe Idealize.SL.Sem

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- Both programs are given the same arguments. -/
structure Same : Prop where
  arg0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  arg1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  arg2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  arg3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  arg4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)

variable {m m' c} (h : Same m m' c)
include h

theorem book_eq (j : Fin 8192) (k : Fin 64) : Cert.ReferenceIdeal.Hand.book (Cert.ReferenceIdeal.Hand.fin m' c) j k = Cert.KernelIdeal.Hand.book m c j k :=
  congrFun ((Cert.ReferenceIdeal.Hand.fin_arg m' c _ (by decide)).trans h.arg2) (ix2 j k)

theorem sound_eq (b : Fin 8) (t : Fin 128) (k : Fin 64) : Cert.ReferenceIdeal.Hand.sound (Cert.ReferenceIdeal.Hand.fin m' c) b t k = Cert.KernelIdeal.Hand.sound m c b t k :=
  congrFun ((Cert.ReferenceIdeal.Hand.fin_arg m' c _ (by decide)).trans h.arg0) (ix3 b t k)

theorem sight_eq (b : Fin 8) (t : Fin 128) (k : Fin 64) : Cert.ReferenceIdeal.Hand.sight (Cert.ReferenceIdeal.Hand.fin m' c) b t k = Cert.KernelIdeal.Hand.sight m c b t k :=
  congrFun ((Cert.ReferenceIdeal.Hand.fin_arg m' c _ (by decide)).trans h.arg1) (ix3 b t k)

theorem far_eq (s : Fin 2) : Cert.ReferenceIdeal.Hand.far (Cert.ReferenceIdeal.Hand.fin m' c) s = Cert.KernelIdeal.Hand.far m c s := by
  funext b t
  unfold Cert.ReferenceIdeal.Hand.far Cert.KernelIdeal.Hand.far
  rw [show Cert.ReferenceIdeal.Hand.book (Cert.ReferenceIdeal.Hand.fin m' c) = Cert.KernelIdeal.Hand.book m c from funext₂ (book_eq h),
    show Cert.ReferenceIdeal.Hand.sound (Cert.ReferenceIdeal.Hand.fin m' c) b t = Cert.KernelIdeal.Hand.sound m c b t from funext (sound_eq h b t),
    show Cert.ReferenceIdeal.Hand.sight (Cert.ReferenceIdeal.Hand.fin m' c) b t = Cert.KernelIdeal.Hand.sight m c b t from funext (sight_eq h b t)]

/-! The results, in order; the third is treated apart. -/

theorem result_1 : (Cert.ReferenceIdeal.Hand.fin m' c (Proc.devRef .tc Cert.ReferenceIdeal.main_v162) : Vec Ideal ⟨3, ![8, 128, 64]⟩ .f32) = Cert.KernelIdeal.Hand.last m c (Proc.devRef .tc Cert.KernelIdeal.main_v6) := by
  funext x
  obtain ⟨b, t, k, rfl⟩ : ∃ b t k, x = ix3 b t k := ⟨x 0, x 1, x 2, (ix3_eta x).symm⟩
  refine (Cert.ReferenceIdeal.Hand.quantized_0 (Cert.ReferenceIdeal.Hand.solves m' c) b t k).trans ?_
  rw [far_eq h, book_eq h, ← Cert.KernelIdeal.Hand.quantized]
  exact (Cert.KernelIdeal.Hand.last_v6 m c b t k).symm

theorem result_2 : (Cert.ReferenceIdeal.Hand.fin m' c (Proc.devRef .tc Cert.ReferenceIdeal.main_v172) : Vec Ideal ⟨3, ![8, 128, 64]⟩ .f32) = Cert.KernelIdeal.Hand.last m c (Proc.devRef .tc Cert.KernelIdeal.main_v8) := by
  funext x
  obtain ⟨b, t, k, rfl⟩ : ∃ b t k, x = ix3 b t k := ⟨x 0, x 1, x 2, (ix3_eta x).symm⟩
  refine (Cert.ReferenceIdeal.Hand.quantized_1 (Cert.ReferenceIdeal.Hand.solves m' c) b t k).trans ?_
  rw [far_eq h, book_eq h, ← Cert.KernelIdeal.Hand.quantized]
  exact (Cert.KernelIdeal.Hand.last_v8 m c b t k).symm

theorem result_4 : (Cert.ReferenceIdeal.Hand.fin m' c (Proc.devRef .tc Cert.ReferenceIdeal.main_v140) : Vec Ideal ⟨0, ![]⟩ .f32) = Cert.KernelIdeal.Hand.last m c (Proc.devRef .tc Cert.KernelIdeal.main_v10) := by
  funext x
  refine (Cert.ReferenceIdeal.Hand.loss_all (Cert.ReferenceIdeal.Hand.solves m' c) x).trans ?_
  rw [far_eq h, far_eq h]
  exact ((Cert.KernelIdeal.Hand.last_v10 m c x).trans (Cert.KernelIdeal.Hand.lcmOut_apply m c _)).symm

theorem result_5 : (Cert.ReferenceIdeal.Hand.fin m' c (Proc.devRef .tc Cert.ReferenceIdeal.main_v141) : Vec Ideal ⟨0, ![]⟩ .f32) = Cert.KernelIdeal.Hand.last m c (Proc.devRef .tc Cert.KernelIdeal.main_v11) := by
  funext x
  refine (Cert.ReferenceIdeal.Hand.cons_0 (Cert.ReferenceIdeal.Hand.solves m' c) x).trans ?_
  rw [far_eq h]
  refine ((Cert.KernelIdeal.Hand.last_v11 m c x).trans ((Cert.KernelIdeal.Hand.acOut_apply _ _).trans ?_)).symm
  rw [Cert.KernelIdeal.Hand.cons_all]
  rfl

theorem result_6 : (Cert.ReferenceIdeal.Hand.fin m' c (Proc.devRef .tc Cert.ReferenceIdeal.main_v142) : Vec Ideal ⟨0, ![]⟩ .f32) = Cert.KernelIdeal.Hand.last m c (Proc.devRef .tc Cert.KernelIdeal.main_v12) := by
  funext x
  refine (Cert.ReferenceIdeal.Hand.cons_1 (Cert.ReferenceIdeal.Hand.solves m' c) x).trans ?_
  rw [far_eq h]
  refine ((Cert.KernelIdeal.Hand.last_v12 m c x).trans ((Cert.KernelIdeal.Hand.vcOut_apply _ _).trans ?_)).symm
  rw [Cert.KernelIdeal.Hand.cons_all]
  rfl

theorem result_7 : (Cert.ReferenceIdeal.Hand.fin m' c (Proc.devRef .tc Cert.ReferenceIdeal.main_v183) : Vec Ideal ⟨0, ![]⟩ .i32) = Cert.KernelIdeal.Hand.last m c (Proc.devRef .tc Cert.KernelIdeal.main_v13) := by
  funext x
  refine (Cert.ReferenceIdeal.Hand.agree_all (Cert.ReferenceIdeal.Hand.solves m' c) x).trans ?_
  rw [far_eq h, far_eq h]
  exact ((Cert.KernelIdeal.Hand.last_v13 m c x).trans (Cert.KernelIdeal.Hand.eqOut_apply m c _)).symm

end Cert.Hand.Equal

end
-- ==== Proof.Value.Fresh.lean ====
/- The new codebook's mathematics, and that finite arguments give finite weights. -/
module

public import proofs.«01_k».proof.Proof.Value.Order

@[expose] public section

noncomputable section

namespace Cert.Hand.Spec

open Idealize.ShloMosaic
open scoped Classical

/-- The moving average of the counts. -/
def blend (c w : Row) : Row := fun j => lit 0x3F7D70A4#32 * c j + lit 0x3C23D70A#32 * w j

/-- The smoothed counts. -/
def smooth (c : Row) : Row := fun j => Ideal.div (c j + lit 0x3727C5AC#32) (∑ i, c i + lit 0x3DA7C5AC#32) * ∑ i, c i

/-- The weight an encoding's rows give each codebook row. -/
def weight (D : Fin 8 → Fin 128 → Row) : Row := fun j => ∑ b, ∑ t, if j = near (D b t) then adj (D b t) else 0

/-- The weighted sum of the rows `x` over the rows nearest to codebook row `j`. -/
def pull (D : Fin 8 → Fin 128 → Row) (x : Fin 8 → Fin 128 → EReal) (j : Fin 8192) : EReal :=
  ∑ b, ∑ t, if j = near (D b t) then adj (D b t) * x b t else 0

/-- The counts after both encodings, the second encoding's first. -/
def counts (c : Row) (D D' : Fin 8 → Fin 128 → Row) : Row := smooth (blend (smooth (blend c (weight D'))) (weight D))

/-- The moving average of a weighted sum. -/
def draw (w x : EReal) : EReal := lit 0x3F7D70A4#32 * w + lit 0x3BA3D70A#32 * x

/-! Real numbers among the extended ones. -/

/-- Neither infinity. -/
def IsReal (x : EReal) : Prop := ∃ r : ℝ, x = r

theorem IsReal.of_ne {x : EReal} (h : x ≠ ⊥) (h' : x ≠ ⊤) : IsReal x := ⟨x.toReal, (EReal.coe_toReal h' h).symm⟩

theorem IsReal.add {x y : EReal} : IsReal x → IsReal y → IsReal (x + y) := by
  rintro ⟨a, rfl⟩ ⟨b, rfl⟩; exact ⟨a + b, (EReal.coe_add a b).symm⟩

theorem IsReal.mul {x y : EReal} : IsReal x → IsReal y → IsReal (x * y) := by
  rintro ⟨a, rfl⟩ ⟨b, rfl⟩; exact ⟨a * b, (EReal.coe_mul a b).symm⟩

theorem IsReal.neg {x : EReal} : IsReal x → IsReal (-x) := by
  rintro ⟨a, rfl⟩; exact ⟨-a, (EReal.coe_neg a).symm⟩

theorem IsReal.sub {x y : EReal} (h : IsReal x) (h' : IsReal y) : IsReal (x - y) := by
  rw [sub_eq_add_neg]; exact h.add h'.neg

theorem IsReal.sum {ι : Type} (s : Finset ι) (f : ι → EReal) (h : ∀ i, IsReal (f i)) : IsReal (∑ i ∈ s, f i) :=
  Finset.sum_induction f IsReal (fun _ _ => IsReal.add) ⟨0, rfl⟩ fun i _ => h i

theorem IsReal.ite {p : Prop} [Decidable p] {x y : EReal} (h : IsReal x) (h' : IsReal y) : IsReal (if p then x else y) := by
  split <;> assumption

theorem coe_sum {ι : Type} (s : Finset ι) (f : ι → ℝ) : ∑ i ∈ s, (f i : EReal) = ((∑ i ∈ s, f i : ℝ) : EReal) := by
  induction s using Finset.induction with
  | empty => simp
  | insert a s ha ih => rw [Finset.sum_insert ha, Finset.sum_insert ha, ih, EReal.coe_add]

theorem div_pos_coe (x : EReal) {y : ℝ} (h : 0 < y) : Ideal.div x y = x * ((1 / y : ℝ) : EReal) := Ideal.div_coe h.ne' x

theorem lit_2 : lit 0x40000000#32 = ((2 : ℝ) : EReal) := by
  simp [lit, Ideal.ofBits, Ideal.ieee, -EReal.coe_mul]; norm_num

theorem lit_small : ∃ r : ℝ, 0 < r ∧ lit 0x3727C5AC#32 = (r : EReal) :=
  ⟨10995116 * (2 ^ 40)⁻¹, by norm_num, by simp [lit, Ideal.ofBits, Ideal.ieee, -EReal.coe_mul]⟩

theorem lit_entropy : ∃ r : ℝ, 0 < r ∧ lit 0x41102CB3#32 = (r : EReal) :=
  ⟨9448627 * (2 ^ 20)⁻¹, by norm_num, by simp [lit, Ideal.ofBits, Ideal.ieee, -EReal.coe_mul]⟩

theorem lit_half_rate : IsReal (lit 0x3BA3D70A#32) :=
  ⟨_, by simp [lit, Ideal.ofBits, Ideal.ieee, -EReal.coe_mul]; rfl⟩

/-- The distances of a real row to a real codebook: sums of squares. -/
theorem sqdist_real {e : Fin 8192 → Fin 64 → EReal} {x : Fin 64 → EReal} (he : ∀ j k, IsReal (e j k)) (hx : ∀ k, IsReal (x k)) :
    ∃ d : Fin 8192 → ℝ, (∀ j, 0 ≤ d j) ∧ ∀ j, sqdist e x j = d j := by
  choose f hf using he
  choose y hy using hx
  refine ⟨fun j => ∑ k, (y k - f j k) ^ 2, fun j => Finset.sum_nonneg fun k _ => sq_nonneg _, fun j => ?_⟩
  unfold sqdist
  simp only [hf, hy, lit_2, ← EReal.coe_mul, coe_sum, ← EReal.coe_add, ← EReal.coe_sub]
  refine congrArg _ ?_
  rw [← Finset.sum_add_distrib, Finset.mul_sum, ← Finset.sum_sub_distrib]
  exact Finset.sum_congr rfl fun k _ => by ring

/-- A row of real distances has a real weight. -/
theorem adj_real {D : Row} {d : Fin 8192 → ℝ} (h0 : ∀ j, 0 ≤ d j) (hd : ∀ j, D j = d j) : IsReal (adj D) := by
  have hs (r : ℝ) (h : 0 ≤ r) : Ideal.sqrt (r : EReal) = (Real.sqrt r : EReal) := by
    show (if r < 0 then ⊥ else (Real.sqrt r : EReal)) = _
    rw [if_neg (not_lt.mpr h)]
  have hlow : low D = d (near D) := by
    rw [← hd]; exact ((eq_low_iff D (near D)).mpr (near_le D)).symm
  have hw (j : Fin 8192) : wt D j = ((Real.exp (-(Real.sqrt (d j)) - -(Real.sqrt (d (near D)))) : ℝ) : EReal) := by
    unfold wt
    rw [hlow, hd, hs _ (h0 _), hs _ (h0 _), ← EReal.coe_neg, ← EReal.coe_neg, ← EReal.coe_sub]
    rfl
  obtain ⟨a, ha, hwa⟩ : ∃ a : Fin 8192 → ℝ, (∀ j, 0 < a j) ∧ ∀ j, wt D j = a j := ⟨_, fun j => Real.exp_pos _, hw⟩
  have hpos : 0 < ∑ i, a i := Finset.sum_pos (fun j _ => ha j) ⟨0, Finset.mem_univ _⟩
  have hp (j : Fin 8192) : prob D j = ((a j * (1 / ∑ i, a i) : ℝ) : EReal) := by
    unfold prob
    simp only [hwa, coe_sum]
    rw [div_pos_coe _ hpos, ← EReal.coe_mul]
  obtain ⟨s, hs0, hs⟩ := lit_small
  obtain ⟨u, hu0, hu⟩ := lit_entropy
  unfold adj
  rw [hu, div_pos_coe _ hu0]
  refine IsReal.sub ⟨1, rfl⟩ (IsReal.mul (IsReal.neg (IsReal.sum _ _ fun j => IsReal.mul ⟨_, hp j⟩ ?_)) ⟨_, rfl⟩)
  have hq : 0 < a j * (1 / ∑ i, a i) + s := add_pos (mul_pos (ha j) (one_div_pos.mpr hpos)) hs0
  rw [hp, hs, ← EReal.coe_add]
  refine ⟨Real.log (a j * (1 / ∑ i, a i) + s), ?_⟩
  show (if _ ≤ 0 then ⊥ else _) = _
  rw [if_neg (not_le.mpr hq)]

/-- For real weights and rows the weighted sum of the rows' sums is the sum of the weighted sums. -/
theorem draw_pull {D : Fin 8 → Fin 128 → Row} {x y : Fin 8 → Fin 128 → EReal} (hD : ∀ b t, IsReal (adj (D b t)))
    (hx : ∀ b t, IsReal (x b t)) (hy : ∀ b t, IsReal (y b t)) (j : Fin 8192) (w : EReal) :
    draw w (pull D (fun b t => x b t + y b t) j) = draw w (pull D x j) + lit 0x3BA3D70A#32 * pull D y j := by
  have real (z : Fin 8 → Fin 128 → EReal) (hz : ∀ b t, IsReal (z b t)) : IsReal (pull D z j) :=
    IsReal.sum _ _ fun b => IsReal.sum _ _ fun t => IsReal.ite ((hD b t).mul (hz b t)) ⟨0, rfl⟩
  have dist {a p q : EReal} : IsReal a → IsReal p → IsReal q → a * (p + q) = a * p + a * q := by
    rintro ⟨a, rfl⟩ ⟨p, rfl⟩ ⟨q, rfl⟩
    simp only [← EReal.coe_mul, ← EReal.coe_add, mul_add]
  have e : pull D (fun b t => x b t + y b t) j = pull D x j + pull D y j := by
    unfold pull
    simp only [← Finset.sum_add_distrib]
    refine Finset.sum_congr rfl fun b _ => Finset.sum_congr rfl fun t _ => ?_
    split
    · exact dist (hD b t) (hx b t) (hy b t)
    · simp
  unfold draw
  rw [e, dist lit_half_rate (real x hx) (real y hy), add_assoc]

end Cert.Hand.Spec

end
-- ==== Proof.Value.KernelFresh.lean ====
/- The kernel's new codebook, in the terms of the mathematics of its arguments. -/
module

public import proofs.«01_k».proof.Proof.Value.Kernel
public import proofs.«01_k».proof.Proof.Value.Fresh

@[expose] public section

set_option maxRecDepth 16384

noncomputable section

namespace Cert.KernelIdeal.Hand

open Cert.KernelIdeal Cert.KernelIdeal.Gen Cert.Hand Cert.Hand.Spec
open Idealize.ShloMosaic Idealize.ShloMosaic.TcCoe Idealize.SL.Sem
open Idealize.ShloMosaic.Pipeline (Dat)

variable (m : (ℓ : Loc nD τ sig) → Buf (Elt Ideal) ℓ) (c : Dev nD)

/-- The encodings' sum at a batch's row. -/
def both (b : Fin 8) (t : Fin 128) (k : Fin 64) : EReal := sound m c b t k + sight m c b t k

/-! The weights and the weighted sums of the rows, after every point. -/

/-- What a point adds to its encoding's weights, -/
def ptW (j : Fin 8192) (n : ℕ) : EReal := ∑ t, if j = near (ptD m c n t) then adj (ptD m c n t) else 0

/-- and to its weighted sums. -/
def ptS (k : Fin 64) (j : Fin 8192) (n : ℕ) : EReal := ∑ t, if j = near (ptD m c n t)
  then adj (ptD m c n t) * ((blkA m c (pt n) : Vec Ideal S1x128x64 .f32) (ix3 (0 : Fin 1) t k) + (blkV m c (pt n) : Vec Ideal S1x128x64 .f32) (ix3 (0 : Fin 1) t k)) else 0

theorem pay36_apply (i : grid0.Coords) (a v : Vec Ideal S1x128x64 .f32) (eT : Vec Ideal S64x8192 .f32) (x : Vec Ideal S1x8192 .f32) (j : Fin 8192) :
    k0_pay36 colV (k0_pay20 a v) (idxV i a v eT) (adjV i a v eT) x (ix2 (0 : Fin 1) j) = x (ix2 (0 : Fin 1) j) + statsV i a v eT (ix2 (64 : Fin 66) j) := by
  pointwise [k0_pay36]
  rfl

theorem pay35_apply (i : grid0.Coords) (a v : Vec Ideal S1x128x64 .f32) (eT : Vec Ideal S64x8192 .f32) (x : Vec Ideal S64x8192 .f32) (k : Fin 64) (j : Fin 8192) :
    k0_pay35 colV (k0_pay20 a v) (idxV i a v eT) (adjV i a v eT) x (ix2 k j) = x (ix2 k j) + statsV i a v eT (ix2 (⟨k.val, by omega⟩ : Fin 66) j) := by
  pointwise [k0_pay35]
  rfl

theorem cnt_step (n : ℕ) (hn : n < 16) (s : Fin 2) (j : Fin 8192) : cntAt m c (n + 1) (ix2 s j)
    = if n / 8 = s.val then cntAt m c n (ix2 s j) + ptW m c j n else cntAt m c n (ix2 s j) := by
  show cntPut _ _ _ _ _ _ = _
  unfold cntPut VecWindow.put
  have hv := pt_of_lt hn
  have e : k0_off4 (grid0.coords (pt n)) = ![n / 8, 0] := by
    rw [k0_off4_eq, (coords_eq _).1, hv]
    have : n / 8 % 2 = n / 8 := by omega
    rw [this]
  by_cases h : n / 8 = s.val
  · rw [if_pos h, dif_pos]
    · refine (congrArg (k0_pay36 colV (k0_pay20 _ _) (idxV _ _ _ _) (adjV _ _ _ _) _) (?_ : _ = ix2 (0 : Fin 1) j)).trans ?_
      · refine funext fun a => Fin.ext ?_
        fin_cases a
        · show s.val - k0_off4 (grid0.coords (pt n)) 0 = 0; rw [e]; simpa using (by omega : s.val - n / 8 = 0)
        · show j.val - k0_off4 (grid0.coords (pt n)) 1 = j.val; rw [e]; rfl
      rw [pay36_apply, stats_weight]
      refine congrArg₂ (· + ·) ?_ rfl
      unfold View.ld
      refine congrArg _ (funext fun a => Fin.ext ?_)
      fin_cases a
      · show k0_off4 (grid0.coords (pt n)) 0 + 1 * 0 = s.val; rw [e]; simpa using h
      · show k0_off4 (grid0.coords (pt n)) 1 + 1 * j.val = j.val; rw [e]; simp
    · rw [e]
      intro a
      fin_cases a
      · exact ⟨le_of_eq h, by show s.val < n / 8 + 1; omega⟩
      · exact ⟨Nat.zero_le _, by show j.val < 0 + 8192; omega⟩
  · rw [if_neg h, dif_neg]
    rw [e]
    intro hin
    have := hin 0
    have h1 : n / 8 ≤ s.val := this.1
    have h2 : s.val < n / 8 + 1 := this.2
    omega

/-- Row `64 s + k` of the weighted sums. -/
def dwRow (s : Fin 2) (k : Fin 64) : Fin 128 := ⟨64 * s.val + k.val, by omega⟩

theorem dw_step (n : ℕ) (hn : n < 16) (s : Fin 2) (k : Fin 64) (j : Fin 8192) : dwAt m c (n + 1) (ix2 (dwRow s k) j)
    = if n / 8 = s.val then dwAt m c n (ix2 (dwRow s k) j) + ptS m c k j n else dwAt m c n (ix2 (dwRow s k) j) := by
  show dwPut _ _ _ _ _ _ = _
  unfold dwPut VecWindow.put
  have hv := pt_of_lt hn
  have e : k0_off3 (grid0.coords (pt n)) = ![64 * (n / 8), 0] := by
    rw [k0_off3_eq, (coords_eq _).1, hv]
    have : n / 8 % 2 = n / 8 := by omega
    rw [this]
  by_cases h : n / 8 = s.val
  · rw [if_pos h, dif_pos]
    · refine (congrArg (k0_pay35 colV (k0_pay20 _ _) (idxV _ _ _ _) (adjV _ _ _ _) _) (?_ : _ = ix2 k j)).trans ?_
      · refine funext fun a => Fin.ext ?_
        fin_cases a
        · show 64 * s.val + k.val - k0_off3 (grid0.coords (pt n)) 0 = k.val; rw [e]; simpa using (by omega : 64 * s.val + k.val - 64 * (n / 8) = k.val)
        · show j.val - k0_off3 (grid0.coords (pt n)) 1 = j.val; rw [e]; rfl
      rw [pay35_apply, stats_weighted]
      refine congrArg₂ (· + ·) ?_ rfl
      unfold View.ld
      refine congrArg _ (funext fun a => Fin.ext ?_)
      fin_cases a
      · show k0_off3 (grid0.coords (pt n)) 0 + 1 * k.val = 64 * s.val + k.val; rw [e]; simpa using h
      · show k0_off3 (grid0.coords (pt n)) 1 + 1 * j.val = j.val; rw [e]; simp
    · rw [e]
      intro a
      fin_cases a
      · exact ⟨by show 64 * (n / 8) ≤ 64 * s.val + k.val; omega, by show 64 * s.val + k.val < 64 * (n / 8) + 64; omega⟩
      · exact ⟨Nat.zero_le _, by show j.val < 0 + 8192; omega⟩
  · rw [if_neg h, dif_neg]
    rw [e]
    intro hin
    have := hin 0
    have h1 : 64 * (n / 8) ≤ 64 * s.val + k.val := this.1
    have h2 : 64 * s.val + k.val < 64 * (n / 8) + 64 := this.2
    omega

theorem cnt_all (s : Fin 2) (j : Fin 8192) : cntAt m c 16 (ix2 s j) = weight (far m c s) j := by
  rw [sum_steps (a := fun n => cntAt m c n (ix2 s j)) (f := ptW m c j) (s := s) ?_ fun n hn => cnt_step m c n hn s j]
  · unfold ptW weight
    simp only [ptD_eq]
  · show Ideal.ofBits .f32 0x00000000#32 = 0
    simp [Ideal.ofBits, Ideal.ieee]

theorem blocks_at (s : Fin 2) (b : Fin 8) (t : Fin 128) (k : Fin 64) :
    (blkA m c (pt (8 * s.val + b.val)) : Vec Ideal S1x128x64 .f32) (ix3 (0 : Fin 1) t k)
      + (blkV m c (pt (8 * s.val + b.val)) : Vec Ideal S1x128x64 .f32) (ix3 (0 : Fin 1) t k) = both m c b t k := by
  have hv := pt_of_lt (n := 8 * s.val + b.val) (by omega)
  have hb : (⟨(pt (8 * s.val + b.val)).val % 8, Nat.mod_lt _ (by decide)⟩ : Fin 8) = b := Fin.ext (by rw [hv]; show (8 * s.val + b.val) % 8 = b.val; omega)
  rw [blkA_apply, blkV_apply, hb]
  rfl

theorem dw_all (s : Fin 2) (k : Fin 64) (j : Fin 8192) :
    dwAt m c 16 (ix2 (dwRow s k) j) = pull (far m c s) (fun b t => both m c b t k) j := by
  rw [sum_steps (a := fun n => dwAt m c n (ix2 (dwRow s k) j)) (f := ptS m c k j) (s := s) ?_ fun n hn => dw_step m c n hn s k j]
  · unfold ptS pull
    simp only [ptD_eq]
    refine Finset.sum_congr rfl fun b _ => Finset.sum_congr rfl fun t _ => ?_
    rw [blocks_at]
  · show Ideal.ofBits .f32 0x00000000#32 = 0
    simp [Ideal.ofBits, Ideal.ieee]

/-! The last point's arithmetic. -/

/-- The sum of a row's entries, as the kernel takes it. -/
def totalV (x : FVec Ideal S1x8192 .f32) : EReal :=
  extractAt ![0, 0, 0] (shapeCast S1x1x1 (multiReduction .add [1, 2] S1 (shapeCast S1x1x8192 x shapeCasts_S1x8192_S1x1x8192) 0x00000000#32
    reduces_S1x1x8192_S1 (.inl rfl) rfl) shapeCasts_S1_S1x1x1) inpos_S1x1x1_p0_0_0

theorem totalV_eq (x : FVec Ideal S1x8192 .f32) : totalV x = ∑ j, x (ix2 (0 : Fin 1) j) := by
  pointwise [totalV]
  simp

/-- The moving average and the smoothing of a row, as the kernel takes them. -/
def blendV (c w : FVec Ideal S1x8192 .f32) : FVec Ideal S1x8192 .f32 :=
  addf (mulf (broadcast S1x8192 (Scalar.ofBits (F := Ideal) .f32 0x3F7D70A4#32)) c) (mulf (broadcast S1x8192 (Scalar.ofBits (F := Ideal) .f32 0x3C23D70A#32)) w)

def smoothV (c : FVec Ideal S1x8192 .f32) : FVec Ideal S1x8192 .f32 :=
  mulf (divf (addf c (broadcast S1x8192 (Scalar.ofBits (F := Ideal) .f32 0x3727C5AC#32)))
    (broadcast S1x8192 (Scalar.addf (F := Ideal) (φ := .f32) (totalV c) (Scalar.ofBits .f32 0x3DA7C5AC#32)))) (broadcast S1x8192 (totalV c : Ideal .f32))

theorem blendV_apply (c w : FVec Ideal S1x8192 .f32) (j : Fin 8192) : blendV c w (ix2 (0 : Fin 1) j)
    = blend (fun j => c (ix2 (0 : Fin 1) j)) (fun j => w (ix2 (0 : Fin 1) j)) j := by
  pointwise [blendV]
  rfl

theorem smoothV_apply (c : FVec Ideal S1x8192 .f32) (j : Fin 8192) : smoothV c (ix2 (0 : Fin 1) j)
    = smooth (fun j => c (ix2 (0 : Fin 1) j)) j := by
  unfold smooth
  rw [← totalV_eq]
  unfold smoothV
  generalize totalV c = x
  pointwise

theorem pay5_eq (ec c0 c1 : Vec Ideal S1x8192 .f32) :
    k0_pay5 ec c0 c1 = blendV (smoothV (blendV (shapeCast S1x8192 ec shapeCasts_S1x8192_S1x8192) c1)) c0 := by
  unfold k0_pay5 smoothV totalV blendV
  with_reducible rfl

theorem pay5_apply (ec c0 c1 : Vec Ideal S1x8192 .f32) (j : Fin 8192) : k0_pay5 ec c0 c1 (ix2 (0 : Fin 1) j)
    = blend (smooth (blend (fun j => ec (ix2 (0 : Fin 1) j)) fun j => c1 (ix2 (0 : Fin 1) j))) (fun j => c0 (ix2 (0 : Fin 1) j)) j := by
  have e : (shapeCast S1x8192 ec shapeCasts_S1x8192_S1x8192 : FVec Ideal S1x8192 .f32) = ec := by
    funext x
    pointwise
  rw [pay5_eq, e, blendV_apply]
  simp only [smoothV_apply, blendV_apply]

theorem pay6_eq (ec c0 c1 : Vec Ideal S1x8192 .f32) : k0_pay6 ec c0 c1 = totalV (k0_pay5 ec c0 c1) := by
  unfold k0_pay6 totalV
  with_reducible rfl

theorem pay8_apply (ec c0 c1 : Vec Ideal S1x8192 .f32) (w d0 d1 : Vec Ideal S64x8192 .f32) (k : Fin 64) (j : Fin 8192) :
    k0_pay8 (k0_pay4 w d1) (k0_pay6 ec c0 c1) (k0_pay7 ec c0 c1) d0 (ix2 k j)
      = Ideal.div (draw (draw (w (ix2 k j)) (d1 (ix2 k j))) (d0 (ix2 k j)))
        (smooth (blend (smooth (blend (fun j => ec (ix2 (0 : Fin 1) j)) fun j => c1 (ix2 (0 : Fin 1) j))) (fun j => c0 (ix2 (0 : Fin 1) j))) j) := by
  have e : (fun j => k0_pay5 ec c0 c1 (ix2 (0 : Fin 1) j)) = _ := funext fun j => pay5_apply ec c0 c1 j
  rw [pay6_eq, ← e]
  unfold smooth k0_pay7
  rw [← totalV_eq]
  generalize k0_pay5 ec c0 c1 = p
  generalize totalV p = x
  pointwise [k0_pay8, k0_pay4]
  rfl

/-- The kernel's new codebook. -/
theorem fresh (j : Fin 8192) (k : Fin 64) : (last m c (Proc.devRef .tc main_v9) : Vec Ideal S8192x64 .f32) (ix2 j k)
    = Ideal.div (draw (draw ((m ((c : Thread nD τ).loc main_arg4) : Vec Ideal S8192x64 .f32) (ix2 j k)) (pull (far m c 1) (fun b t => both m c b t k) j))
        (pull (far m c 0) (fun b t => both m c b t k) j))
      (counts (fun j => (m ((c : Thread nD τ).loc main_arg3) : Vec Ideal S8192 .f32) (ix1 j)) (far m c 0) (far m c 1) j) := by
  rw [last_v9]
  unfold entOut
  rw [pay8_apply]
  have c0 (j : Fin 8192) : View.ld (cntAt m c 16) (Rect.unit (s := S2x8192) ![0, 0] S1x8192.size inb_S2x8192_S1x8192_0_0) (ix2 (0 : Fin 1) j) = weight (far m c 0) j := by
    rw [← cnt_all]
    unfold View.ld
    refine congrArg _ (funext fun a => Fin.ext ?_)
    fin_cases a
    · rfl
    · show 0 + 1 * j.val = j.val; omega
  have c1 (j : Fin 8192) : View.ld (cntAt m c 16) (Rect.unit (s := S2x8192) ![1, 0] S1x8192.size inb_S2x8192_S1x8192_1_0) (ix2 (0 : Fin 1) j) = weight (far m c 1) j := by
    rw [← cnt_all]
    unfold View.ld
    refine congrArg _ (funext fun a => Fin.ext ?_)
    fin_cases a
    · rfl
    · show 0 + 1 * j.val = j.val; omega
  have d0 : View.ld (dwAt m c 16) (Rect.unit (s := S128x8192) ![0, 0] S64x8192.size inb_S128x8192_S64x8192_0_0) (ix2 k j) = pull (far m c 0) (fun b t => both m c b t k) j := by
    rw [← dw_all]
    unfold View.ld
    refine congrArg _ (funext fun a => Fin.ext ?_)
    fin_cases a
    · show 0 + 1 * k.val = 64 * 0 + k.val; omega
    · show 0 + 1 * j.val = j.val; omega
  have d1 : View.ld (dwAt m c 16) (Rect.unit (s := S128x8192) ![64, 0] S64x8192.size inb_S128x8192_S64x8192_64_0) (ix2 k j) = pull (far m c 1) (fun b t => both m c b t k) j := by
    rw [← dw_all]
    unfold View.ld
    refine congrArg _ (funext fun a => Fin.ext ?_)
    fin_cases a
    · show 64 + 1 * k.val = 64 * 1 + k.val; omega
    · show 0 + 1 * j.val = j.val; omega
  rw [d0, d1, blkW_eq]
  simp only [c0, c1, blkC_eq]
  rfl

end Cert.KernelIdeal.Hand

end
-- ==== Proof.Value.ReferenceFresh.lean ====
/- The reference's new codebook, in the terms of the mathematics of its arguments. -/
module

public import proofs.«01_k».proof.Proof.Value.Reference
public import proofs.«01_k».proof.Proof.Value.Fresh

@[expose] public section

set_option maxRecDepth 16384

noncomputable section

namespace Cert.ReferenceIdeal.Hand

open Cert.ReferenceIdeal Cert.ReferenceIdeal.Gen Cert.Hand Cert.Hand.Spec Cert.Hand.Straight
open Idealize.ShloMosaic Idealize.ShloMosaic.TcCoe Idealize.SL.Sem

/-! A row of the 1024 is a batch and a row of it. -/

theorem sum_rows (f : Fin 1024 → EReal) : ∑ r, f r = ∑ b : Fin 8, ∑ t : Fin 128, f (row b t) := by
  rw [← Finset.sum_product', Finset.univ_product_univ]
  symm
  refine Fintype.sum_bijective (fun x : Fin 8 × Fin 128 => row x.1 x.2) ⟨?_, ?_⟩ _ _ fun _ => rfl
  · rintro ⟨b, t⟩ ⟨b', t'⟩ e
    have e : b.val * 128 + t.val = b'.val * 128 + t'.val := congrArg Fin.val e
    exact Prod.ext (Fin.ext (by show b.val = b'.val; omega)) (Fin.ext (by show t.val = t'.val; omega))
  · intro r
    exact ⟨(⟨r.val / 128, by omega⟩, ⟨r.val % 128, by omega⟩), Fin.ext (by show r.val / 128 * 128 + r.val % 128 = r.val; omega)⟩

/-! The four steps at an index. -/

theorem blendR_apply (c : FVec Ideal S8192 .f32) (h : FVec Ideal S1024x8192 .f32) (j : Fin 8192) :
    blendR c h (ix1 j) = blend (fun j => c (ix1 j)) (fun j => ∑ r, h (ix2 r j)) j := by
  pointwise [blendR]
  rfl

theorem smoothR_apply (c : FVec Ideal S8192 .f32) (j : Fin 8192) : normR c (ix1 j) = smooth (fun j => c (ix1 j)) j := by
  pointwise [normR]
  rfl

theorem sumR_apply (w : FVec Ideal S8192x64 .f32) (h : FVec Ideal S1024x8192 .f32) (x y : FVec Ideal S1024x64 .f32) (j : Fin 8192) (k : Fin 64) :
    sumR w h x y (ix2 j k) = draw (w (ix2 j k)) (∑ r, h (ix2 r j) * x (ix2 r k)) + lit 0x3BA3D70A#32 * ∑ r, h (ix2 r j) * y (ix2 r k) := by
  pointwise [sumR]
  rfl

theorem newR_apply (w : FVec Ideal S8192x64 .f32) (c : FVec Ideal S8192 .f32) (j : Fin 8192) (k : Fin 64) :
    newR w c (ix2 j k) = Ideal.div (w (ix2 j k)) (c (ix1 j)) := by
  pointwise [newR]

/-- A scaled indicator times a number. -/
theorem hot_mul (i j : Fin 8192) (a x : EReal) : a * (if i = j then 1 else 0) * x = if j = i then a * x else 0 := by
  by_cases h : i = j
  · rw [if_pos h, if_pos h.symm, mul_one]
  · rw [if_neg h, if_neg fun e => h e.symm, mul_zero, zero_mul]

/-! A matrix of scaled indicators, summed and multiplied. -/

theorem weight_of {H : FVec Ideal S1024x8192 .f32} {D : Fin 8 → Fin 128 → Row}
    (hH : ∀ b t j, H (ix2 (row b t) j) = adj (D b t) * if near (D b t) = j then 1 else 0) (j : Fin 8192) : ∑ r, H (ix2 r j) = weight D j := by
  rw [sum_rows]
  refine Finset.sum_congr rfl fun b _ => Finset.sum_congr rfl fun t _ => ?_
  rw [hH, ← mul_one (_ * _), hot_mul, mul_one]

theorem pull_of {H : FVec Ideal S1024x8192 .f32} {D : Fin 8 → Fin 128 → Row}
    (hH : ∀ b t j, H (ix2 (row b t) j) = adj (D b t) * if near (D b t) = j then 1 else 0) (y : FVec Ideal S1024x64 .f32) (j : Fin 8192) (k : Fin 64) :
    ∑ r, H (ix2 r j) * y (ix2 r k) = pull D (fun b t => y (ix2 (row b t) k)) j := by
  rw [sum_rows]
  refine Finset.sum_congr rfl fun b _ => Finset.sum_congr rfl fun t _ => ?_
  rw [hH, hot_mul]

variable {X : Valuation τ sig (Elt Ideal)} (h : Solves ops X)
include h

theorem hot_0 (b : Fin 8) (t : Fin 128) (j : Fin 8192) : (X (Proc.devRef .tc main_v185) : FVec Ideal S1024x8192 .f32) (ix2 (row b t) j)
    = adj (far X 0 b t) * if near (far X 0 b t) = j then 1 else 0 := by
  rw [hotR_v185 h, hotR_apply _ _ _ _ _ (near_0 h b t), adjR_v147 h, adjR_apply _ _ _ (prob_0 h b t)]

theorem hot_1 (b : Fin 8) (t : Fin 128) (j : Fin 8192) : (X (Proc.devRef .tc main_v187) : FVec Ideal S1024x8192 .f32) (ix2 (row b t) j)
    = adj (far X 1 b t) * if near (far X 1 b t) = j then 1 else 0 := by
  rw [hotR_v187 h, hotR_apply _ _ _ _ _ (near_1 h b t), adjR_v152 h, adjR_apply _ _ _ (prob_1 h b t)]

theorem flat_0 (b : Fin 8) (t : Fin 128) (k : Fin 64) : (X (Proc.devRef .tc main_v0) : FVec Ideal S1024x64 .f32) (ix2 (row b t) k) = sound X b t k := by
  rw [flatR_v0 h, flatR_apply]
  rfl

theorem flat_1 (b : Fin 8) (t : Fin 128) (k : Fin 64) : (X (Proc.devRef .tc main_v1) : FVec Ideal S1024x64 .f32) (ix2 (row b t) k) = sight X b t k := by
  rw [flatR_v1 h, flatR_apply]
  rfl

/-- The reference's new codebook. -/
theorem fresh (j : Fin 8192) (k : Fin 64) : (X (Proc.devRef .tc main_v242) : FVec Ideal S8192x64 .f32) (ix2 j k)
    = Ideal.div (draw (draw ((X (Proc.devRef .tc main_arg4) : FVec Ideal S8192x64 .f32) (ix2 j k)) (pull (far X 1) (fun b t => sight X b t k) j)
          + lit 0x3BA3D70A#32 * pull (far X 1) (fun b t => sound X b t k) j) (pull (far X 0) (fun b t => sound X b t k) j)
        + lit 0x3BA3D70A#32 * pull (far X 0) (fun b t => sight X b t k) j)
      (counts (fun j => (X (Proc.devRef .tc main_arg3) : FVec Ideal S8192 .f32) (ix1 j)) (far X 0) (far X 1) j) := by
  rw [newR_v242 h, newR_apply, sumR_v239 h, sumR_apply, sumR_v213 h, sumR_apply, normR_v227 h, smoothR_apply]
  simp only [pull_of (hot_0 h), pull_of (hot_1 h), flat_0 h, flat_1 h]
  refine congrArg _ (congrArg (smooth · j) (funext fun j => ?_))
  rw [blendR_v219 h, blendR_apply, normR_v201 h]
  simp only [weight_of (hot_0 h), smoothR_apply]
  refine congrArg (fun c => blend (smooth c) _ j) (funext fun j => ?_)
  rw [blendR_v193 h, blendR_apply]
  simp only [weight_of (hot_1 h)]

end Cert.ReferenceIdeal.Hand

end
-- ==== Proof.Value.Third.lean ====
/- The third result, the new codebook, compared where the encodings and the codebook are finite. -/
module

public import proofs.«01_k».proof.On_codebook_where_finite
public import Idealize.ShloMosaic.Lib.ReduceAll
public import proofs.«01_k».proof.Proof.Value.Equal
public import proofs.«01_k».proof.Proof.Value.KernelFresh
public import proofs.«01_k».proof.Proof.Value.ReferenceFresh

@[expose] public section

set_option maxRecDepth 16384

noncomputable section

namespace Cert.Hand.Equal

open Cert.Hand Cert.Hand.Spec
open Idealize.ShloMosaic Idealize.ShloMosaic.TcCoe Idealize.SL.Sem

section

variable {m : (ℓ : Loc Cert.KernelIdeal.nD Cert.KernelIdeal.τ Cert.KernelIdeal.sig) → Buf (Elt Ideal) ℓ}
variable {m' : (ℓ : Loc Cert.ReferenceIdeal.nD Cert.ReferenceIdeal.τ Cert.ReferenceIdeal.sig) → Buf (Elt Ideal) ℓ}
variable {c : Dev Cert.KernelIdeal.nD}

/-- The kernel adds the encodings before it weighs them, the reference after: the same for real numbers. -/
theorem third (h : Same m m' c) (h0 : ∀ b t k, IsReal (Cert.KernelIdeal.Hand.sound m c b t k)) (h1 : ∀ b t k, IsReal (Cert.KernelIdeal.Hand.sight m c b t k))
    (h2 : ∀ j k, IsReal (Cert.KernelIdeal.Hand.book m c j k)) :
    (Cert.ReferenceIdeal.Hand.fin m' c (Proc.devRef .tc Cert.ReferenceIdeal.main_v242) : Vec Ideal ⟨2, ![8192, 64]⟩ .f32)
      = Cert.KernelIdeal.Hand.last m c (Proc.devRef .tc Cert.KernelIdeal.main_v9) := by
  have real (s : Fin 2) (b : Fin 8) (t : Fin 128) : IsReal (adj (Cert.KernelIdeal.Hand.far m c s b t)) := by
    obtain ⟨d, hd0, hd⟩ := sqdist_real (x := if s = 0 then Cert.KernelIdeal.Hand.sound m c b t else Cert.KernelIdeal.Hand.sight m c b t) h2
      (by split; exacts [h0 b t, h1 b t])
    exact adj_real hd0 hd
  funext x
  obtain ⟨j, k, rfl⟩ : ∃ j k, x = ix2 j k := ⟨x 0, x 1, (ix2_eta x).symm⟩
  refine (Cert.ReferenceIdeal.Hand.fresh (Cert.ReferenceIdeal.Hand.solves m' c) j k).trans ?_
  refine Eq.trans ?_ (Cert.KernelIdeal.Hand.fresh m c j k).symm
  have e3 := (Cert.ReferenceIdeal.Hand.fin_arg m' c Cert.ReferenceIdeal.main_arg3 (by decide)).trans h.arg3
  have e4 := (Cert.ReferenceIdeal.Hand.fin_arg m' c Cert.ReferenceIdeal.main_arg4 (by decide)).trans h.arg4
  rw [e3, e4, far_eq h, far_eq h]
  simp only [sound_eq h, sight_eq h]
  have swap : (fun b t => Cert.KernelIdeal.Hand.both m c b t k)
      = fun b t => Cert.KernelIdeal.Hand.sight m c b t k + Cert.KernelIdeal.Hand.sound m c b t k := by
    funext b t
    exact add_comm _ _
  have one := fun w => draw_pull (real 1) (fun b t => h1 b t k) (fun b t => h0 b t k) j w
  have two := fun w => draw_pull (real 0) (fun b t => h0 b t k) (fun b t => h1 b t k) j w
  rw [← one, ← two, ← swap]
  rfl

end

/-! What the mask says. -/

/-- Where an array's absolute values are all below infinity, its entries are real. -/
theorem real_of_below {x : EReal} (h : Ideal.cmp .olt (max x (-x)) (lit 0x7F800000#32) = 1#1) : IsReal x := by
  rw [lit_top] at h
  have h : max x (-x) < ⊤ := by
    by_contra hn
    simp [Ideal.cmp, hn] at h
  refine IsReal.of_ne ?_ ?_
  · rintro rfl; simp at h
  · rintro rfl; simp at h

theorem and_one {x y : BitVec 1} (h : IntOp.andi x y = 1#1) : x = 1#1 ∧ y = 1#1 := by
  revert x y; decide

instance : Subsingleton Cert.On_codebook_where_finite.S_.Idx := ⟨fun _ _ => funext fun a => a.elim0⟩

theorem masked [Cert.On_codebook_where_finite.Facts] (a v : FVec Ideal ⟨3, ![8, 128, 64]⟩ .f32) (e : FVec Ideal ⟨2, ![8192, 64]⟩ .f32)
    (n : FVec Ideal ⟨1, ![8192]⟩ .f32) (w : FVec Ideal ⟨2, ![8192, 64]⟩ .f32) (p : IVec ⟨0, ![]⟩ 32) (i : (⟨2, ![8192, 64]⟩ : Shape).Idx)
    (h : (Cert.On_codebook_where_finite.fn (F := Ideal) a v e n w p).2.2.1 i = 1#1) :
    (∀ x, IsReal (a x)) ∧ (∀ x, IsReal (v x)) ∧ ∀ x, IsReal (e x) := by
  obtain ⟨h, h3⟩ := and_one h
  obtain ⟨h1, h2⟩ := and_one h
  exact ⟨fun x => real_of_below (Host.reduce_andi_all _ _ _ _ _ h1 x), fun x => real_of_below (Host.reduce_andi_all _ _ _ _ _ h2 x),
    fun x => real_of_below (Host.reduce_andi_all _ _ _ _ _ h3 x)⟩

theorem result_3 [Cert.On_codebook_where_finite.Facts] {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD} (h : Same m m' c)
    (i : (⟨2, ![8192, 64]⟩ : Shape).Idx)
    (hi : (Cert.On_codebook_where_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 i = 1#1) :
    (Cert.ReferenceIdeal.Hand.fin m' c (Proc.devRef .tc Cert.ReferenceIdeal.main_v242) : Vec Ideal ⟨2, ![8192, 64]⟩ .f32) i
      = (Cert.KernelIdeal.Hand.last m c (Proc.devRef .tc Cert.KernelIdeal.main_v9) : Vec Ideal ⟨2, ![8192, 64]⟩ .f32) i := by
  obtain ⟨h0, h1, h2⟩ := masked _ _ _ _ _ _ i hi
  exact congrFun (third h (fun b t k => h0 (ix3 b t k)) (fun b t k => h1 (ix3 b t k)) fun j k => h2 (ix2 j k)) i

end Cert.Hand.Equal

end
-- ==== Proof.Value.Claim.lean ====
/- The value claim: from one set of arguments both programs end with the same results. -/
module

public import proofs.«01_k».proof.Defs
public import proofs.«01_k».proof.Proof.Gen.On_codebook_where_finite
public import proofs.«01_k».proof.Proof.Value.Third

@[expose] public section

set_option maxRecDepth 16384

noncomputable section

namespace Cert.Hand.Equal

open Cert.Hand
open Idealize.ShloMosaic Idealize.ShloMosaic.TcCoe Idealize.SL.Sem

/-- What the kernel leaves in every array that is neither a scratch buffer nor handed to the grid: its results among them. -/
theorem kernel_ends (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ fun r =>
      ∀ c : Dev Cert.KernelIdeal.nD, ∀ b : Ref Cert.KernelIdeal.sig .tc, b ∈ Idealize.ShloMosaic.Pipeline.restRefs Cert.KernelIdeal.sig Cert.KernelIdeal.spec0 →
        r.2.mem ((c.tc : Thread Cert.KernelIdeal.nD Cert.KernelIdeal.τ).loc b) = Cert.KernelIdeal.Hand.last m c (Proc.devRef .tc b) :=
  (θ_run _ _ _).mono (fun _ h c => (h c).1) (Cert.KernelIdeal.Hand.run_last m ρ)

end Cert.Hand.Equal

namespace Cert.Hand

open Idealize.ShloMosaic Idealize.ShloMosaic.TcCoe Idealize.SL.Sem
open Cert.Hand.Equal
open Idealize.ShloMosaic.Pipeline (mem_restRefs_of)

theorem algebraic [hOn : Cert.On_codebook_where_finite.Facts] : Cert.algebraic_KernelIdeal_ReferenceIdeal_on_codebook_where_finite := by
  intro m g m' g' _ hsame
  have same (c : Dev Cert.KernelIdeal.nD) : Same m m' c :=
    ⟨(hsame c).1, (hsame c).2.1, (hsame c).2.2.1, (hsame c).2.2.2.1, (hsame c).2.2.2.2.1⟩
  refine ⟨fun c => Cert.KernelIdeal.Hand.last m c (Proc.devRef .tc Cert.KernelIdeal.main_v6), fun c => Cert.KernelIdeal.Hand.last m c (Proc.devRef .tc Cert.KernelIdeal.main_v8),
    fun c => Cert.KernelIdeal.Hand.last m c (Proc.devRef .tc Cert.KernelIdeal.main_v9), fun c => Cert.KernelIdeal.Hand.last m c (Proc.devRef .tc Cert.KernelIdeal.main_v10),
    fun c => Cert.KernelIdeal.Hand.last m c (Proc.devRef .tc Cert.KernelIdeal.main_v11), fun c => Cert.KernelIdeal.Hand.last m c (Proc.devRef .tc Cert.KernelIdeal.main_v12),
    fun c => Cert.KernelIdeal.Hand.last m c (Proc.devRef .tc Cert.KernelIdeal.main_v13), ?_, ?_⟩
  · refine (θ_run _ _ _).mono (fun r h c => ?_) (θ_run_and (kernel_ends m g) (Cert.KernelIdeal.Hand.frame m g))
    have at_ := h.1 c
    exact ⟨fun i _ => congrFun (at_ Cert.KernelIdeal.main_v6 (mem_restRefs_of _ (by decide) (by decide))) i, fun i _ => congrFun (at_ Cert.KernelIdeal.main_v8 (mem_restRefs_of _ (by decide) (by decide))) i,
      fun i _ => congrFun (at_ Cert.KernelIdeal.main_v9 (mem_restRefs_of _ (by decide) (by decide))) i, fun i _ => congrFun (at_ Cert.KernelIdeal.main_v10 (mem_restRefs_of _ (by decide) (by decide))) i,
      fun i _ => congrFun (at_ Cert.KernelIdeal.main_v11 (mem_restRefs_of _ (by decide) (by decide))) i, fun i _ => congrFun (at_ Cert.KernelIdeal.main_v12 (mem_restRefs_of _ (by decide) (by decide))) i,
      fun i _ => congrFun (at_ Cert.KernelIdeal.main_v13 (mem_restRefs_of _ (by decide) (by decide))) i, h.2.1 c⟩
  · refine (θ_run _ _ _).mono (fun r h c => ?_) (θ_run_and (Cert.ReferenceIdeal.Hand.run m' g') (Cert.ReferenceIdeal.Hand.frame m' g'))
    have at_ := h.1 c
    exact ⟨fun i _ => congrFun ((at_ Cert.ReferenceIdeal.main_v162).trans (result_1 (same c))) i, fun i _ => congrFun ((at_ Cert.ReferenceIdeal.main_v172).trans (result_2 (same c))) i,
      fun i hi => (congrFun (at_ Cert.ReferenceIdeal.main_v242) i).trans (result_3 (same c) i hi), fun i _ => congrFun ((at_ Cert.ReferenceIdeal.main_v140).trans (result_4 (same c))) i,
      fun i _ => congrFun ((at_ Cert.ReferenceIdeal.main_v141).trans (result_5 (same c))) i, fun i _ => congrFun ((at_ Cert.ReferenceIdeal.main_v142).trans (result_6 (same c))) i,
      fun i _ => congrFun ((at_ Cert.ReferenceIdeal.main_v183).trans (result_7 (same c))) i, h.2.1 c⟩

end Cert.Hand

end
-- ==== Proof.lean ====
/- The claim, assembled: every program ends with its arguments unchanged; the idealization rewrites nothing, so the
   kernel and its idealization are one program and `preserves` asks nothing; and the kernel's idealization and the
   reference's compute the same values. -/
module

public import proofs.«01_k».proof.Proof.Gen.ReferenceIdeal
public import proofs.«01_k».proof.Proof.Gen.On_codebook_where_finite
public import proofs.«01_k».proof.Defs
public import proofs.«01_k».proof.Proof.KernelFrame
public import proofs.«01_k».proof.Proof.Value.Claim

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.On_codebook_where_finite.Gen.facts,
  fun m g _ => Cert.KernelIdeal.Hand.kernel_frame m g, fun m g _ => Cert.KernelIdeal.Hand.frame m g,
  fun m g _ => Cert.ReferenceIdeal.Hand.frame m g, trivial, Cert.Hand.algebraic⟩

end Cert.Proof

end
